-- ==== Defs.lean ====
def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite_qk [hPre_finite_qk : Cert.Pre_finite_qk.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite_qk.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2))) = (fun _ => 1#1)

def Pre_AttentionRefIdeal (m : (ℓ : Loc Cert.AttentionRefIdeal.nD Cert.AttentionRefIdeal.τ Cert.AttentionRefIdeal.sig) → Buf (Elt Ideal) ℓ) : Prop :=
  True

def Pre_AttentionRefIdeal_finite_qk [hPre_finite_qk : Cert.Pre_finite_qk.Facts] (m : (ℓ : Loc Cert.AttentionRefIdeal.nD Cert.AttentionRefIdeal.τ Cert.AttentionRefIdeal.sig) → Buf (Elt Ideal) ℓ) : Prop :=
  ∀ c : Dev Cert.AttentionRefIdeal.nD,
    (Cert.Pre_finite_qk.fn (F := Ideal) (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1)) (m ((c.tc : Thread Cert.AttentionRefIdeal.nD Cert.AttentionRefIdeal.τ).loc Cert.AttentionRefIdeal.main_arg2))) = (fun _ => 1#1)

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsRefIdeal (m : (ℓ : Loc Cert.ExpertsRefIdeal.nD Cert.ExpertsRefIdeal.τ Cert.ExpertsRefIdeal.sig) → Buf (Elt Ideal) ℓ) : Prop :=
  True

def Pre_Projections (m : (ℓ : Loc Cert.Projections.nD Cert.Projections.τ Cert.Projections.sig) → Buf (Elt Bits) ℓ) : Prop :=
  True

def Pre_ProjectionsIdeal (m : (ℓ : Loc Cert.ProjectionsIdeal.nD Cert.ProjectionsIdeal.τ Cert.ProjectionsIdeal.sig) → Buf (Elt Ideal) ℓ) : Prop :=
  True

def Pre_ProjectionsIdeal_rotation_tables [hPre_rotation_tables : Cert.Pre_rotation_tables.Facts] (m : (ℓ : Loc Cert.ProjectionsIdeal.nD Cert.ProjectionsIdeal.τ Cert.ProjectionsIdeal.sig) → Buf (Elt Ideal) ℓ) : Prop :=
  ∀ c : Dev Cert.ProjectionsIdeal.nD,
    (Cert.Pre_rotation_tables.fn (F := Ideal) (m ((c.tc : Thread Cert.ProjectionsIdeal.nD Cert.ProjectionsIdeal.τ).loc Cert.ProjectionsIdeal.main_arg0)) (m ((c.tc : Thread Cert.ProjectionsIdeal.nD Cert.ProjectionsIdeal.τ).loc Cert.ProjectionsIdeal.main_arg1)) (m ((c.tc : Thread Cert.ProjectionsIdeal.nD Cert.ProjectionsIdeal.τ).loc Cert.ProjectionsIdeal.main_arg2)) (m ((c.tc : Thread Cert.ProjectionsIdeal.nD Cert.ProjectionsIdeal.τ).loc Cert.ProjectionsIdeal.main_arg3)) (m ((c.tc : Thread Cert.ProjectionsIdeal.nD Cert.ProjectionsIdeal.τ).loc Cert.ProjectionsIdeal.main_arg4)) (m ((c.tc : Thread Cert.ProjectionsIdeal.nD Cert.ProjectionsIdeal.τ).loc Cert.ProjectionsIdeal.main_arg5)) (m ((c.tc : Thread Cert.ProjectionsIdeal.nD Cert.ProjectionsIdeal.τ).loc Cert.ProjectionsIdeal.main_arg6)) (m ((c.tc : Thread Cert.ProjectionsIdeal.nD Cert.ProjectionsIdeal.τ).loc Cert.ProjectionsIdeal.main_arg7)) (m ((c.tc : Thread Cert.ProjectionsIdeal.nD Cert.ProjectionsIdeal.τ).loc Cert.ProjectionsIdeal.main_arg8))) = (fun _ => 1#1)

def Pre_ProjectionsRefIdeal (m : (ℓ : Loc Cert.ProjectionsRefIdeal.nD Cert.ProjectionsRefIdeal.τ Cert.ProjectionsRefIdeal.sig) → Buf (Elt Ideal) ℓ) : Prop :=
  True

def Pre_ProjectionsRefIdeal_rotation_tables [hPre_rotation_tables : Cert.Pre_rotation_tables.Facts] (m : (ℓ : Loc Cert.ProjectionsRefIdeal.nD Cert.ProjectionsRefIdeal.τ Cert.ProjectionsRefIdeal.sig) → Buf (Elt Ideal) ℓ) : Prop :=
  ∀ c : Dev Cert.ProjectionsRefIdeal.nD,
    (Cert.Pre_rotation_tables.fn (F := Ideal) (m ((c.tc : Thread Cert.ProjectionsRefIdeal.nD Cert.ProjectionsRefIdeal.τ).loc Cert.ProjectionsRefIdeal.main_arg0)) (m ((c.tc : Thread Cert.ProjectionsRefIdeal.nD Cert.ProjectionsRefIdeal.τ).loc Cert.ProjectionsRefIdeal.main_arg1)) (m ((c.tc : Thread Cert.ProjectionsRefIdeal.nD Cert.ProjectionsRefIdeal.τ).loc Cert.ProjectionsRefIdeal.main_arg2)) (m ((c.tc : Thread Cert.ProjectionsRefIdeal.nD Cert.ProjectionsRefIdeal.τ).loc Cert.ProjectionsRefIdeal.main_arg3)) (m ((c.tc : Thread Cert.ProjectionsRefIdeal.nD Cert.ProjectionsRefIdeal.τ).loc Cert.ProjectionsRefIdeal.main_arg4)) (m ((c.tc : Thread Cert.ProjectionsRefIdeal.nD Cert.ProjectionsRefIdeal.τ).loc Cert.ProjectionsRefIdeal.main_arg5)) (m ((c.tc : Thread Cert.ProjectionsRefIdeal.nD Cert.ProjectionsRefIdeal.τ).loc Cert.ProjectionsRefIdeal.main_arg6)) (m ((c.tc : Thread Cert.ProjectionsRefIdeal.nD Cert.ProjectionsRefIdeal.τ).loc Cert.ProjectionsRefIdeal.main_arg7)) (m ((c.tc : Thread Cert.ProjectionsRefIdeal.nD Cert.ProjectionsRefIdeal.τ).loc Cert.ProjectionsRefIdeal.main_arg8))) = (fun _ => 1#1)

def Pre_Output (m : (ℓ : Loc Cert.Output.nD Cert.Output.τ Cert.Output.sig) → Buf (Elt Bits) ℓ) : Prop :=
  True

def Pre_OutputIdeal (m : (ℓ : Loc Cert.OutputIdeal.nD Cert.OutputIdeal.τ Cert.OutputIdeal.sig) → Buf (Elt Ideal) ℓ) : Prop :=
  True

def Pre_OutputRefIdeal (m : (ℓ : Loc Cert.OutputRefIdeal.nD Cert.OutputRefIdeal.τ Cert.OutputRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionIdeal_pre_finite_qk [hAttentionIdeal : Cert.AttentionIdeal.Facts] [hPre_finite_qk : Cert.Pre_finite_qk.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite_qk m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionRefIdeal [hAttentionRefIdeal : Cert.AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2))
      ∧ r.2.sem = fun _ => 0)

def quiescent_AttentionRefIdeal_pre_finite_qk [hAttentionRefIdeal : Cert.AttentionRefIdeal.Facts] [hPre_finite_qk : Cert.Pre_finite_qk.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal_finite_qk m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3))
      ∧ r.2.sem = fun _ => 0)

def quiescent_Projections [hProjections : Cert.Projections.Facts] : Prop :=
  ∀ (m : (ℓ : Loc Cert.Projections.nD Cert.Projections.τ Cert.Projections.sig) → Buf (Elt Bits) ℓ) (g : Dev Cert.Projections.nD → PrngReg), Pre_Projections m →
    θ_run (Cert.Projections.defs (F := Bits)) (onTc (τ := Cert.Projections.τ) (Cert.Projections.main (F := Bits))) ⟨m, fun _ => 0, g⟩ (fun r => (∀ c : Dev Cert.Projections.nD,
      r.2.mem ((c.tc : Thread Cert.Projections.nD Cert.Projections.τ).loc Cert.Projections.main_arg0) = m ((c.tc : Thread Cert.Projections.nD Cert.Projections.τ).loc Cert.Projections.main_arg0)
      ∧ r.2.mem ((c.tc : Thread Cert.Projections.nD Cert.Projections.τ).loc Cert.Projections.main_arg1) = m ((c.tc : Thread Cert.Projections.nD Cert.Projections.τ).loc Cert.Projections.main_arg1)
      ∧ r.2.mem ((c.tc : Thread Cert.Projections.nD Cert.Projections.τ).loc Cert.Projections.main_arg2) = m ((c.tc : Thread Cert.Projections.nD Cert.Projections.τ).loc Cert.Projections.main_arg2)
      ∧ r.2.mem ((c.tc : Thread Cert.Projections.nD Cert.Projections.τ).loc Cert.Projections.main_arg3) = m ((c.tc : Thread Cert.Projections.nD Cert.Projections.τ).loc Cert.Projections.main_arg3)
      ∧ r.2.mem ((c.tc : Thread Cert.Projections.nD Cert.Projections.τ).loc Cert.Projections.main_arg4) = m ((c.tc : Thread Cert.Projections.nD Cert.Projections.τ).loc Cert.Projections.main_arg4)
      ∧ r.2.mem ((c.tc : Thread Cert.Projections.nD Cert.Projections.τ).loc Cert.Projections.main_arg5) = m ((c.tc : Thread Cert.Projections.nD Cert.Projections.τ).loc Cert.Projections.main_arg5)
      ∧ r.2.mem ((c.tc : Thread Cert.Projections.nD Cert.Projections.τ).loc Cert.Projections.main_arg6) = m ((c.tc : Thread Cert.Projections.nD Cert.Projections.τ).loc Cert.Projections.main_arg6)
      ∧ r.2.mem ((c.tc : Thread Cert.Projections.nD Cert.Projections.τ).loc Cert.Projections.main_arg7) = m ((c.tc : Thread Cert.Projections.nD Cert.Projections.τ).loc Cert.Projections.main_arg7)
      ∧ r.2.mem ((c.tc : Thread Cert.Projections.nD Cert.Projections.τ).loc Cert.Projections.main_arg8) = m ((c.tc : Thread Cert.Projections.nD Cert.Projections.τ).loc Cert.Projections.main_arg8))
      ∧ r.2.sem = fun _ => 0)

def quiescent_ProjectionsIdeal [hProjectionsIdeal : Cert.ProjectionsIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg), Pre_ProjectionsIdeal m →
    θ_run (Cert.ProjectionsIdeal.defs (F := Ideal)) (onTc (τ := Cert.ProjectionsIdeal.τ) (Cert.ProjectionsIdeal.main (F := Ideal))) ⟨m, fun _ => 0, g⟩ (fun r => (∀ c : Dev Cert.ProjectionsIdeal.nD,
      r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
      ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
      ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
      ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
      ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
      ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5)
      ∧ r.2.mem ((c.tc : Thread Cert.ProjectionsIdeal.nD Cert.ProjectionsIdeal.τ).loc Cert.ProjectionsIdeal.main_arg6) = m ((c.tc : Thread Cert.ProjectionsIdeal.nD Cert.ProjectionsIdeal.τ).loc Cert.ProjectionsIdeal.main_arg6)
      ∧ r.2.mem ((c.tc : Thread Cert.ProjectionsIdeal.nD Cert.ProjectionsIdeal.τ).loc Cert.ProjectionsIdeal.main_arg7) = m ((c.tc : Thread Cert.ProjectionsIdeal.nD Cert.ProjectionsIdeal.τ).loc Cert.ProjectionsIdeal.main_arg7)
      ∧ r.2.mem ((c.tc : Thread Cert.ProjectionsIdeal.nD Cert.ProjectionsIdeal.τ).loc Cert.ProjectionsIdeal.main_arg8) = m ((c.tc : Thread Cert.ProjectionsIdeal.nD Cert.ProjectionsIdeal.τ).loc Cert.ProjectionsIdeal.main_arg8))
      ∧ r.2.sem = fun _ => 0)

def quiescent_ProjectionsIdeal_pre_rotation_tables [hProjectionsIdeal : Cert.ProjectionsIdeal.Facts] [hPre_rotation_tables : Cert.Pre_rotation_tables.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg), Pre_ProjectionsIdeal_rotation_tables m →
    θ_run (Cert.ProjectionsIdeal.defs (F := Ideal)) (onTc (τ := Cert.ProjectionsIdeal.τ) (Cert.ProjectionsIdeal.main (F := Ideal))) ⟨m, fun _ => 0, g⟩ (fun r => (∀ c : Dev Cert.ProjectionsIdeal.nD,
      r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
      ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
      ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
      ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
      ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
      ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5)
      ∧ r.2.mem ((c.tc : Thread Cert.ProjectionsIdeal.nD Cert.ProjectionsIdeal.τ).loc Cert.ProjectionsIdeal.main_arg6) = m ((c.tc : Thread Cert.ProjectionsIdeal.nD Cert.ProjectionsIdeal.τ).loc Cert.ProjectionsIdeal.main_arg6)
      ∧ r.2.mem ((c.tc : Thread Cert.ProjectionsIdeal.nD Cert.ProjectionsIdeal.τ).loc Cert.ProjectionsIdeal.main_arg7) = m ((c.tc : Thread Cert.ProjectionsIdeal.nD Cert.ProjectionsIdeal.τ).loc Cert.ProjectionsIdeal.main_arg7)
      ∧ r.2.mem ((c.tc : Thread Cert.ProjectionsIdeal.nD Cert.ProjectionsIdeal.τ).loc Cert.ProjectionsIdeal.main_arg8) = m ((c.tc : Thread Cert.ProjectionsIdeal.nD Cert.ProjectionsIdeal.τ).loc Cert.ProjectionsIdeal.main_arg8))
      ∧ r.2.sem = fun _ => 0)

def quiescent_ProjectionsRefIdeal [hProjectionsRefIdeal : Cert.ProjectionsRefIdeal.Facts] : Prop :=
  ∀ (m : (ℓ : Loc Cert.ProjectionsRefIdeal.nD Cert.ProjectionsRefIdeal.τ Cert.ProjectionsRefIdeal.sig) → Buf (Elt Ideal) ℓ) (g : Dev Cert.ProjectionsRefIdeal.nD → PrngReg), Pre_ProjectionsRefIdeal m →
    θ_run (Cert.ProjectionsRefIdeal.defs (F := Ideal)) (onTc (τ := Cert.ProjectionsRefIdeal.τ) (Cert.ProjectionsRefIdeal.main (F := Ideal))) ⟨m, fun _ => 0, g⟩ (fun r => (∀ c : Dev Cert.ProjectionsRefIdeal.nD,
      r.2.mem ((c.tc : Thread Cert.ProjectionsRefIdeal.nD Cert.ProjectionsRefIdeal.τ).loc Cert.ProjectionsRefIdeal.main_arg0) = m ((c.tc : Thread Cert.ProjectionsRefIdeal.nD Cert.ProjectionsRefIdeal.τ).loc Cert.ProjectionsRefIdeal.main_arg0)
      ∧ r.2.mem ((c.tc : Thread Cert.ProjectionsRefIdeal.nD Cert.ProjectionsRefIdeal.τ).loc Cert.ProjectionsRefIdeal.main_arg1) = m ((c.tc : Thread Cert.ProjectionsRefIdeal.nD Cert.ProjectionsRefIdeal.τ).loc Cert.ProjectionsRefIdeal.main_arg1)
      ∧ r.2.mem ((c.tc : Thread Cert.ProjectionsRefIdeal.nD Cert.ProjectionsRefIdeal.τ).loc Cert.ProjectionsRefIdeal.main_arg2) = m ((c.tc : Thread Cert.ProjectionsRefIdeal.nD Cert.ProjectionsRefIdeal.τ).loc Cert.ProjectionsRefIdeal.main_arg2)
      ∧ r.2.mem ((c.tc : Thread Cert.ProjectionsRefIdeal.nD Cert.ProjectionsRefIdeal.τ).loc Cert.ProjectionsRefIdeal.main_arg3) = m ((c.tc : Thread Cert.ProjectionsRefIdeal.nD Cert.ProjectionsRefIdeal.τ).loc Cert.ProjectionsRefIdeal.main_arg3)
      ∧ r.2.mem ((c.tc : Thread Cert.ProjectionsRefIdeal.nD Cert.ProjectionsRefIdeal.τ).loc Cert.ProjectionsRefIdeal.main_arg4) = m ((c.tc : Thread Cert.ProjectionsRefIdeal.nD Cert.ProjectionsRefIdeal.τ).loc Cert.ProjectionsRefIdeal.main_arg4)
      ∧ r.2.mem ((c.tc : Thread Cert.ProjectionsRefIdeal.nD Cert.ProjectionsRefIdeal.τ).loc Cert.ProjectionsRefIdeal.main_arg5) = m ((c.tc : Thread Cert.ProjectionsRefIdeal.nD Cert.ProjectionsRefIdeal.τ).loc Cert.ProjectionsRefIdeal.main_arg5)
      ∧ r.2.mem ((c.tc : Thread Cert.ProjectionsRefIdeal.nD Cert.ProjectionsRefIdeal.τ).loc Cert.ProjectionsRefIdeal.main_arg6) = m ((c.tc : Thread Cert.ProjectionsRefIdeal.nD Cert.ProjectionsRefIdeal.τ).loc Cert.ProjectionsRefIdeal.main_arg6)
      ∧ r.2.mem ((c.tc : Thread Cert.ProjectionsRefIdeal.nD Cert.ProjectionsRefIdeal.τ).loc Cert.ProjectionsRefIdeal.main_arg7) = m ((c.tc : Thread Cert.ProjectionsRefIdeal.nD Cert.ProjectionsRefIdeal.τ).loc Cert.ProjectionsRefIdeal.main_arg7)
      ∧ r.2.mem ((c.tc : Thread Cert.ProjectionsRefIdeal.nD Cert.ProjectionsRefIdeal.τ).loc Cert.ProjectionsRefIdeal.main_arg8) = m ((c.tc : Thread Cert.ProjectionsRefIdeal.nD Cert.ProjectionsRefIdeal.τ).loc Cert.ProjectionsRefIdeal.main_arg8))
      ∧ r.2.sem = fun _ => 0)

def quiescent_ProjectionsRefIdeal_pre_rotation_tables [hProjectionsRefIdeal : Cert.ProjectionsRefIdeal.Facts] [hPre_rotation_tables : Cert.Pre_rotation_tables.Facts] : Prop :=
  ∀ (m : (ℓ : Loc Cert.ProjectionsRefIdeal.nD Cert.ProjectionsRefIdeal.τ Cert.ProjectionsRefIdeal.sig) → Buf (Elt Ideal) ℓ) (g : Dev Cert.ProjectionsRefIdeal.nD → PrngReg), Pre_ProjectionsRefIdeal_rotation_tables m →
    θ_run (Cert.ProjectionsRefIdeal.defs (F := Ideal)) (onTc (τ := Cert.ProjectionsRefIdeal.τ) (Cert.ProjectionsRefIdeal.main (F := Ideal))) ⟨m, fun _ => 0, g⟩ (fun r => (∀ c : Dev Cert.ProjectionsRefIdeal.nD,
      r.2.mem ((c.tc : Thread Cert.ProjectionsRefIdeal.nD Cert.ProjectionsRefIdeal.τ).loc Cert.ProjectionsRefIdeal.main_arg0) = m ((c.tc : Thread Cert.ProjectionsRefIdeal.nD Cert.ProjectionsRefIdeal.τ).loc Cert.ProjectionsRefIdeal.main_arg0)
      ∧ r.2.mem ((c.tc : Thread Cert.ProjectionsRefIdeal.nD Cert.ProjectionsRefIdeal.τ).loc Cert.ProjectionsRefIdeal.main_arg1) = m ((c.tc : Thread Cert.ProjectionsRefIdeal.nD Cert.ProjectionsRefIdeal.τ).loc Cert.ProjectionsRefIdeal.main_arg1)
      ∧ r.2.mem ((c.tc : Thread Cert.ProjectionsRefIdeal.nD Cert.ProjectionsRefIdeal.τ).loc Cert.ProjectionsRefIdeal.main_arg2) = m ((c.tc : Thread Cert.ProjectionsRefIdeal.nD Cert.ProjectionsRefIdeal.τ).loc Cert.ProjectionsRefIdeal.main_arg2)
      ∧ r.2.mem ((c.tc : Thread Cert.ProjectionsRefIdeal.nD Cert.ProjectionsRefIdeal.τ).loc Cert.ProjectionsRefIdeal.main_arg3) = m ((c.tc : Thread Cert.ProjectionsRefIdeal.nD Cert.ProjectionsRefIdeal.τ).loc Cert.ProjectionsRefIdeal.main_arg3)
      ∧ r.2.mem ((c.tc : Thread Cert.ProjectionsRefIdeal.nD Cert.ProjectionsRefIdeal.τ).loc Cert.ProjectionsRefIdeal.main_arg4) = m ((c.tc : Thread Cert.ProjectionsRefIdeal.nD Cert.ProjectionsRefIdeal.τ).loc Cert.ProjectionsRefIdeal.main_arg4)
      ∧ r.2.mem ((c.tc : Thread Cert.ProjectionsRefIdeal.nD Cert.ProjectionsRefIdeal.τ).loc Cert.ProjectionsRefIdeal.main_arg5) = m ((c.tc : Thread Cert.ProjectionsRefIdeal.nD Cert.ProjectionsRefIdeal.τ).loc Cert.ProjectionsRefIdeal.main_arg5)
      ∧ r.2.mem ((c.tc : Thread Cert.ProjectionsRefIdeal.nD Cert.ProjectionsRefIdeal.τ).loc Cert.ProjectionsRefIdeal.main_arg6) = m ((c.tc : Thread Cert.ProjectionsRefIdeal.nD Cert.ProjectionsRefIdeal.τ).loc Cert.ProjectionsRefIdeal.main_arg6)
      ∧ r.2.mem ((c.tc : Thread Cert.ProjectionsRefIdeal.nD Cert.ProjectionsRefIdeal.τ).loc Cert.ProjectionsRefIdeal.main_arg7) = m ((c.tc : Thread Cert.ProjectionsRefIdeal.nD Cert.ProjectionsRefIdeal.τ).loc Cert.ProjectionsRefIdeal.main_arg7)
      ∧ r.2.mem ((c.tc : Thread Cert.ProjectionsRefIdeal.nD Cert.ProjectionsRefIdeal.τ).loc Cert.ProjectionsRefIdeal.main_arg8) = m ((c.tc : Thread Cert.ProjectionsRefIdeal.nD Cert.ProjectionsRefIdeal.τ).loc Cert.ProjectionsRefIdeal.main_arg8))
      ∧ r.2.sem = fun _ => 0)

def quiescent_Output [hOutput : Cert.Output.Facts] : Prop :=
  ∀ (m : (ℓ : Loc Cert.Output.nD Cert.Output.τ Cert.Output.sig) → Buf (Elt Bits) ℓ) (g : Dev Cert.Output.nD → PrngReg), Pre_Output m →
    θ_run (Cert.Output.defs (F := Bits)) (onTc (τ := Cert.Output.τ) (Cert.Output.main (F := Bits))) ⟨m, fun _ => 0, g⟩ (fun r => (∀ c : Dev Cert.Output.nD,
      r.2.mem ((c.tc : Thread Cert.Output.nD Cert.Output.τ).loc Cert.Output.main_arg0) = m ((c.tc : Thread Cert.Output.nD Cert.Output.τ).loc Cert.Output.main_arg0)
      ∧ r.2.mem ((c.tc : Thread Cert.Output.nD Cert.Output.τ).loc Cert.Output.main_arg1) = m ((c.tc : Thread Cert.Output.nD Cert.Output.τ).loc Cert.Output.main_arg1)
      ∧ r.2.mem ((c.tc : Thread Cert.Output.nD Cert.Output.τ).loc Cert.Output.main_arg2) = m ((c.tc : Thread Cert.Output.nD Cert.Output.τ).loc Cert.Output.main_arg2)
      ∧ r.2.mem ((c.tc : Thread Cert.Output.nD Cert.Output.τ).loc Cert.Output.main_arg3) = m ((c.tc : Thread Cert.Output.nD Cert.Output.τ).loc Cert.Output.main_arg3)
      ∧ r.2.mem ((c.tc : Thread Cert.Output.nD Cert.Output.τ).loc Cert.Output.main_arg4) = m ((c.tc : Thread Cert.Output.nD Cert.Output.τ).loc Cert.Output.main_arg4)
      ∧ r.2.mem ((c.tc : Thread Cert.Output.nD Cert.Output.τ).loc Cert.Output.main_arg5) = m ((c.tc : Thread Cert.Output.nD Cert.Output.τ).loc Cert.Output.main_arg5)
      ∧ r.2.mem ((c.tc : Thread Cert.Output.nD Cert.Output.τ).loc Cert.Output.main_arg6) = m ((c.tc : Thread Cert.Output.nD Cert.Output.τ).loc Cert.Output.main_arg6)
      ∧ r.2.mem ((c.tc : Thread Cert.Output.nD Cert.Output.τ).loc Cert.Output.main_arg7) = m ((c.tc : Thread Cert.Output.nD Cert.Output.τ).loc Cert.Output.main_arg7)
      ∧ r.2.mem ((c.tc : Thread Cert.Output.nD Cert.Output.τ).loc Cert.Output.main_arg8) = m ((c.tc : Thread Cert.Output.nD Cert.Output.τ).loc Cert.Output.main_arg8)
      ∧ r.2.mem ((c.tc : Thread Cert.Output.nD Cert.Output.τ).loc Cert.Output.main_arg9) = m ((c.tc : Thread Cert.Output.nD Cert.Output.τ).loc Cert.Output.main_arg9)
      ∧ r.2.mem ((c.tc : Thread Cert.Output.nD Cert.Output.τ).loc Cert.Output.main_arg10) = m ((c.tc : Thread Cert.Output.nD Cert.Output.τ).loc Cert.Output.main_arg10)
      ∧ r.2.mem ((c.tc : Thread Cert.Output.nD Cert.Output.τ).loc Cert.Output.main_arg11) = m ((c.tc : Thread Cert.Output.nD Cert.Output.τ).loc Cert.Output.main_arg11)
      ∧ r.2.mem ((c.tc : Thread Cert.Output.nD Cert.Output.τ).loc Cert.Output.main_arg12) = m ((c.tc : Thread Cert.Output.nD Cert.Output.τ).loc Cert.Output.main_arg12)
      ∧ r.2.mem ((c.tc : Thread Cert.Output.nD Cert.Output.τ).loc Cert.Output.main_arg13) = m ((c.tc : Thread Cert.Output.nD Cert.Output.τ).loc Cert.Output.main_arg13))
      ∧ r.2.sem = fun _ => 0)

def quiescent_OutputIdeal [hOutputIdeal : Cert.OutputIdeal.Facts] : Prop :=
  ∀ (m : (ℓ : Loc Cert.OutputIdeal.nD Cert.OutputIdeal.τ Cert.OutputIdeal.sig) → Buf (Elt Ideal) ℓ) (g : Dev Cert.OutputIdeal.nD → PrngReg), Pre_OutputIdeal m →
    θ_run (Cert.OutputIdeal.defs (F := Ideal)) (onTc (τ := Cert.OutputIdeal.τ) (Cert.OutputIdeal.main (F := Ideal))) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
      ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
      ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
      ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
      ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
      ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6)
      ∧ r.2.mem ((c.tc : Thread Cert.OutputIdeal.nD Cert.OutputIdeal.τ).loc Cert.OutputIdeal.main_arg7) = m ((c.tc : Thread Cert.OutputIdeal.nD Cert.OutputIdeal.τ).loc Cert.OutputIdeal.main_arg7)
      ∧ r.2.mem ((c.tc : Thread Cert.OutputIdeal.nD Cert.OutputIdeal.τ).loc Cert.OutputIdeal.main_arg8) = m ((c.tc : Thread Cert.OutputIdeal.nD Cert.OutputIdeal.τ).loc Cert.OutputIdeal.main_arg8)
      ∧ r.2.mem ((c.tc : Thread Cert.OutputIdeal.nD Cert.OutputIdeal.τ).loc Cert.OutputIdeal.main_arg9) = m ((c.tc : Thread Cert.OutputIdeal.nD Cert.OutputIdeal.τ).loc Cert.OutputIdeal.main_arg9)
      ∧ r.2.mem ((c.tc : Thread Cert.OutputIdeal.nD Cert.OutputIdeal.τ).loc Cert.OutputIdeal.main_arg10) = m ((c.tc : Thread Cert.OutputIdeal.nD Cert.OutputIdeal.τ).loc Cert.OutputIdeal.main_arg10)
      ∧ r.2.mem ((c.tc : Thread Cert.OutputIdeal.nD Cert.OutputIdeal.τ).loc Cert.OutputIdeal.main_arg11) = m ((c.tc : Thread Cert.OutputIdeal.nD Cert.OutputIdeal.τ).loc Cert.OutputIdeal.main_arg11)
      ∧ r.2.mem ((c.tc : Thread Cert.OutputIdeal.nD Cert.OutputIdeal.τ).loc Cert.OutputIdeal.main_arg12) = m ((c.tc : Thread Cert.OutputIdeal.nD Cert.OutputIdeal.τ).loc Cert.OutputIdeal.main_arg12)
      ∧ r.2.mem ((c.tc : Thread Cert.OutputIdeal.nD Cert.OutputIdeal.τ).loc Cert.OutputIdeal.main_arg13) = m ((c.tc : Thread Cert.OutputIdeal.nD Cert.OutputIdeal.τ).loc Cert.OutputIdeal.main_arg13))
      ∧ r.2.sem = fun _ => 0)

def quiescent_OutputRefIdeal [hOutputRefIdeal : Cert.OutputRefIdeal.Facts] : Prop :=
  ∀ (m : (ℓ : Loc Cert.OutputRefIdeal.nD Cert.OutputRefIdeal.τ Cert.OutputRefIdeal.sig) → Buf (Elt Ideal) ℓ) (g : Dev Cert.OutputRefIdeal.nD → PrngReg), Pre_OutputRefIdeal m →
    θ_run (Cert.OutputRefIdeal.defs (F := Ideal)) (onTc (τ := Cert.OutputRefIdeal.τ) (Cert.OutputRefIdeal.main (F := Ideal))) ⟨m, fun _ => 0, g⟩ (fun r => (∀ c : Dev Cert.OutputRefIdeal.nD,
      r.2.mem ((c.tc : Thread Cert.OutputRefIdeal.nD Cert.OutputRefIdeal.τ).loc Cert.OutputRefIdeal.main_arg0) = m ((c.tc : Thread Cert.OutputRefIdeal.nD Cert.OutputRefIdeal.τ).loc Cert.OutputRefIdeal.main_arg0)
      ∧ r.2.mem ((c.tc : Thread Cert.OutputRefIdeal.nD Cert.OutputRefIdeal.τ).loc Cert.OutputRefIdeal.main_arg1) = m ((c.tc : Thread Cert.OutputRefIdeal.nD Cert.OutputRefIdeal.τ).loc Cert.OutputRefIdeal.main_arg1)
      ∧ r.2.mem ((c.tc : Thread Cert.OutputRefIdeal.nD Cert.OutputRefIdeal.τ).loc Cert.OutputRefIdeal.main_arg2) = m ((c.tc : Thread Cert.OutputRefIdeal.nD Cert.OutputRefIdeal.τ).loc Cert.OutputRefIdeal.main_arg2)
      ∧ r.2.mem ((c.tc : Thread Cert.OutputRefIdeal.nD Cert.OutputRefIdeal.τ).loc Cert.OutputRefIdeal.main_arg3) = m ((c.tc : Thread Cert.OutputRefIdeal.nD Cert.OutputRefIdeal.τ).loc Cert.OutputRefIdeal.main_arg3)
      ∧ r.2.mem ((c.tc : Thread Cert.OutputRefIdeal.nD Cert.OutputRefIdeal.τ).loc Cert.OutputRefIdeal.main_arg4) = m ((c.tc : Thread Cert.OutputRefIdeal.nD Cert.OutputRefIdeal.τ).loc Cert.OutputRefIdeal.main_arg4)
      ∧ r.2.mem ((c.tc : Thread Cert.OutputRefIdeal.nD Cert.OutputRefIdeal.τ).loc Cert.OutputRefIdeal.main_arg5) = m ((c.tc : Thread Cert.OutputRefIdeal.nD Cert.OutputRefIdeal.τ).loc Cert.OutputRefIdeal.main_arg5)
      ∧ r.2.mem ((c.tc : Thread Cert.OutputRefIdeal.nD Cert.OutputRefIdeal.τ).loc Cert.OutputRefIdeal.main_arg6) = m ((c.tc : Thread Cert.OutputRefIdeal.nD Cert.OutputRefIdeal.τ).loc Cert.OutputRefIdeal.main_arg6)
      ∧ r.2.mem ((c.tc : Thread Cert.OutputRefIdeal.nD Cert.OutputRefIdeal.τ).loc Cert.OutputRefIdeal.main_arg7) = m ((c.tc : Thread Cert.OutputRefIdeal.nD Cert.OutputRefIdeal.τ).loc Cert.OutputRefIdeal.main_arg7)
      ∧ r.2.mem ((c.tc : Thread Cert.OutputRefIdeal.nD Cert.OutputRefIdeal.τ).loc Cert.OutputRefIdeal.main_arg8) = m ((c.tc : Thread Cert.OutputRefIdeal.nD Cert.OutputRefIdeal.τ).loc Cert.OutputRefIdeal.main_arg8)
      ∧ r.2.mem ((c.tc : Thread Cert.OutputRefIdeal.nD Cert.OutputRefIdeal.τ).loc Cert.OutputRefIdeal.main_arg9) = m ((c.tc : Thread Cert.OutputRefIdeal.nD Cert.OutputRefIdeal.τ).loc Cert.OutputRefIdeal.main_arg9)
      ∧ r.2.mem ((c.tc : Thread Cert.OutputRefIdeal.nD Cert.OutputRefIdeal.τ).loc Cert.OutputRefIdeal.main_arg10) = m ((c.tc : Thread Cert.OutputRefIdeal.nD Cert.OutputRefIdeal.τ).loc Cert.OutputRefIdeal.main_arg10)
      ∧ r.2.mem ((c.tc : Thread Cert.OutputRefIdeal.nD Cert.OutputRefIdeal.τ).loc Cert.OutputRefIdeal.main_arg11) = m ((c.tc : Thread Cert.OutputRefIdeal.nD Cert.OutputRefIdeal.τ).loc Cert.OutputRefIdeal.main_arg11)
      ∧ r.2.mem ((c.tc : Thread Cert.OutputRefIdeal.nD Cert.OutputRefIdeal.τ).loc Cert.OutputRefIdeal.main_arg12) = m ((c.tc : Thread Cert.OutputRefIdeal.nD Cert.OutputRefIdeal.τ).loc Cert.OutputRefIdeal.main_arg12)
      ∧ r.2.mem ((c.tc : Thread Cert.OutputRefIdeal.nD Cert.OutputRefIdeal.τ).loc Cert.OutputRefIdeal.main_arg13) = m ((c.tc : Thread Cert.OutputRefIdeal.nD Cert.OutputRefIdeal.τ).loc Cert.OutputRefIdeal.main_arg13))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1))
      ∧ r.2.sem = fun _ => 0)

def preserves_Attention_AttentionIdeal : Prop :=
  True

def algebraic_AttentionIdeal_AttentionRefIdeal_pre_finite_qk [hAttentionIdeal : Cert.AttentionIdeal.Facts] [hAttentionRefIdeal : Cert.AttentionRefIdeal.Facts] [hPre_finite_qk : Cert.Pre_finite_qk.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionRefIdeal.nD Cert.AttentionRefIdeal.τ Cert.AttentionRefIdeal.sig) → Buf (Elt Ideal) ℓ) (g' : Dev Cert.AttentionRefIdeal.nD → PrngReg), Pre_AttentionIdeal_finite_qk m →
    (∀ c : Dev Cert.AttentionIdeal.nD,
      m' ((c.tc : Thread Cert.AttentionRefIdeal.nD Cert.AttentionRefIdeal.τ).loc Cert.AttentionRefIdeal.main_arg0) = m ((c.tc : Thread Cert.AttentionIdeal.nD Cert.AttentionIdeal.τ).loc Cert.AttentionIdeal.main_arg0)
      ∧ m' ((c.tc : Thread Cert.AttentionRefIdeal.nD Cert.AttentionRefIdeal.τ).loc Cert.AttentionRefIdeal.main_arg1) = m ((c.tc : Thread Cert.AttentionIdeal.nD Cert.AttentionIdeal.τ).loc Cert.AttentionIdeal.main_arg1)
      ∧ m' ((c.tc : Thread Cert.AttentionRefIdeal.nD Cert.AttentionRefIdeal.τ).loc Cert.AttentionRefIdeal.main_arg2) = m ((c.tc : Thread Cert.AttentionIdeal.nD Cert.AttentionIdeal.τ).loc Cert.AttentionIdeal.main_arg2)) →
    ∃ (v0 : (c : Dev Cert.AttentionIdeal.nD) → Buf (Elt Ideal) ((c.tc : Thread Cert.AttentionIdeal.nD Cert.AttentionIdeal.τ).loc Cert.AttentionIdeal.main_v0)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v0) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ θ_run (Cert.AttentionRefIdeal.defs (F := Ideal)) (onTc (τ := Cert.AttentionRefIdeal.τ) (Cert.AttentionRefIdeal.main (F := Ideal))) ⟨m', fun _ => 0, g'⟩ (fun r => ∀ c : Dev Cert.AttentionRefIdeal.nD,
          r.2.mem ((c.tc : Thread Cert.AttentionRefIdeal.nD Cert.AttentionRefIdeal.τ).loc Cert.AttentionRefIdeal.main_v20) = v0 c
          ∧ r.2.mem ((c.tc : Thread Cert.AttentionRefIdeal.nD Cert.AttentionRefIdeal.τ).loc Cert.AttentionRefIdeal.main_arg0) = m' ((c.tc : Thread Cert.AttentionRefIdeal.nD Cert.AttentionRefIdeal.τ).loc Cert.AttentionRefIdeal.main_arg0)
          ∧ r.2.mem ((c.tc : Thread Cert.AttentionRefIdeal.nD Cert.AttentionRefIdeal.τ).loc Cert.AttentionRefIdeal.main_arg1) = m' ((c.tc : Thread Cert.AttentionRefIdeal.nD Cert.AttentionRefIdeal.τ).loc Cert.AttentionRefIdeal.main_arg1)
          ∧ r.2.mem ((c.tc : Thread Cert.AttentionRefIdeal.nD Cert.AttentionRefIdeal.τ).loc Cert.AttentionRefIdeal.main_arg2) = m' ((c.tc : Thread Cert.AttentionRefIdeal.nD Cert.AttentionRefIdeal.τ).loc Cert.AttentionRefIdeal.main_arg2))

def preserves_Experts_ExpertsIdeal : Prop :=
  True

def algebraic_ExpertsIdeal_ExpertsRefIdeal [hExpertsIdeal : Cert.ExpertsIdeal.Facts] [hExpertsRefIdeal : Cert.ExpertsRefIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v10) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3))

def preserves_Projections_ProjectionsIdeal : Prop :=
  True

def algebraic_ProjectionsIdeal_ProjectionsRefIdeal_pre_rotation_tables [hProjectionsIdeal : Cert.ProjectionsIdeal.Facts] [hProjectionsRefIdeal : Cert.ProjectionsRefIdeal.Facts] [hPre_rotation_tables : Cert.Pre_rotation_tables.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg)
    (m' : (ℓ : Loc Cert.ProjectionsRefIdeal.nD Cert.ProjectionsRefIdeal.τ Cert.ProjectionsRefIdeal.sig) → Buf (Elt Ideal) ℓ) (g' : Dev Cert.ProjectionsRefIdeal.nD → PrngReg), Pre_ProjectionsIdeal_rotation_tables m →
    (∀ c : Dev Cert.ProjectionsIdeal.nD,
      m' ((c.tc : Thread Cert.ProjectionsRefIdeal.nD Cert.ProjectionsRefIdeal.τ).loc Cert.ProjectionsRefIdeal.main_arg0) = m ((c.tc : Thread Cert.ProjectionsIdeal.nD Cert.ProjectionsIdeal.τ).loc Cert.ProjectionsIdeal.main_arg0)
      ∧ m' ((c.tc : Thread Cert.ProjectionsRefIdeal.nD Cert.ProjectionsRefIdeal.τ).loc Cert.ProjectionsRefIdeal.main_arg1) = m ((c.tc : Thread Cert.ProjectionsIdeal.nD Cert.ProjectionsIdeal.τ).loc Cert.ProjectionsIdeal.main_arg1)
      ∧ m' ((c.tc : Thread Cert.ProjectionsRefIdeal.nD Cert.ProjectionsRefIdeal.τ).loc Cert.ProjectionsRefIdeal.main_arg2) = m ((c.tc : Thread Cert.ProjectionsIdeal.nD Cert.ProjectionsIdeal.τ).loc Cert.ProjectionsIdeal.main_arg2)
      ∧ m' ((c.tc : Thread Cert.ProjectionsRefIdeal.nD Cert.ProjectionsRefIdeal.τ).loc Cert.ProjectionsRefIdeal.main_arg3) = m ((c.tc : Thread Cert.ProjectionsIdeal.nD Cert.ProjectionsIdeal.τ).loc Cert.ProjectionsIdeal.main_arg3)
      ∧ m' ((c.tc : Thread Cert.ProjectionsRefIdeal.nD Cert.ProjectionsRefIdeal.τ).loc Cert.ProjectionsRefIdeal.main_arg4) = m ((c.tc : Thread Cert.ProjectionsIdeal.nD Cert.ProjectionsIdeal.τ).loc Cert.ProjectionsIdeal.main_arg4)
      ∧ m' ((c.tc : Thread Cert.ProjectionsRefIdeal.nD Cert.ProjectionsRefIdeal.τ).loc Cert.ProjectionsRefIdeal.main_arg5) = m ((c.tc : Thread Cert.ProjectionsIdeal.nD Cert.ProjectionsIdeal.τ).loc Cert.ProjectionsIdeal.main_arg5)
      ∧ m' ((c.tc : Thread Cert.ProjectionsRefIdeal.nD Cert.ProjectionsRefIdeal.τ).loc Cert.ProjectionsRefIdeal.main_arg6) = m ((c.tc : Thread Cert.ProjectionsIdeal.nD Cert.ProjectionsIdeal.τ).loc Cert.ProjectionsIdeal.main_arg6)
      ∧ m' ((c.tc : Thread Cert.ProjectionsRefIdeal.nD Cert.ProjectionsRefIdeal.τ).loc Cert.ProjectionsRefIdeal.main_arg7) = m ((c.tc : Thread Cert.ProjectionsIdeal.nD Cert.ProjectionsIdeal.τ).loc Cert.ProjectionsIdeal.main_arg7)
      ∧ m' ((c.tc : Thread Cert.ProjectionsRefIdeal.nD Cert.ProjectionsRefIdeal.τ).loc Cert.ProjectionsRefIdeal.main_arg8) = m ((c.tc : Thread Cert.ProjectionsIdeal.nD Cert.ProjectionsIdeal.τ).loc Cert.ProjectionsIdeal.main_arg8)) →
    ∃ (v0 : (c : Dev Cert.ProjectionsIdeal.nD) → Buf (Elt Ideal) ((c.tc : Thread Cert.ProjectionsIdeal.nD Cert.ProjectionsIdeal.τ).loc Cert.ProjectionsIdeal.main_v45_0)) (v1 : (c : Dev Cert.ProjectionsIdeal.nD) → Buf (Elt Ideal) ((c.tc : Thread Cert.ProjectionsIdeal.nD Cert.ProjectionsIdeal.τ).loc Cert.ProjectionsIdeal.main_v45_1)) (v2 : (c : Dev Cert.ProjectionsIdeal.nD) → Buf (Elt Ideal) ((c.tc : Thread Cert.ProjectionsIdeal.nD Cert.ProjectionsIdeal.τ).loc Cert.ProjectionsIdeal.main_v45_2)) (v3 : (c : Dev Cert.ProjectionsIdeal.nD) → Buf (Elt Ideal) ((c.tc : Thread Cert.ProjectionsIdeal.nD Cert.ProjectionsIdeal.τ).loc Cert.ProjectionsIdeal.main_v45_3)) (v4 : (c : Dev Cert.ProjectionsIdeal.nD) → Buf (Elt Ideal) ((c.tc : Thread Cert.ProjectionsIdeal.nD Cert.ProjectionsIdeal.τ).loc Cert.ProjectionsIdeal.main_v45_4)) (v5 : (c : Dev Cert.ProjectionsIdeal.nD) → Buf (Elt Ideal) ((c.tc : Thread Cert.ProjectionsIdeal.nD Cert.ProjectionsIdeal.τ).loc Cert.ProjectionsIdeal.main_v45_5)) (v6 : (c : Dev Cert.ProjectionsIdeal.nD) → Buf (Elt Ideal) ((c.tc : Thread Cert.ProjectionsIdeal.nD Cert.ProjectionsIdeal.τ).loc Cert.ProjectionsIdeal.main_v45_6)),
      θ_run (Cert.ProjectionsIdeal.defs (F := Ideal)) (onTc (τ := Cert.ProjectionsIdeal.τ) (Cert.ProjectionsIdeal.main (F := Ideal))) ⟨m, fun _ => 0, g⟩ (fun r => ∀ c : Dev Cert.ProjectionsIdeal.nD,
          r.2.mem ((c.tc : Thread Cert.ProjectionsIdeal.nD Cert.ProjectionsIdeal.τ).loc Cert.ProjectionsIdeal.main_v45_0) = v0 c
          ∧ r.2.mem ((c.tc : Thread Cert.ProjectionsIdeal.nD Cert.ProjectionsIdeal.τ).loc Cert.ProjectionsIdeal.main_v45_1) = v1 c
          ∧ r.2.mem ((c.tc : Thread Cert.ProjectionsIdeal.nD Cert.ProjectionsIdeal.τ).loc Cert.ProjectionsIdeal.main_v45_2) = v2 c
          ∧ r.2.mem ((c.tc : Thread Cert.ProjectionsIdeal.nD Cert.ProjectionsIdeal.τ).loc Cert.ProjectionsIdeal.main_v45_3) = v3 c
          ∧ r.2.mem ((c.tc : Thread Cert.ProjectionsIdeal.nD Cert.ProjectionsIdeal.τ).loc Cert.ProjectionsIdeal.main_v45_4) = v4 c
          ∧ r.2.mem ((c.tc : Thread Cert.ProjectionsIdeal.nD Cert.ProjectionsIdeal.τ).loc Cert.ProjectionsIdeal.main_v45_5) = v5 c
          ∧ r.2.mem ((c.tc : Thread Cert.ProjectionsIdeal.nD Cert.ProjectionsIdeal.τ).loc Cert.ProjectionsIdeal.main_v45_6) = v6 c
          ∧ r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
          ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
          ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
          ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
          ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
          ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5)
          ∧ r.2.mem ((c.tc : Thread Cert.ProjectionsIdeal.nD Cert.ProjectionsIdeal.τ).loc Cert.ProjectionsIdeal.main_arg6) = m ((c.tc : Thread Cert.ProjectionsIdeal.nD Cert.ProjectionsIdeal.τ).loc Cert.ProjectionsIdeal.main_arg6)
          ∧ r.2.mem ((c.tc : Thread Cert.ProjectionsIdeal.nD Cert.ProjectionsIdeal.τ).loc Cert.ProjectionsIdeal.main_arg7) = m ((c.tc : Thread Cert.ProjectionsIdeal.nD Cert.ProjectionsIdeal.τ).loc Cert.ProjectionsIdeal.main_arg7)
          ∧ r.2.mem ((c.tc : Thread Cert.ProjectionsIdeal.nD Cert.ProjectionsIdeal.τ).loc Cert.ProjectionsIdeal.main_arg8) = m ((c.tc : Thread Cert.ProjectionsIdeal.nD Cert.ProjectionsIdeal.τ).loc Cert.ProjectionsIdeal.main_arg8))
      ∧ θ_run (Cert.ProjectionsRefIdeal.defs (F := Ideal)) (onTc (τ := Cert.ProjectionsRefIdeal.τ) (Cert.ProjectionsRefIdeal.main (F := Ideal))) ⟨m', fun _ => 0, g'⟩ (fun r => ∀ c : Dev Cert.ProjectionsRefIdeal.nD,
          r.2.mem ((c.tc : Thread Cert.ProjectionsRefIdeal.nD Cert.ProjectionsRefIdeal.τ).loc Cert.ProjectionsRefIdeal.main_v89) = v0 c
          ∧ r.2.mem ((c.tc : Thread Cert.ProjectionsRefIdeal.nD Cert.ProjectionsRefIdeal.τ).loc Cert.ProjectionsRefIdeal.main_v92) = v1 c
          ∧ r.2.mem ((c.tc : Thread Cert.ProjectionsRefIdeal.nD Cert.ProjectionsRefIdeal.τ).loc Cert.ProjectionsRefIdeal.main_v94) = v2 c
          ∧ r.2.mem ((c.tc : Thread Cert.ProjectionsRefIdeal.nD Cert.ProjectionsRefIdeal.τ).loc Cert.ProjectionsRefIdeal.main_v17) = v3 c
          ∧ r.2.mem ((c.tc : Thread Cert.ProjectionsRefIdeal.nD Cert.ProjectionsRefIdeal.τ).loc Cert.ProjectionsRefIdeal.main_v18) = v4 c
          ∧ r.2.mem ((c.tc : Thread Cert.ProjectionsRefIdeal.nD Cert.ProjectionsRefIdeal.τ).loc Cert.ProjectionsRefIdeal.main_v19) = v5 c
          ∧ r.2.mem ((c.tc : Thread Cert.ProjectionsRefIdeal.nD Cert.ProjectionsRefIdeal.τ).loc Cert.ProjectionsRefIdeal.main_v95) = v6 c
          ∧ r.2.mem ((c.tc : Thread Cert.ProjectionsRefIdeal.nD Cert.ProjectionsRefIdeal.τ).loc Cert.ProjectionsRefIdeal.main_arg0) = m' ((c.tc : Thread Cert.ProjectionsRefIdeal.nD Cert.ProjectionsRefIdeal.τ).loc Cert.ProjectionsRefIdeal.main_arg0)
          ∧ r.2.mem ((c.tc : Thread Cert.ProjectionsRefIdeal.nD Cert.ProjectionsRefIdeal.τ).loc Cert.ProjectionsRefIdeal.main_arg1) = m' ((c.tc : Thread Cert.ProjectionsRefIdeal.nD Cert.ProjectionsRefIdeal.τ).loc Cert.ProjectionsRefIdeal.main_arg1)
          ∧ r.2.mem ((c.tc : Thread Cert.ProjectionsRefIdeal.nD Cert.ProjectionsRefIdeal.τ).loc Cert.ProjectionsRefIdeal.main_arg2) = m' ((c.tc : Thread Cert.ProjectionsRefIdeal.nD Cert.ProjectionsRefIdeal.τ).loc Cert.ProjectionsRefIdeal.main_arg2)
          ∧ r.2.mem ((c.tc : Thread Cert.ProjectionsRefIdeal.nD Cert.ProjectionsRefIdeal.τ).loc Cert.ProjectionsRefIdeal.main_arg3) = m' ((c.tc : Thread Cert.ProjectionsRefIdeal.nD Cert.ProjectionsRefIdeal.τ).loc Cert.ProjectionsRefIdeal.main_arg3)
          ∧ r.2.mem ((c.tc : Thread Cert.ProjectionsRefIdeal.nD Cert.ProjectionsRefIdeal.τ).loc Cert.ProjectionsRefIdeal.main_arg4) = m' ((c.tc : Thread Cert.ProjectionsRefIdeal.nD Cert.ProjectionsRefIdeal.τ).loc Cert.ProjectionsRefIdeal.main_arg4)
          ∧ r.2.mem ((c.tc : Thread Cert.ProjectionsRefIdeal.nD Cert.ProjectionsRefIdeal.τ).loc Cert.ProjectionsRefIdeal.main_arg5) = m' ((c.tc : Thread Cert.ProjectionsRefIdeal.nD Cert.ProjectionsRefIdeal.τ).loc Cert.ProjectionsRefIdeal.main_arg5)
          ∧ r.2.mem ((c.tc : Thread Cert.ProjectionsRefIdeal.nD Cert.ProjectionsRefIdeal.τ).loc Cert.ProjectionsRefIdeal.main_arg6) = m' ((c.tc : Thread Cert.ProjectionsRefIdeal.nD Cert.ProjectionsRefIdeal.τ).loc Cert.ProjectionsRefIdeal.main_arg6)
          ∧ r.2.mem ((c.tc : Thread Cert.ProjectionsRefIdeal.nD Cert.ProjectionsRefIdeal.τ).loc Cert.ProjectionsRefIdeal.main_arg7) = m' ((c.tc : Thread Cert.ProjectionsRefIdeal.nD Cert.ProjectionsRefIdeal.τ).loc Cert.ProjectionsRefIdeal.main_arg7)
          ∧ r.2.mem ((c.tc : Thread Cert.ProjectionsRefIdeal.nD Cert.ProjectionsRefIdeal.τ).loc Cert.ProjectionsRefIdeal.main_arg8) = m' ((c.tc : Thread Cert.ProjectionsRefIdeal.nD Cert.ProjectionsRefIdeal.τ).loc Cert.ProjectionsRefIdeal.main_arg8))

def preserves_Output_OutputIdeal : Prop :=
  True

def algebraic_OutputIdeal_OutputRefIdeal [hOutputIdeal : Cert.OutputIdeal.Facts] [hOutputRefIdeal : Cert.OutputRefIdeal.Facts] : Prop :=
  ∀ (m : (ℓ : Loc Cert.OutputIdeal.nD Cert.OutputIdeal.τ Cert.OutputIdeal.sig) → Buf (Elt Ideal) ℓ) (g : Dev Cert.OutputIdeal.nD → PrngReg)
    (m' : (ℓ : Loc Cert.OutputRefIdeal.nD Cert.OutputRefIdeal.τ Cert.OutputRefIdeal.sig) → Buf (Elt Ideal) ℓ) (g' : Dev Cert.OutputRefIdeal.nD → PrngReg), Pre_OutputIdeal m →
    (∀ c : Dev Cert.OutputIdeal.nD,
      m' ((c.tc : Thread Cert.OutputRefIdeal.nD Cert.OutputRefIdeal.τ).loc Cert.OutputRefIdeal.main_arg0) = m ((c.tc : Thread Cert.OutputIdeal.nD Cert.OutputIdeal.τ).loc Cert.OutputIdeal.main_arg0)
      ∧ m' ((c.tc : Thread Cert.OutputRefIdeal.nD Cert.OutputRefIdeal.τ).loc Cert.OutputRefIdeal.main_arg1) = m ((c.tc : Thread Cert.OutputIdeal.nD Cert.OutputIdeal.τ).loc Cert.OutputIdeal.main_arg1)
      ∧ m' ((c.tc : Thread Cert.OutputRefIdeal.nD Cert.OutputRefIdeal.τ).loc Cert.OutputRefIdeal.main_arg2) = m ((c.tc : Thread Cert.OutputIdeal.nD Cert.OutputIdeal.τ).loc Cert.OutputIdeal.main_arg2)
      ∧ m' ((c.tc : Thread Cert.OutputRefIdeal.nD Cert.OutputRefIdeal.τ).loc Cert.OutputRefIdeal.main_arg3) = m ((c.tc : Thread Cert.OutputIdeal.nD Cert.OutputIdeal.τ).loc Cert.OutputIdeal.main_arg3)
      ∧ m' ((c.tc : Thread Cert.OutputRefIdeal.nD Cert.OutputRefIdeal.τ).loc Cert.OutputRefIdeal.main_arg4) = m ((c.tc : Thread Cert.OutputIdeal.nD Cert.OutputIdeal.τ).loc Cert.OutputIdeal.main_arg4)
      ∧ m' ((c.tc : Thread Cert.OutputRefIdeal.nD Cert.OutputRefIdeal.τ).loc Cert.OutputRefIdeal.main_arg5) = m ((c.tc : Thread Cert.OutputIdeal.nD Cert.OutputIdeal.τ).loc Cert.OutputIdeal.main_arg5)
      ∧ m' ((c.tc : Thread Cert.OutputRefIdeal.nD Cert.OutputRefIdeal.τ).loc Cert.OutputRefIdeal.main_arg6) = m ((c.tc : Thread Cert.OutputIdeal.nD Cert.OutputIdeal.τ).loc Cert.OutputIdeal.main_arg6)
      ∧ m' ((c.tc : Thread Cert.OutputRefIdeal.nD Cert.OutputRefIdeal.τ).loc Cert.OutputRefIdeal.main_arg7) = m ((c.tc : Thread Cert.OutputIdeal.nD Cert.OutputIdeal.τ).loc Cert.OutputIdeal.main_arg7)
      ∧ m' ((c.tc : Thread Cert.OutputRefIdeal.nD Cert.OutputRefIdeal.τ).loc Cert.OutputRefIdeal.main_arg8) = m ((c.tc : Thread Cert.OutputIdeal.nD Cert.OutputIdeal.τ).loc Cert.OutputIdeal.main_arg8)
      ∧ m' ((c.tc : Thread Cert.OutputRefIdeal.nD Cert.OutputRefIdeal.τ).loc Cert.OutputRefIdeal.main_arg9) = m ((c.tc : Thread Cert.OutputIdeal.nD Cert.OutputIdeal.τ).loc Cert.OutputIdeal.main_arg9)
      ∧ m' ((c.tc : Thread Cert.OutputRefIdeal.nD Cert.OutputRefIdeal.τ).loc Cert.OutputRefIdeal.main_arg10) = m ((c.tc : Thread Cert.OutputIdeal.nD Cert.OutputIdeal.τ).loc Cert.OutputIdeal.main_arg10)
      ∧ m' ((c.tc : Thread Cert.OutputRefIdeal.nD Cert.OutputRefIdeal.τ).loc Cert.OutputRefIdeal.main_arg11) = m ((c.tc : Thread Cert.OutputIdeal.nD Cert.OutputIdeal.τ).loc Cert.OutputIdeal.main_arg11)
      ∧ m' ((c.tc : Thread Cert.OutputRefIdeal.nD Cert.OutputRefIdeal.τ).loc Cert.OutputRefIdeal.main_arg12) = m ((c.tc : Thread Cert.OutputIdeal.nD Cert.OutputIdeal.τ).loc Cert.OutputIdeal.main_arg12)
      ∧ m' ((c.tc : Thread Cert.OutputRefIdeal.nD Cert.OutputRefIdeal.τ).loc Cert.OutputRefIdeal.main_arg13) = m ((c.tc : Thread Cert.OutputIdeal.nD Cert.OutputIdeal.τ).loc Cert.OutputIdeal.main_arg13)) →
    ∃ (v0 : (c : Dev Cert.OutputIdeal.nD) → Buf (Elt Ideal) ((c.tc : Thread Cert.OutputIdeal.nD Cert.OutputIdeal.τ).loc Cert.OutputIdeal.main_v9_0)) (v1 : (c : Dev Cert.OutputIdeal.nD) → Buf (Elt Ideal) ((c.tc : Thread Cert.OutputIdeal.nD Cert.OutputIdeal.τ).loc Cert.OutputIdeal.main_v9_1)) (v2 : (c : Dev Cert.OutputIdeal.nD) → Buf (Elt Ideal) ((c.tc : Thread Cert.OutputIdeal.nD Cert.OutputIdeal.τ).loc Cert.OutputIdeal.main_v9_2)),
      θ_run (Cert.OutputIdeal.defs (F := Ideal)) (onTc (τ := Cert.OutputIdeal.τ) (Cert.OutputIdeal.main (F := Ideal))) ⟨m, fun _ => 0, g⟩ (fun r => ∀ c : Dev Cert.OutputIdeal.nD,
          r.2.mem ((c.tc : Thread Cert.OutputIdeal.nD Cert.OutputIdeal.τ).loc Cert.OutputIdeal.main_v9_0) = v0 c
          ∧ r.2.mem ((c.tc : Thread Cert.OutputIdeal.nD Cert.OutputIdeal.τ).loc Cert.OutputIdeal.main_v9_1) = v1 c
          ∧ r.2.mem ((c.tc : Thread Cert.OutputIdeal.nD Cert.OutputIdeal.τ).loc Cert.OutputIdeal.main_v9_2) = v2 c
          ∧ r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
          ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
          ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
          ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
          ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
          ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
          ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6)
          ∧ r.2.mem ((c.tc : Thread Cert.OutputIdeal.nD Cert.OutputIdeal.τ).loc Cert.OutputIdeal.main_arg7) = m ((c.tc : Thread Cert.OutputIdeal.nD Cert.OutputIdeal.τ).loc Cert.OutputIdeal.main_arg7)
          ∧ r.2.mem ((c.tc : Thread Cert.OutputIdeal.nD Cert.OutputIdeal.τ).loc Cert.OutputIdeal.main_arg8) = m ((c.tc : Thread Cert.OutputIdeal.nD Cert.OutputIdeal.τ).loc Cert.OutputIdeal.main_arg8)
          ∧ r.2.mem ((c.tc : Thread Cert.OutputIdeal.nD Cert.OutputIdeal.τ).loc Cert.OutputIdeal.main_arg9) = m ((c.tc : Thread Cert.OutputIdeal.nD Cert.OutputIdeal.τ).loc Cert.OutputIdeal.main_arg9)
          ∧ r.2.mem ((c.tc : Thread Cert.OutputIdeal.nD Cert.OutputIdeal.τ).loc Cert.OutputIdeal.main_arg10) = m ((c.tc : Thread Cert.OutputIdeal.nD Cert.OutputIdeal.τ).loc Cert.OutputIdeal.main_arg10)
          ∧ r.2.mem ((c.tc : Thread Cert.OutputIdeal.nD Cert.OutputIdeal.τ).loc Cert.OutputIdeal.main_arg11) = m ((c.tc : Thread Cert.OutputIdeal.nD Cert.OutputIdeal.τ).loc Cert.OutputIdeal.main_arg11)
          ∧ r.2.mem ((c.tc : Thread Cert.OutputIdeal.nD Cert.OutputIdeal.τ).loc Cert.OutputIdeal.main_arg12) = m ((c.tc : Thread Cert.OutputIdeal.nD Cert.OutputIdeal.τ).loc Cert.OutputIdeal.main_arg12)
          ∧ r.2.mem ((c.tc : Thread Cert.OutputIdeal.nD Cert.OutputIdeal.τ).loc Cert.OutputIdeal.main_arg13) = m ((c.tc : Thread Cert.OutputIdeal.nD Cert.OutputIdeal.τ).loc Cert.OutputIdeal.main_arg13))
      ∧ θ_run (Cert.OutputRefIdeal.defs (F := Ideal)) (onTc (τ := Cert.OutputRefIdeal.τ) (Cert.OutputRefIdeal.main (F := Ideal))) ⟨m', fun _ => 0, g'⟩ (fun r => ∀ c : Dev Cert.OutputRefIdeal.nD,
          r.2.mem ((c.tc : Thread Cert.OutputRefIdeal.nD Cert.OutputRefIdeal.τ).loc Cert.OutputRefIdeal.main_v56) = v0 c
          ∧ r.2.mem ((c.tc : Thread Cert.OutputRefIdeal.nD Cert.OutputRefIdeal.τ).loc Cert.OutputRefIdeal.main_v83) = v1 c
          ∧ r.2.mem ((c.tc : Thread Cert.OutputRefIdeal.nD Cert.OutputRefIdeal.τ).loc Cert.OutputRefIdeal.main_v84) = v2 c
          ∧ r.2.mem ((c.tc : Thread Cert.OutputRefIdeal.nD Cert.OutputRefIdeal.τ).loc Cert.OutputRefIdeal.main_arg0) = m' ((c.tc : Thread Cert.OutputRefIdeal.nD Cert.OutputRefIdeal.τ).loc Cert.OutputRefIdeal.main_arg0)
          ∧ r.2.mem ((c.tc : Thread Cert.OutputRefIdeal.nD Cert.OutputRefIdeal.τ).loc Cert.OutputRefIdeal.main_arg1) = m' ((c.tc : Thread Cert.OutputRefIdeal.nD Cert.OutputRefIdeal.τ).loc Cert.OutputRefIdeal.main_arg1)
          ∧ r.2.mem ((c.tc : Thread Cert.OutputRefIdeal.nD Cert.OutputRefIdeal.τ).loc Cert.OutputRefIdeal.main_arg2) = m' ((c.tc : Thread Cert.OutputRefIdeal.nD Cert.OutputRefIdeal.τ).loc Cert.OutputRefIdeal.main_arg2)
          ∧ r.2.mem ((c.tc : Thread Cert.OutputRefIdeal.nD Cert.OutputRefIdeal.τ).loc Cert.OutputRefIdeal.main_arg3) = m' ((c.tc : Thread Cert.OutputRefIdeal.nD Cert.OutputRefIdeal.τ).loc Cert.OutputRefIdeal.main_arg3)
          ∧ r.2.mem ((c.tc : Thread Cert.OutputRefIdeal.nD Cert.OutputRefIdeal.τ).loc Cert.OutputRefIdeal.main_arg4) = m' ((c.tc : Thread Cert.OutputRefIdeal.nD Cert.OutputRefIdeal.τ).loc Cert.OutputRefIdeal.main_arg4)
          ∧ r.2.mem ((c.tc : Thread Cert.OutputRefIdeal.nD Cert.OutputRefIdeal.τ).loc Cert.OutputRefIdeal.main_arg5) = m' ((c.tc : Thread Cert.OutputRefIdeal.nD Cert.OutputRefIdeal.τ).loc Cert.OutputRefIdeal.main_arg5)
          ∧ r.2.mem ((c.tc : Thread Cert.OutputRefIdeal.nD Cert.OutputRefIdeal.τ).loc Cert.OutputRefIdeal.main_arg6) = m' ((c.tc : Thread Cert.OutputRefIdeal.nD Cert.OutputRefIdeal.τ).loc Cert.OutputRefIdeal.main_arg6)
          ∧ r.2.mem ((c.tc : Thread Cert.OutputRefIdeal.nD Cert.OutputRefIdeal.τ).loc Cert.OutputRefIdeal.main_arg7) = m' ((c.tc : Thread Cert.OutputRefIdeal.nD Cert.OutputRefIdeal.τ).loc Cert.OutputRefIdeal.main_arg7)
          ∧ r.2.mem ((c.tc : Thread Cert.OutputRefIdeal.nD Cert.OutputRefIdeal.τ).loc Cert.OutputRefIdeal.main_arg8) = m' ((c.tc : Thread Cert.OutputRefIdeal.nD Cert.OutputRefIdeal.τ).loc Cert.OutputRefIdeal.main_arg8)
          ∧ r.2.mem ((c.tc : Thread Cert.OutputRefIdeal.nD Cert.OutputRefIdeal.τ).loc Cert.OutputRefIdeal.main_arg9) = m' ((c.tc : Thread Cert.OutputRefIdeal.nD Cert.OutputRefIdeal.τ).loc Cert.OutputRefIdeal.main_arg9)
          ∧ r.2.mem ((c.tc : Thread Cert.OutputRefIdeal.nD Cert.OutputRefIdeal.τ).loc Cert.OutputRefIdeal.main_arg10) = m' ((c.tc : Thread Cert.OutputRefIdeal.nD Cert.OutputRefIdeal.τ).loc Cert.OutputRefIdeal.main_arg10)
          ∧ r.2.mem ((c.tc : Thread Cert.OutputRefIdeal.nD Cert.OutputRefIdeal.τ).loc Cert.OutputRefIdeal.main_arg11) = m' ((c.tc : Thread Cert.OutputRefIdeal.nD Cert.OutputRefIdeal.τ).loc Cert.OutputRefIdeal.main_arg11)
          ∧ r.2.mem ((c.tc : Thread Cert.OutputRefIdeal.nD Cert.OutputRefIdeal.τ).loc Cert.OutputRefIdeal.main_arg12) = m' ((c.tc : Thread Cert.OutputRefIdeal.nD Cert.OutputRefIdeal.τ).loc Cert.OutputRefIdeal.main_arg12)
          ∧ r.2.mem ((c.tc : Thread Cert.OutputRefIdeal.nD Cert.OutputRefIdeal.τ).loc Cert.OutputRefIdeal.main_arg13) = m' ((c.tc : Thread Cert.OutputRefIdeal.nD Cert.OutputRefIdeal.τ).loc Cert.OutputRefIdeal.main_arg13))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)) →
    ∃ (v0 : (c : Dev Cert.LastIdeal.nD) → Buf (Elt Ideal) ((c.tc : Thread Cert.LastIdeal.nD Cert.LastIdeal.τ).loc Cert.LastIdeal.main_v1)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v1) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v12) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1))

def Claim : Prop :=
  ∃ (hAttention : Cert.Attention.Facts) (hAttentionIdeal : Cert.AttentionIdeal.Facts) (hAttentionRefIdeal : Cert.AttentionRefIdeal.Facts) (hExperts : Cert.Experts.Facts) (hExpertsIdeal : Cert.ExpertsIdeal.Facts) (hExpertsRefIdeal : Cert.ExpertsRefIdeal.Facts) (hProjections : Cert.Projections.Facts) (hProjectionsIdeal : Cert.ProjectionsIdeal.Facts) (hProjectionsRefIdeal : Cert.ProjectionsRefIdeal.Facts) (hOutput : Cert.Output.Facts) (hOutputIdeal : Cert.OutputIdeal.Facts) (hOutputRefIdeal : Cert.OutputRefIdeal.Facts) (hLast : Cert.Last.Facts) (hLastIdeal : Cert.LastIdeal.Facts) (hLastRefIdeal : Cert.LastRefIdeal.Facts) (hPre_finite_qk : Cert.Pre_finite_qk.Facts) (hPre_rotation_tables : Cert.Pre_rotation_tables.Facts),
    quiescent_Attention (hAttention := hAttention)
    ∧ quiescent_AttentionIdeal (hAttentionIdeal := hAttentionIdeal)
    ∧ quiescent_AttentionIdeal_pre_finite_qk (hAttentionIdeal := hAttentionIdeal) (hPre_finite_qk := hPre_finite_qk)
    ∧ quiescent_AttentionRefIdeal (hAttentionRefIdeal := hAttentionRefIdeal)
    ∧ quiescent_AttentionRefIdeal_pre_finite_qk (hAttentionRefIdeal := hAttentionRefIdeal) (hPre_finite_qk := hPre_finite_qk)
    ∧ quiescent_Experts (hExperts := hExperts)
    ∧ quiescent_ExpertsIdeal (hExpertsIdeal := hExpertsIdeal)
    ∧ quiescent_ExpertsRefIdeal (hExpertsRefIdeal := hExpertsRefIdeal)
    ∧ quiescent_Projections (hProjections := hProjections)
    ∧ quiescent_ProjectionsIdeal (hProjectionsIdeal := hProjectionsIdeal)
    ∧ quiescent_ProjectionsIdeal_pre_rotation_tables (hProjectionsIdeal := hProjectionsIdeal) (hPre_rotation_tables := hPre_rotation_tables)
    ∧ quiescent_ProjectionsRefIdeal (hProjectionsRefIdeal := hProjectionsRefIdeal)
    ∧ quiescent_ProjectionsRefIdeal_pre_rotation_tables (hProjectionsRefIdeal := hProjectionsRefIdeal) (hPre_rotation_tables := hPre_rotation_tables)
    ∧ quiescent_Output (hOutput := hOutput)
    ∧ quiescent_OutputIdeal (hOutputIdeal := hOutputIdeal)
    ∧ quiescent_OutputRefIdeal (hOutputRefIdeal := hOutputRefIdeal)
    ∧ quiescent_Last (hLast := hLast)
    ∧ quiescent_LastIdeal (hLastIdeal := hLastIdeal)
    ∧ quiescent_LastRefIdeal (hLastRefIdeal := hLastRefIdeal)
    ∧ preserves_Attention_AttentionIdeal
    ∧ algebraic_AttentionIdeal_AttentionRefIdeal_pre_finite_qk (hAttentionIdeal := hAttentionIdeal) (hAttentionRefIdeal := hAttentionRefIdeal) (hPre_finite_qk := hPre_finite_qk)
    ∧ preserves_Experts_ExpertsIdeal
    ∧ algebraic_ExpertsIdeal_ExpertsRefIdeal (hExpertsIdeal := hExpertsIdeal) (hExpertsRefIdeal := hExpertsRefIdeal)
    ∧ preserves_Projections_ProjectionsIdeal
    ∧ algebraic_ProjectionsIdeal_ProjectionsRefIdeal_pre_rotation_tables (hProjectionsIdeal := hProjectionsIdeal) (hProjectionsRefIdeal := hProjectionsRefIdeal) (hPre_rotation_tables := hPre_rotation_tables)
    ∧ preserves_Output_OutputIdeal
    ∧ algebraic_OutputIdeal_OutputRefIdeal (hOutputIdeal := hOutputIdeal) (hOutputRefIdeal := hOutputRefIdeal)
    ∧ preserves_Last_LastIdeal
    ∧ algebraic_LastIdeal_LastRefIdeal (hLastIdeal := hLastIdeal) (hLastRefIdeal := hLastRefIdeal)
-- ==== Pre_finite_qk.lean ====
abbrev S2x8192x1024 : Shape := ⟨3, ![2, 8192, 1024]⟩
abbrev S2x8192x512 : Shape := ⟨3, ![2, 8192, 512]⟩
abbrev S_ : Shape := ⟨0, ![]⟩

class Facts : Prop where
  bitsLt_bf16_f32 : FTy.bits .bf16 < FTy.bits .f32
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel

variable [Facts]

def fn {F : FTy → Type} [FloatOps F] (main_arg0 : FVec F S2x8192x1024 .bf16) (main_arg1 : FVec F S2x8192x1024 .bf16) (main_arg2 : FVec F S2x8192x512 .bf16) : IVec S_ 1 :=
  let main_v0 : FVec F S2x8192x1024 .f32 := (extf .f32 · bitsLt_bf16_f32) main_arg0
  let main_v1 : FVec F S2x8192x1024 .f32 := Host.absf main_v0
  let main_cst : FVec F S_ .f32 := constant S_ .f32 0x7F800000#32
  let main_v2 : FVec F S2x8192x1024 .f32 := broadcastInDim S2x8192x1024 ![] bcast_S_S2x8192x1024 main_cst
  let main_v3 : IVec S2x8192x1024 1 := cmpf .olt main_v1 main_v2
  let main_c : IVec S_ 1 := constantI S_ 1 1#1
  let main_v4 : IVec S_ 1 := (fun x v => Host.reduce IntOp.andi x v reducesTo_S2x8192x1024_S_d0_1_2 h_S_) main_v3 main_c
  let main_v5 : FVec F S2x8192x1024 .f32 := (extf .f32 · bitsLt_bf16_f32) main_arg1
  let main_v6 : FVec F S2x8192x1024 .f32 := Host.absf main_v5
  let main_cst_0 : FVec F S_ .f32 := constant S_ .f32 0x7F800000#32
  let main_v7 : FVec F S2x8192x1024 .f32 := broadcastInDim S2x8192x1024 ![] bcast_S_S2x8192x1024 main_cst_0
  let main_v8 : IVec S2x8192x1024 1 := cmpf .olt main_v6 main_v7
  let main_c_1 : IVec S_ 1 := constantI S_ 1 1#1
  let main_v9 : IVec S_ 1 := (fun x v => Host.reduce IntOp.andi x v reducesTo_S2x8192x1024_S_d0_1_2 h_S_) main_v8 main_c_1
  let main_v10 : IVec S_ 1 := andi main_v4 main_v9
  main_v10
-- ==== Pre_rotation_tables.lean ====
abbrev S16384x1024 : Shape := ⟨2, ![16384, 1024]⟩
abbrev S1024 : Shape := ⟨1, ![1024]⟩
abbrev S1024x2216 : Shape := ⟨2, ![1024, 2216]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S16384x128 : Shape := ⟨2, ![16384, 128]⟩
abbrev S256x8x96 : Shape := ⟨3, ![256, 8, 96]⟩
abbrev S256x8x32 : Shape := ⟨3, ![256, 8, 32]⟩
abbrev S16384x64 : Shape := ⟨2, ![16384, 64]⟩
abbrev S_ : Shape := ⟨0, ![]⟩
abbrev S16384x16 : Shape := ⟨2, ![16384, 16]⟩
abbrev S1024x32 : Shape := ⟨2, ![1024, 32]⟩

class Facts : Prop where
  shapeCasts_S256x768_S256x8x96 : S256x768.ShapeCasts S256x8x96
  slices_S256x8x96_S256x8x32_0_0_64 : S256x8x96.Slices ![0, 0, 64] S256x8x32
  slices_S16384x128_S16384x64_0_0 : S16384x128.Slices ![0, 0] S16384x64
  bcast_S_S16384x64 : S_.BroadcastsInDim S16384x64 (![] : Fin 0 → Fin S16384x64.rank)
  reducesTo_S16384x64_S_d0_1 : S16384x64.ReducesTo [0, 1] S_
  h_S_ : 0 < S_.numel
  slices_S16384x128_S16384x16_0_64 : S16384x128.Slices ![0, 64] S16384x16
  slices_S16384x128_S16384x16_0_80 : S16384x128.Slices ![0, 80] S16384x16
  reducesTo_S16384x16_S_d0_1 : S16384x16.ReducesTo [0, 1] S_
  slices_S1024x2216_S1024x32_0_384 : S1024x2216.Slices ![0, 384] S1024x32
  bcast_S_S1024x32 : S_.BroadcastsInDim S1024x32 (![] : Fin 0 → Fin S1024x32.rank)
  reducesTo_S1024x32_S_d0_1 : S1024x32.ReducesTo [0, 1] S_
  bcast_S_S1024 : S_.BroadcastsInDim S1024 (![] : Fin 0 → Fin S1024.rank)
  reducesTo_S1024_S_d0 : S1024.ReducesTo [0] S_
  bcast_S_S256 : S_.BroadcastsInDim S256 (![] : Fin 0 → Fin S256.rank)
  reducesTo_S256_S_d0 : S256.ReducesTo [0] S_
  bcast_S_S256x8x32 : S_.BroadcastsInDim S256x8x32 (![] : Fin 0 → Fin S256x8x32.rank)
  reducesTo_S256x8x32_S_d0_1_2 : S256x8x32.ReducesTo [0, 1, 2] S_

variable [Facts]

def fn_part2 {F : FTy → Type} [FloatOps F] (main_v31 : IVec S_ 1) (main_v35 : IVec S_ 1) : IVec S_ 1 :=
  let main_v36 : IVec S_ 1 := andi main_v31 main_v35
  main_v36

def fn_part1 {F : FTy → Type} [FloatOps F] (main_arg1 : FVec F S1024 .f32) (main_arg3 : FVec F S256 .f32) (main_v1 : FVec F S256x8x32 .f32) (main_v16 : IVec S_ 1) (main_v17 : FVec F S16384x16 .f32) (main_v18 : FVec F S16384x16 .f32) : IVec S_ 1 :=
  let main_v19 : IVec S16384x16 1 := cmpf .oeq main_v17 main_v18
  let main_c_3 : IVec S_ 1 := constantI S_ 1 1#1
  let main_v20 : IVec S_ 1 := (fun x v => Host.reduce IntOp.andi x v reducesTo_S16384x16_S_d0_1 h_S_) main_v19 main_c_3
  let main_v21 : IVec S_ 1 := andi main_v16 main_v20
  let main_v22 : FVec F S1024 .f32 := Host.absf main_arg1
  let main_cst_4 : FVec F S_ .f32 := constant S_ .f32 0x7F800000#32
  let main_v23 : FVec F S1024 .f32 := broadcastInDim S1024 ![] bcast_S_S1024 main_cst_4
  let main_v24 : IVec S1024 1 := cmpf .olt main_v22 main_v23
  let main_c_5 : IVec S_ 1 := constantI S_ 1 1#1
  let main_v25 : IVec S_ 1 := (fun x v => Host.reduce IntOp.andi x v reducesTo_S1024_S_d0 h_S_) main_v24 main_c_5
  let main_v26 : IVec S_ 1 := andi main_v21 main_v25
  let main_v27 : FVec F S256 .f32 := Host.absf main_arg3
  let main_cst_6 : FVec F S_ .f32 := constant S_ .f32 0x7F800000#32
  let main_v28 : FVec F S256 .f32 := broadcastInDim S256 ![] bcast_S_S256 main_cst_6
  let main_v29 : IVec S256 1 := cmpf .olt main_v27 main_v28
  let main_c_7 : IVec S_ 1 := constantI S_ 1 1#1
  let main_v30 : IVec S_ 1 := (fun x v => Host.reduce IntOp.andi x v reducesTo_S256_S_d0 h_S_) main_v29 main_c_7
  let main_v31 : IVec S_ 1 := andi main_v26 main_v30
  let main_v32 : FVec F S256x8x32 .f32 := Host.absf main_v1
  let main_cst_8 : FVec F S_ .f32 := constant S_ .f32 0x7F800000#32
  let main_v33 : FVec F S256x8x32 .f32 := broadcastInDim S256x8x32 ![] bcast_S_S256x8x32 main_cst_8
  let main_v34 : IVec S256x8x32 1 := cmpf .olt main_v32 main_v33
  let main_c_9 : IVec S_ 1 := constantI S_ 1 1#1
  let main_v35 : IVec S_ 1 := (fun x v => Host.reduce IntOp.andi x v reducesTo_S256x8x32_S_d0_1_2 h_S_) main_v34 main_c_9
  fn_part2 (F := F) main_v31 main_v35

def fn {F : FTy → Type} [FloatOps F] (main_arg0 : FVec F S16384x1024 .f32) (main_arg1 : FVec F S1024 .f32) (main_arg2 : FVec F S1024x2216 .f32) (main_arg3 : FVec F S256 .f32) (main_arg4 : FVec F S256x768 .f32) (main_arg5 : FVec F S128 .f32) (main_arg6 : FVec F S128x1024 .f32) (main_arg7 : FVec F S16384x128 .f32) (main_arg8 : FVec F S16384x128 .f32) : IVec S_ 1 :=
  let main_v0 : FVec F S256x8x96 .f32 := shapeCast S256x8x96 main_arg4 shapeCasts_S256x768_S256x8x96
  let main_v1 : FVec F S256x8x32 .f32 := (extractStridedSlice S256x8x32 ![0, 0, 64] · slices_S256x8x96_S256x8x32_0_0_64) main_v0
  let main_v2 : FVec F S16384x64 .f32 := (extractStridedSlice S16384x64 ![0, 0] · slices_S16384x128_S16384x64_0_0) main_arg7
  let main_cst : FVec F S_ .f32 := constant S_ .f32 0x3F800000#32
  let main_v3 : FVec F S16384x64 .f32 := broadcastInDim S16384x64 ![] bcast_S_S16384x64 main_cst
  let main_v4 : IVec S16384x64 1 := cmpf .oeq main_v2 main_v3
  let main_c : IVec S_ 1 := constantI S_ 1 1#1
  let main_v5 : IVec S_ 1 := (fun x v => Host.reduce IntOp.andi x v reducesTo_S16384x64_S_d0_1 h_S_) main_v4 main_c
  let main_v6 : FVec F S16384x16 .f32 := (extractStridedSlice S16384x16 ![0, 64] · slices_S16384x128_S16384x16_0_64) main_arg7
  let main_v7 : FVec F S16384x16 .f32 := (extractStridedSlice S16384x16 ![0, 80] · slices_S16384x128_S16384x16_0_80) main_arg7
  let main_v8 : IVec S16384x16 1 := cmpf .oeq main_v6 main_v7
  let main_c_0 : IVec S_ 1 := constantI S_ 1 1#1
  let main_v9 : IVec S_ 1 := (fun x v => Host.reduce IntOp.andi x v reducesTo_S16384x16_S_d0_1 h_S_) main_v8 main_c_0
  let main_v10 : IVec S_ 1 := andi main_v5 main_v9
  let main_v11 : FVec F S1024x32 .f32 := (extractStridedSlice S1024x32 ![0, 384] · slices_S1024x2216_S1024x32_0_384) main_arg2
  let main_v12 : FVec F S1024x32 .f32 := Host.absf main_v11
  let main_cst_1 : FVec F S_ .f32 := constant S_ .f32 0x7F800000#32
  let main_v13 : FVec F S1024x32 .f32 := broadcastInDim S1024x32 ![] bcast_S_S1024x32 main_cst_1
  let main_v14 : IVec S1024x32 1 := cmpf .olt main_v12 main_v13
  let main_c_2 : IVec S_ 1 := constantI S_ 1 1#1
  let main_v15 : IVec S_ 1 := (fun x v => Host.reduce IntOp.andi x v reducesTo_S1024x32_S_d0_1 h_S_) main_v14 main_c_2
  let main_v16 : IVec S_ 1 := andi main_v10 main_v15
  let main_v17 : FVec F S16384x16 .f32 := (extractStridedSlice S16384x16 ![0, 64] · slices_S16384x128_S16384x16_0_64) main_arg8
  let main_v18 : FVec F S16384x16 .f32 := (extractStridedSlice S16384x16 ![0, 80] · slices_S16384x128_S16384x16_0_80) main_arg8
  fn_part1 (F := F) main_arg1 main_arg3 main_v1 main_v16 main_v17 main_v18
-- ==== Attention.lean ====
abbrev S2x8192x1024 : Shape := ⟨3, ![2, 8192, 1024]⟩
abbrev S2x8192x512 : Shape := ⟨3, ![2, 8192, 512]⟩
abbrev S1x256x256 : Shape := ⟨3, ![1, 256, 256]⟩
abbrev S1x8192x256 : Shape := ⟨3, ![1, 8192, 256]⟩
abbrev S1x8192x128 : Shape := ⟨3, ![1, 8192, 128]⟩
abbrev S1x256x128 : Shape := ⟨3, ![1, 256, 128]⟩
abbrev S256x128 : Shape := ⟨2, ![256, 128]⟩
abbrev S256x1 : Shape := ⟨2, ![256, 1]⟩
abbrev S256x64 : Shape := ⟨2, ![256, 64]⟩
abbrev S1x512x128 : Shape := ⟨3, ![1, 512, 128]⟩
abbrev S512x128 : Shape := ⟨2, ![512, 128]⟩
abbrev S1x512x64 : Shape := ⟨3, ![1, 512, 64]⟩
abbrev S512x64 : Shape := ⟨2, ![512, 64]⟩
abbrev S256x512 : Shape := ⟨2, ![256, 512]⟩
abbrev S256 : Shape := ⟨1, ![256]⟩

abbrev nBuf : Space → Nat
  | .hbm => 4
  | .vmem => 8
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .bf16⟩
  | .hbm, ⟨2, _⟩ => ⟨S2x8192x512, .bf16⟩
  | .hbm, ⟨3, _⟩ => ⟨S2x8192x512, .f32⟩
  | .local _ .vmem, ⟨0, _⟩ => ⟨S1x256x256, .bf16⟩
  | .local _ .vmem, ⟨1, _⟩ => ⟨S1x256x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x256x128, .f32⟩
  | .local _ .vmem, ⟨7, _⟩ => ⟨S1x256x128, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 32], ![false, false, false]⟩

@[reducible] def k0_t1_loop : Scf.Loop 32 :=
  let c0_i32 : BitVec 32 := 0#32
  let c16_i32 : BitVec 32 := 16#32
  let v5 : BitVec 32 := Scalar.addi c0_i32 c16_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32 : BitVec 32 := 512#32
  let v22 : BitVec 32 := Scalar.muli arg7 c512_i32
  v22
def k0_off1 (k0_t1 : Fin k0_t1_loop.trips) : Fin 3 → Nat :=
  let c0_17 : Index := 0#32
  let c0_i32 : BitVec 32 := 0#32
  let c1_i32 : BitVec 32 := 1#32
  let arg7 : BitVec 32 := Scf.iv c0_i32 c1_i32 k0_t1
  let c512_i32 : BitVec 32 := 512#32
  let v22 : BitVec 32 := Scalar.muli arg7 c512_i32
  let v23 : BitVec 32 := v22
  let v24 : Index := Scalar.indexCast v23
  let c0_18 : Index := 0#32
  ![0, v24.toNat, 0]
def k0_off2 (k0_t1 : Fin k0_t1_loop.trips) : Fin 3 → Nat :=
  let c0_19 : Index := 0#32
  let c0_i32 : BitVec 32 := 0#32
  let c1_i32 : BitVec 32 := 1#32
  let arg7 : BitVec 32 := Scf.iv c0_i32 c1_i32 k0_t1
  let c512_i32 : BitVec 32 := 512#32
  let v22 : BitVec 32 := Scalar.muli arg7 c512_i32
  let v23 : BitVec 32 := v22
  let v27 : Index := Scalar.indexCast v23
  let c0_20 : Index := 0#32
  ![0, v27.toNat, 0]
@[reducible] def k0_t2_loop : Scf.Loop 32 :=
  let c0_i32_10 : BitVec 32 := 0#32
  let c16_i32_11 : BitVec 32 := 16#32
  let v14 : BitVec 32 := Scalar.addi c0_i32_10 c16_i32_11
  let c1_i32_12 : BitVec 32 := 1#32
  ⟨c0_i32_10, v14, c1_i32_12⟩
def k0_mult2 (k0_t2 : Fin k0_t2_loop.trips) : BitVec 32 :=
  let c0_i32_10 : BitVec 32 := 0#32
  let c1_i32_12 : BitVec 32 := 1#32
  let arg7 : BitVec 32 := Scf.iv c0_i32_10 c1_i32_12 k0_t2
  let c512_i32 : BitVec 32 := 512#32
  let v22 : BitVec 32 := Scalar.muli arg7 c512_i32
  v22
def k0_off3 (k0_t2 : Fin k0_t2_loop.trips) : Fin 3 → Nat :=
  let c0_17 : Index := 0#32
  let c0_i32_10 : BitVec 32 := 0#32
  let c1_i32_12 : BitVec 32 := 1#32
  let arg7 : BitVec 32 := Scf.iv c0_i32_10 c1_i32_12 k0_t2
  let c512_i32 : BitVec 32 := 512#32
  let v22 : BitVec 32 := Scalar.muli arg7 c512_i32
  let v23 : BitVec 32 := v22
  let v24 : Index := Scalar.indexCast v23
  let c128_18 : Index := 128#32
  ![0, v24.toNat, 128]
def k0_off4 (k0_t2 : Fin k0_t2_loop.trips) : Fin 3 → Nat :=
  let c0_19 : Index := 0#32
  let c0_i32_10 : BitVec 32 := 0#32
  let c1_i32_12 : BitVec 32 := 1#32
  let arg7 : BitVec 32 := Scf.iv c0_i32_10 c1_i32_12 k0_t2
  let c512_i32 : BitVec 32 := 512#32
  let v22 : BitVec 32 := Scalar.muli arg7 c512_i32
  let v23 : BitVec 32 := v22
  let v27 : Index := Scalar.indexCast v23
  let c64 : Index := 64#32
  ![0, v27.toNat, 64]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttentionRefIdeal.lean ====
abbrev S2x8192x1024 : Shape := ⟨3, ![2, 8192, 1024]⟩
abbrev S2x8192x512 : Shape := ⟨3, ![2, 8192, 512]⟩
abbrev S2x8192x8x128 : Shape := ⟨4, ![2, 8192, 8, 128]⟩
abbrev S2x8192x8x64 : Shape := ⟨4, ![2, 8192, 8, 64]⟩
abbrev S2x8x8192x8192 : Shape := ⟨4, ![2, 8, 8192, 8192]⟩
abbrev S_ : Shape := ⟨0, ![]⟩
abbrev S2x8x8192 : Shape := ⟨3, ![2, 8, 8192]⟩
abbrev S2x8x8192x1 : Shape := ⟨4, ![2, 8, 8192, 1]⟩
abbrev S2x8x64x8192 : Shape := ⟨4, ![2, 8, 64, 8192]⟩

abbrev nBuf : Space → Nat
  | .hbm => 27
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .bf16⟩
  | .hbm, ⟨2, _⟩ => ⟨S2x8192x512, .bf16⟩
  | .hbm, ⟨3, _⟩ => ⟨S2x8192x1024, .f32⟩
  | .hbm, ⟨4, _⟩ => ⟨S2x8192x8x128, .f32⟩
  | .hbm, ⟨5, _⟩ => ⟨S2x8192x1024, .f32⟩
  | .hbm, ⟨6, _⟩ => ⟨S2x8192x8x128, .f32⟩
  | .hbm, ⟨7, _⟩ => ⟨S2x8192x512, .f32⟩
  | .hbm, ⟨8, _⟩ => ⟨S2x8192x8x64, .f32⟩
  | .hbm, ⟨9, _⟩ => ⟨S2x8x8192x8192, .f32⟩
  | .hbm, ⟨10, _⟩ => ⟨S_, .f32⟩
  | .hbm, ⟨11, _⟩ => ⟨S2x8x8192, .f32⟩
  | .hbm, ⟨12, _⟩ => ⟨S_, .f32⟩
  | .hbm, ⟨13, _⟩ => ⟨S2x8x8192, .f32⟩
  | .hbm, ⟨14, _⟩ => ⟨S2x8x8192, .f32⟩
  | .hbm, ⟨15, _⟩ => ⟨S2x8x8192x1, .f32⟩
  | .hbm, ⟨16, _⟩ => ⟨S2x8x8192x8192, .f32⟩
  | .hbm, ⟨17, _⟩ => ⟨S2x8x8192x8192, .f32⟩
  | .hbm, ⟨18, _⟩ => ⟨S2x8x8192x8192, .f32⟩
  | .hbm, ⟨19, _⟩ => ⟨S_, .f32⟩
  | .hbm, ⟨20, _⟩ => ⟨S2x8x8192, .f32⟩
  | .hbm, ⟨21, _⟩ => ⟨S2x8x8192x1, .f32⟩
  | .hbm, ⟨22, _⟩ => ⟨S2x8x8192x8192, .f32⟩
  | .hbm, ⟨23, _⟩ => ⟨S2x8x8192x8192, .f32⟩
  | .hbm, ⟨24, _⟩ => ⟨S2x8x64x8192, .f32⟩
  | .hbm, ⟨25, _⟩ => ⟨S2x8192x8x64, .f32⟩
  | .hbm, ⟨26, _⟩ => ⟨S2x8192x512, .f32⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Experts.lean ====
abbrev S2x16x1024x1024 : Shape := ⟨4, ![2, 16, 1024, 1024]⟩
abbrev S16x1024x2048 : Shape := ⟨3, ![16, 1024, 2048]⟩
abbrev S16x2048x1024 : Shape := ⟨3, ![16, 2048, 1024]⟩
abbrev S2x16x1536x1024 : Shape := ⟨4, ![2, 16, 1536, 1024]⟩
abbrev S2x1x1024x1024 : Shape := ⟨4, ![2, 1, 1024, 1024]⟩
abbrev S1x1024x512 : Shape := ⟨3, ![1, 1024, 512]⟩
abbrev S1x512x1024 : Shape := ⟨3, ![1, 512, 1024]⟩
abbrev S2x1x1536x1024 : Shape := ⟨4, ![2, 1, 1536, 1024]⟩
abbrev S2048x1024 : Shape := ⟨2, ![2048, 1024]⟩
abbrev S2x1024x1024 : Shape := ⟨3, ![2, 1024, 1024]⟩
abbrev S1024x512 : Shape := ⟨2, ![1024, 512]⟩
abbrev S2048x512 : Shape := ⟨2, ![2048, 512]⟩
abbrev S512x1024 : Shape := ⟨2, ![512, 1024]⟩
abbrev S2x512x1024 : Shape := ⟨3, ![2, 512, 1024]⟩
abbrev S2x1x512x1024 : Shape := ⟨4, ![2, 1, 512, 1024]⟩

abbrev nBuf : Space → Nat
  | .hbm => 5
  | .vmem => 11
  | .smem => 0
  | _ => 0

abbrev bufTy : (tb : Table) → Fin (tcTables nBuf tb) → BufTy
  | .hbm, ⟨0, _⟩ => ⟨S2x16x1024x1024, .bf16⟩
  | .hbm, ⟨1, _⟩ => ⟨S16x1024x2048, .f32⟩
  | .hbm, ⟨2, _⟩ => ⟨S16x1024x2048, .f32⟩
  | .hbm, ⟨3, _⟩ => ⟨S16x2048x1024, .f32⟩
  | .hbm, ⟨4, _⟩ => ⟨S2x16x1536x1024, .bf16⟩
  | .local _ .vmem, ⟨0, _⟩ => ⟨S2x1x1024x1024, .bf16⟩
  | .local _ .vmem, ⟨1, _⟩ => ⟨S2x1x1024x1024, .bf16⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S2x1x1536x1024, .bf16⟩
  | .local _ .vmem, ⟨9, _⟩ => ⟨S2x1x1536x1024, .bf16⟩
  | .local _ .vmem, ⟨10, _⟩ => ⟨S2048x1024, .f32⟩
  | _, _ => ⟨S2x16x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v25 : BitVec 1 := Scalar.cmpi .eq arg1 c3_i32
  let v26 : BitVec 32 := Scalar.extui v25
  let c0_i32_17 : BitVec 32 := 0#32
  let v27 : BitVec 1 := Scalar.cmpi .ne v26 c0_i32_17
  v27

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2x1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x1536x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertsRefIdeal.lean ====
abbrev S2x16x1024x1024 : Shape := ⟨4, ![2, 16, 1024, 1024]⟩
abbrev S16x1024x2048 : Shape := ⟨3, ![16, 1024, 2048]⟩
abbrev S16x2048x1024 : Shape := ⟨3, ![16, 2048, 1024]⟩
abbrev S16x2048x2x1024 : Shape := ⟨4, ![16, 2048, 2, 1024]⟩
abbrev S2x16x1024x2048 : Shape := ⟨4, ![2, 16, 1024, 2048]⟩
abbrev S_ : Shape := ⟨0, ![]⟩
abbrev S16x1024x2x1024 : Shape := ⟨4, ![16, 1024, 2, 1024]⟩
abbrev S2x16x1536x1024 : Shape := ⟨4, ![2, 16, 1536, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2x16x1024x1024, .bf16⟩
  | .hbm, ⟨1, _⟩ => ⟨S16x1024x2048, .f32⟩
  | .hbm, ⟨2, _⟩ => ⟨S16x1024x2048, .f32⟩
  | .hbm, ⟨3, _⟩ => ⟨S16x2048x1024, .f32⟩
  | .hbm, ⟨4, _⟩ => ⟨S2x16x1024x1024, .f32⟩
  | .hbm, ⟨5, _⟩ => ⟨S16x2048x2x1024, .f32⟩
  | .hbm, ⟨6, _⟩ => ⟨S2x16x1024x2048, .f32⟩
  | .hbm, ⟨7, _⟩ => ⟨S16x2048x2x1024, .f32⟩
  | .hbm, ⟨8, _⟩ => ⟨S2x16x1024x2048, .f32⟩
  | .hbm, ⟨9, _⟩ => ⟨S2x16x1024x2048, .f32⟩
  | .hbm, ⟨10, _⟩ => ⟨S2x16x1024x2048, .f32⟩
  | .hbm, ⟨11, _⟩ => ⟨S_, .f32⟩
  | .hbm, ⟨12, _⟩ => ⟨S2x16x1024x2048, .f32⟩
  | .hbm, ⟨13, _⟩ => ⟨S2x16x1024x2048, .f32⟩
  | .hbm, ⟨14, _⟩ => ⟨S_, .f32⟩
  | .hbm, ⟨15, _⟩ => ⟨S2x16x1024x2048, .f32⟩
  | .hbm, ⟨16, _⟩ => ⟨S2x16x1024x2048, .f32⟩
  | .hbm, ⟨17, _⟩ => ⟨S2x16x1024x2048, .f32⟩
  | .hbm, ⟨18, _⟩ => ⟨S2x16x1024x2048, .f32⟩
  | .hbm, ⟨19, _⟩ => ⟨S16x1024x2x1024, .f32⟩
  | .hbm, ⟨20, _⟩ => ⟨S2x16x1024x1024, .f32⟩
  | .hbm, ⟨21, _⟩ => ⟨S_, .i32⟩
  | .hbm, ⟨22, _⟩ => ⟨S_, .f32⟩
  | .hbm, ⟨23, _⟩ => ⟨S2x16x1536x1024, .f32⟩
  | .hbm, ⟨24, _⟩ => ⟨S2x16x1536x1024, .bf16⟩
  | _, _ => ⟨S2x16x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩

abbrev nD : Nat := 1
abbrev τ : Topo := Topo.v7x

variable {F : FTy → Type} [FloatOps F]
-- ==== Projections.lean ====
abbrev S16384x1024 : Shape := ⟨2, ![16384, 1024]⟩
abbrev S1024 : Shape := ⟨1, ![1024]⟩
abbrev S1024x2216 : Shape := ⟨2, ![1024, 2216]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S16384x128 : Shape := ⟨2, ![16384, 128]⟩
abbrev S1024x256 : Shape := ⟨2, ![1024, 256]⟩
abbrev S1024x128 : Shape := ⟨2, ![1024, 128]⟩
abbrev S1024x32 : Shape := ⟨2, ![1024, 32]⟩
abbrev S1024x768 : Shape := ⟨2, ![1024, 768]⟩
abbrev S1024x8 : Shape := ⟨2, ![1024, 8]⟩
abbrev S_ : Shape := ⟨0, ![]⟩
abbrev S1024x64 : Shape := ⟨2, ![1024, 64]⟩
abbrev S1024x16 : Shape := ⟨2, ![1024, 16]⟩
abbrev S1024x2560 : Shape := ⟨2, ![1024, 2560]⟩
abbrev S256x8x96 : Shape := ⟨3, ![256, 8, 96]⟩
abbrev S256x8x64 : Shape := ⟨3, ![256, 8, 64]⟩
abbrev S256x8x32 : Shape := ⟨3, ![256, 8, 32]⟩
abbrev S256x8x128 : Shape := ⟨3, ![256, 8, 128]⟩
abbrev S256x1024 : Shape := ⟨2, ![256, 1024]⟩
abbrev S256x8x16 : Shape := ⟨3, ![256, 8, 16]⟩
abbrev S128x8x128 : Shape := ⟨3, ![128, 8, 128]⟩
abbrev S128x8x64 : Shape := ⟨3, ![128, 8, 64]⟩
abbrev S128x512 : Shape := ⟨2, ![128, 512]⟩
abbrev S1x1024 : Shape := ⟨2, ![1, 1024]⟩
abbrev S1x256 : Shape := ⟨2, ![1, 256]⟩
abbrev S1x128 : Shape := ⟨2, ![1, 128]⟩
abbrev S16384x512 : Shape := ⟨2, ![16384, 512]⟩
abbrev S16384x768 : Shape := ⟨2, ![16384, 768]⟩
abbrev S16384x256 : Shape := ⟨2, ![16384, 256]⟩
abbrev S512x1024 : Shape := ⟨2, ![512, 1024]⟩
abbrev S512x128 : Shape := ⟨2, ![512, 128]⟩
abbrev S512x512 : Shape := ⟨2, ![512, 512]⟩
abbrev S512x768 : Shape := ⟨2, ![512, 768]⟩
abbrev S512x256 : Shape := ⟨2, ![512, 256]⟩
abbrev S512 : Shape := ⟨1, ![512]⟩
abbrev S512x1 : Shape := ⟨2, ![512, 1]⟩
abbrev S512x2560 : Shape := ⟨2, ![512, 2560]⟩

abbrev nBuf : Space → Nat
  | .hbm => 70
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2216, .f32⟩
  | .hbm, ⟨3, _⟩ => ⟨S256, .f32⟩
  | .hbm, ⟨4, _⟩ => ⟨S256x768, .f32⟩
  | .hbm, ⟨5, _⟩ => ⟨S128, .f32⟩
  | .hbm, ⟨6, _⟩ => ⟨S128x1024, .f32⟩
  | .hbm, ⟨7, _⟩ => ⟨S16384x128, .f32⟩
  | .hbm, ⟨8, _⟩ => ⟨S16384x128, .f32⟩
  | .hbm, ⟨9, _⟩ => ⟨S1024x256, .f32⟩
  | .hbm, ⟨10, _⟩ => ⟨S1024x128, .f32⟩
  | .hbm, ⟨11, _⟩ => ⟨S1024x32, .f32⟩
  | .hbm, ⟨12, _⟩ => ⟨S1024x768, .f32⟩
  | .hbm, ⟨13, _⟩ => ⟨S1024x256, .f32⟩
  | .hbm, ⟨14, _⟩ => ⟨S1024x768, .f32⟩
  | .hbm, ⟨15, _⟩ => ⟨S1024x8, .f32⟩
  | .hbm, ⟨16, _⟩ => ⟨S_, .f32⟩
  | .hbm, ⟨17, _⟩ => ⟨S1024x64, .f32⟩
  | .hbm, ⟨18, _⟩ => ⟨S_, .f32⟩
  | .hbm, ⟨19, _⟩ => ⟨S1024x32, .f32⟩
  | .hbm, ⟨20, _⟩ => ⟨S1024x128, .f32⟩
  | .hbm, ⟨21, _⟩ => ⟨S_, .f32⟩
  | .hbm, ⟨22, _⟩ => ⟨S1024x64, .f32⟩
  | .hbm, ⟨23, _⟩ => ⟨S1024x16, .f32⟩
  | .hbm, ⟨24, _⟩ => ⟨S1024x16, .f32⟩
  | .hbm, ⟨25, _⟩ => ⟨S1024x16, .f32⟩
  | .hbm, ⟨26, _⟩ => ⟨S_, .f32⟩
  | .hbm, ⟨27, _⟩ => ⟨S1024x32, .f32⟩
  | .hbm, ⟨28, _⟩ => ⟨S1024x128, .f32⟩
  | .hbm, ⟨29, _⟩ => ⟨S_, .i32⟩
  | .hbm, ⟨30, _⟩ => ⟨S_, .f32⟩
  | .hbm, ⟨31, _⟩ => ⟨S1024x128, .f32⟩
  | .hbm, ⟨32, _⟩ => ⟨S1024x2560, .f32⟩
  | .hbm, ⟨33, _⟩ => ⟨S1024x2560, .bf16⟩
  | .hbm, ⟨34, _⟩ => ⟨S256x8x96, .f32⟩
  | .hbm, ⟨35, _⟩ => ⟨S256x8x64, .f32⟩
  | .hbm, ⟨36, _⟩ => ⟨S256x8x32, .f32⟩
  | .hbm, ⟨37, _⟩ => ⟨S_, .f32⟩
  | .hbm, ⟨38, _⟩ => ⟨S256x8x32, .f32⟩
  | .hbm, ⟨39, _⟩ => ⟨S256x8x128, .f32⟩
  | .hbm, ⟨40, _⟩ => ⟨S256x1024, .f32⟩
  | .hbm, ⟨41, _⟩ => ⟨S_, .f32⟩
  | .hbm, ⟨42, _⟩ => ⟨S256x8x64, .f32⟩
  | .hbm, ⟨43, _⟩ => ⟨S256x8x16, .f32⟩
  | .hbm, ⟨44, _⟩ => ⟨S256x8x16, .f32⟩
  | .hbm, ⟨45, _⟩ => ⟨S256x8x16, .f32⟩
  | .hbm, ⟨46, _⟩ => ⟨S256x8x128, .f32⟩
  | .hbm, ⟨47, _⟩ => ⟨S256x1024, .f32⟩
  | .hbm, ⟨48, _⟩ => ⟨S128x8x128, .f32⟩
  | .hbm, ⟨49, _⟩ => ⟨S128x8x64, .f32⟩
  | .hbm, ⟨50, _⟩ => ⟨S128x8x64, .f32⟩
  | .hbm, ⟨51, _⟩ => ⟨S_, .f32⟩
  | .hbm, ⟨52, _⟩ => ⟨S128x8x64, .f32⟩
  | .hbm, ⟨53, _⟩ => ⟨S128x8x128, .f32⟩
  | .hbm, ⟨54, _⟩ => ⟨S128x1024, .f32⟩
  | .hbm, ⟨55, _⟩ => ⟨S128x512, .f32⟩
  | .hbm, ⟨56, _⟩ => ⟨S256x1024, .bf16⟩
  | .hbm, ⟨57, _⟩ => ⟨S256x1024, .bf16⟩
  | .hbm, ⟨58, _⟩ => ⟨S128x1024, .bf16⟩
  | .hbm, ⟨59, _⟩ => ⟨S128x512, .bf16⟩
  | .hbm, ⟨60, _⟩ => ⟨S1x1024, .f32⟩
  | .hbm, ⟨61, _⟩ => ⟨S1x256, .f32⟩
  | .hbm, ⟨62, _⟩ => ⟨S1x128, .f32⟩
  | .hbm, ⟨63, _⟩ => ⟨S16384x1024, .bf16⟩
  | .hbm, ⟨64, _⟩ => ⟨S16384x1024, .bf16⟩
  | .hbm, ⟨65, _⟩ => ⟨S16384x512, .bf16⟩
  | .hbm, ⟨66, _⟩ => ⟨S16384x768, .f32⟩
  | .hbm, ⟨67, _⟩ => ⟨S16384x256, .f32⟩
  | .hbm, ⟨68, _⟩ => ⟨S16384x768, .f32⟩
  | .hbm, ⟨69, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S1x256, .f32⟩
  | .local _ .vmem, ⟨5, _⟩ => ⟨S256x1024, .bf16⟩
  | .local _ .vmem, ⟨6, _⟩ => ⟨S256x1024, .bf16⟩
  | .local _ .vmem, ⟨7, _⟩ => ⟨S1x128, .f32⟩
  | .local _ .vmem, ⟨8, _⟩ => ⟨S128x1024, .bf16⟩
  | .local _ .vmem, ⟨9, _⟩ => ⟨S128x512, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x512, .bf16⟩
  | .local _ .vmem, ⟨19, _⟩ => ⟨S512x512, .bf16⟩
  | .local _ .vmem, ⟨20, _⟩ => ⟨S512x768, .f32⟩
  | .local _ .vmem, ⟨21, _⟩ => ⟨S512x768, .f32⟩
  | .local _ .vmem, ⟨22, _⟩ => ⟨S512x256, .f32⟩
  | .local _ .vmem, ⟨23, _⟩ => ⟨S512x256, .f32⟩
  | .local _ .vmem, ⟨24, _⟩ => ⟨S512x768, .f32⟩
  | .local _ .vmem, ⟨25, _⟩ => ⟨S512x768, .f32⟩
  | .local _ .vmem, ⟨26, _⟩ => ⟨S512x128, .f32⟩
  | .local _ .vmem, ⟨27, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_call0_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45_0 : Ref sig .tc := ⟨.hbm, 63, rfl⟩
abbrev main_v45_1 : Ref sig .tc := ⟨.hbm, 64, rfl⟩
abbrev main_v45_2 : Ref sig .tc := ⟨.hbm, 65, rfl⟩
abbrev main_v45_3 : Ref sig .tc := ⟨.hbm, 66, rfl⟩
abbrev main_v45_4 : Ref sig .tc := ⟨.hbm, 67, rfl⟩
abbrev main_v45_5 : Ref sig .tc := ⟨.hbm, 68, rfl⟩
abbrev main_v45_6 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x768 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ProjectionsRefIdeal.lean ====
abbrev S16384x1024 : Shape := ⟨2, ![16384, 1024]⟩
abbrev S1024 : Shape := ⟨1, ![1024]⟩
abbrev S1024x2216 : Shape := ⟨2, ![1024, 2216]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S16384x128 : Shape := ⟨2, ![16384, 128]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2216 : Shape := ⟨2, ![16384, 2216]⟩
abbrev S16384x256 : Shape := ⟨2, ![16384, 256]⟩
abbrev S16384x32 : Shape := ⟨2, ![16384, 32]⟩
abbrev S16384x768 : Shape := ⟨2, ![16384, 768]⟩
abbrev S16384x8 : Shape := ⟨2, ![16384, 8]⟩
abbrev S1x256 : Shape := ⟨2, ![1, 256]⟩
abbrev S16384x8x96 : Shape := ⟨3, ![16384, 8, 96]⟩
abbrev S1x128 : Shape := ⟨2, ![1, 128]⟩
abbrev S16384x8x128 : Shape := ⟨3, ![16384, 8, 128]⟩
abbrev S16384x8x64 : Shape := ⟨3, ![16384, 8, 64]⟩
abbrev S16384x8x32 : Shape := ⟨3, ![16384, 8, 32]⟩
abbrev S16384x16 : Shape := ⟨2, ![16384, 16]⟩
abbrev S16384x1x16 : Shape := ⟨3, ![16384, 1, 16]⟩
abbrev S16384x8x16 : Shape := ⟨3, ![16384, 8, 16]⟩
abbrev S16384x1x32 : Shape := ⟨3, ![16384, 1, 32]⟩
abbrev S16384x512 : Shape := ⟨2, ![16384, 512]⟩

abbrev nBuf : Space → Nat
  | .hbm => 121
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2216, .f32⟩
  | .hbm, ⟨3, _⟩ => ⟨S256, .f32⟩
  | .hbm, ⟨4, _⟩ => ⟨S256x768, .f32⟩
  | .hbm, ⟨5, _⟩ => ⟨S128, .f32⟩
  | .hbm, ⟨6, _⟩ => ⟨S128x1024, .f32⟩
  | .hbm, ⟨7, _⟩ => ⟨S16384x128, .f32⟩
  | .hbm, ⟨8, _⟩ => ⟨S16384x128, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x2216, .f32⟩
  | .hbm, ⟨26, _⟩ => ⟨S16384x256, .f32⟩
  | .hbm, ⟨27, _⟩ => ⟨S16384x128, .f32⟩
  | .hbm, ⟨28, _⟩ => ⟨S16384x32, .f32⟩
  | .hbm, ⟨29, _⟩ => ⟨S16384x768, .f32⟩
  | .hbm, ⟨30, _⟩ => ⟨S16384x256, .f32⟩
  | .hbm, ⟨31, _⟩ => ⟨S16384x768, .f32⟩
  | .hbm, ⟨32, _⟩ => ⟨S16384x8, .f32⟩
  | .hbm, ⟨33, _⟩ => ⟨S16384x256, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x256, .f32⟩
  | .hbm, ⟨45, _⟩ => ⟨S16384x256, .f32⟩
  | .hbm, ⟨46, _⟩ => ⟨S1x256, .f32⟩
  | .hbm, ⟨47, _⟩ => ⟨S16384x256, .f32⟩
  | .hbm, ⟨48, _⟩ => ⟨S16384x256, .f32⟩
  | .hbm, ⟨49, _⟩ => ⟨S16384x768, .f32⟩
  | .hbm, ⟨50, _⟩ => ⟨S16384x8x96, .f32⟩
  | .hbm, ⟨51, _⟩ => ⟨S16384x128, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1, .f32⟩
  | .hbm, ⟨62, _⟩ => ⟨S16384x128, .f32⟩
  | .hbm, ⟨63, _⟩ => ⟨S16384x128, .f32⟩
  | .hbm, ⟨64, _⟩ => ⟨S1x128, .f32⟩
  | .hbm, ⟨65, _⟩ => ⟨S16384x128, .f32⟩
  | .hbm, ⟨66, _⟩ => ⟨S16384x128, .f32⟩
  | .hbm, ⟨67, _⟩ => ⟨S16384x1024, .f32⟩
  | .hbm, ⟨68, _⟩ => ⟨S16384x8x128, .f32⟩
  | .hbm, ⟨69, _⟩ => ⟨S16384x8x64, .f32⟩
  | .hbm, ⟨70, _⟩ => ⟨S16384x8x32, .f32⟩
  | .hbm, ⟨71, _⟩ => ⟨S16384x8x64, .f32⟩
  | .hbm, ⟨72, _⟩ => ⟨S16384x8x64, .f32⟩
  | .hbm, ⟨73, _⟩ => ⟨S16384x16, .f32⟩
  | .hbm, ⟨74, _⟩ => ⟨S16384x16, .f32⟩
  | .hbm, ⟨75, _⟩ => ⟨S16384x1x16, .f32⟩
  | .hbm, ⟨76, _⟩ => ⟨S16384x1x16, .f32⟩
  | .hbm, ⟨77, _⟩ => ⟨S16384x8x16, .f32⟩
  | .hbm, ⟨78, _⟩ => ⟨S16384x8x16, .f32⟩
  | .hbm, ⟨79, _⟩ => ⟨S16384x8x16, .f32⟩
  | .hbm, ⟨80, _⟩ => ⟨S16384x8x16, .f32⟩
  | .hbm, ⟨81, _⟩ => ⟨S16384x8x16, .f32⟩
  | .hbm, ⟨82, _⟩ => ⟨S16384x8x16, .f32⟩
  | .hbm, ⟨83, _⟩ => ⟨S16384x8x16, .f32⟩
  | .hbm, ⟨84, _⟩ => ⟨S16384x8x16, .f32⟩
  | .hbm, ⟨85, _⟩ => ⟨S16384x8x16, .f32⟩
  | .hbm, ⟨86, _⟩ => ⟨S16384x8x16, .f32⟩
  | .hbm, ⟨87, _⟩ => ⟨S16384x8x16, .f32⟩
  | .hbm, ⟨88, _⟩ => ⟨S16384x8x16, .f32⟩
  | .hbm, ⟨89, _⟩ => ⟨S16384x8x32, .f32⟩
  | .hbm, ⟨90, _⟩ => ⟨S16384x16, .f32⟩
  | .hbm, ⟨91, _⟩ => ⟨S16384x16, .f32⟩
  | .hbm, ⟨92, _⟩ => ⟨S16384x16, .f32⟩
  | .hbm, ⟨93, _⟩ => ⟨S16384x16, .f32⟩
  | .hbm, ⟨94, _⟩ => ⟨S16384x16, .f32⟩
  | .hbm, ⟨95, _⟩ => ⟨S16384x16, .f32⟩
  | .hbm, ⟨96, _⟩ => ⟨S16384x16, .f32⟩
  | .hbm, ⟨97, _⟩ => ⟨S16384x16, .f32⟩
  | .hbm, ⟨98, _⟩ => ⟨S16384x32, .f32⟩
  | .hbm, ⟨99, _⟩ => ⟨S16384x8x96, .f32⟩
  | .hbm, ⟨100, _⟩ => ⟨S_, .f32⟩
  | .hbm, ⟨101, _⟩ => ⟨S16384x8x96, .f32⟩
  | .hbm, ⟨102, _⟩ => ⟨S16384x8x96, .f32⟩
  | .hbm, ⟨103, _⟩ => ⟨S16384x1x32, .f32⟩
  | .hbm, ⟨104, _⟩ => ⟨S16384x8x32, .f32⟩
  | .hbm, ⟨105, _⟩ => ⟨S16384x8x96, .f32⟩
  | .hbm, ⟨106, _⟩ => ⟨S_, .i32⟩
  | .hbm, ⟨107, _⟩ => ⟨S_, .f32⟩
  | .hbm, ⟨108, _⟩ => ⟨S16384x8x128, .f32⟩
  | .hbm, ⟨109, _⟩ => ⟨S16384x1024, .f32⟩
  | .hbm, ⟨110, _⟩ => ⟨S16384x1024, .bf16⟩
  | .hbm, ⟨111, _⟩ => ⟨S_, .i32⟩
  | .hbm, ⟨112, _⟩ => ⟨S_, .f32⟩
  | .hbm, ⟨113, _⟩ => ⟨S16384x8x128, .f32⟩
  | .hbm, ⟨114, _⟩ => ⟨S16384x1024, .f32⟩
  | .hbm, ⟨115, _⟩ => ⟨S16384x1024, .bf16⟩
  | .hbm, ⟨116, _⟩ => ⟨S16384x512, .f32⟩
  | .hbm, ⟨117, _⟩ => ⟨S16384x512, .bf16⟩
  | .hbm, ⟨118, _⟩ => ⟨S_, .i32⟩
  | .hbm, ⟨119, _⟩ => ⟨S_, .f32⟩
  | .hbm, ⟨120, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_cst_8 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_c : Ref sig .tc := ⟨.hbm, 106, rfl⟩
abbrev main_call0_v0 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_c_9 : Ref sig .tc := ⟨.hbm, 111, rfl⟩
abbrev main_call1_v0 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_c_10 : Ref sig .tc := ⟨.hbm, 118, rfl⟩
abbrev main_call2_v0 : Ref sig .tc := ⟨.hbm, 119, rfl⟩
abbrev main_v95 : Ref sig .tc := ⟨.hbm, 120, rfl⟩

abbrev nD : Nat := 1
abbrev τ : Topo := Topo.v7x

variable {F : FTy → Type} [FloatOps F]
-- ==== Output.lean ====
abbrev S16384x512 : Shape := ⟨2, ![16384, 512]⟩
abbrev S16384x256 : Shape := ⟨2, ![16384, 256]⟩
abbrev S16384x768 : Shape := ⟨2, ![16384, 768]⟩
abbrev S16384x1024 : Shape := ⟨2, ![16384, 1024]⟩
abbrev S512 : Shape := ⟨1, ![512]⟩
abbrev S256 : Shape := ⟨1, ![256]⟩
abbrev S4 : Shape := ⟨1, ![4]⟩
abbrev S1024x1024 : Shape := ⟨2, ![1024, 1024]⟩
abbrev S1024 : Shape := ⟨1, ![1024]⟩
abbrev S1024x16 : Shape := ⟨2, ![1024, 16]⟩
abbrev S4x64 : Shape := ⟨2, ![4, 64]⟩
abbrev S1x256 : Shape := ⟨2, ![1, 256]⟩
abbrev S1x512 : Shape := ⟨2, ![1, 512]⟩
abbrev S1x1024 : Shape := ⟨2, ![1, 1024]⟩
abbrev S16x1024 : Shape := ⟨2, ![16, 1024]⟩
abbrev S2x16x8192 : Shape := ⟨3, ![2, 16, 8192]⟩
abbrev S256x512 : Shape := ⟨2, ![256, 512]⟩
abbrev S256x256 : Shape := ⟨2, ![256, 256]⟩
abbrev S256x1024 : Shape := ⟨2, ![256, 1024]⟩
abbrev S1x16x256 : Shape := ⟨3, ![1, 16, 256]⟩
abbrev S256x1 : Shape := ⟨2, ![256, 1]⟩
abbrev S256x128 : Shape := ⟨2, ![256, 128]⟩
abbrev S1x128 : Shape := ⟨2, ![1, 128]⟩
abbrev S16x256 : Shape := ⟨2, ![16, 256]⟩

abbrev nBuf : Space → Nat
  | .hbm => 26
  | .vmem => 27
  | .smem => 0
  | _ => 0

abbrev bufTy : (tb : Table) → Fin (tcTables nBuf tb) → BufTy
  | .hbm, ⟨0, _⟩ => ⟨S16384x512, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x768, .f32⟩
  | .hbm, ⟨5, _⟩ => ⟨S16384x256, .f32⟩
  | .hbm, ⟨6, _⟩ => ⟨S16384x1024, .f32⟩
  | .hbm, ⟨7, _⟩ => ⟨S512, .f32⟩
  | .hbm, ⟨8, _⟩ => ⟨S256, .f32⟩
  | .hbm, ⟨9, _⟩ => ⟨S4, .f32⟩
  | .hbm, ⟨10, _⟩ => ⟨S256, .f32⟩
  | .hbm, ⟨11, _⟩ => ⟨S1024x1024, .f32⟩
  | .hbm, ⟨12, _⟩ => ⟨S1024, .f32⟩
  | .hbm, ⟨13, _⟩ => ⟨S1024x16, .f32⟩
  | .hbm, ⟨14, _⟩ => ⟨S4x64, .f32⟩
  | .hbm, ⟨15, _⟩ => ⟨S256, .f32⟩
  | .hbm, ⟨16, _⟩ => ⟨S1x256, .f32⟩
  | .hbm, ⟨17, _⟩ => ⟨S1x512, .f32⟩
  | .hbm, ⟨18, _⟩ => ⟨S1x256, .f32⟩
  | .hbm, ⟨19, _⟩ => ⟨S1x256, .f32⟩
  | .hbm, ⟨20, _⟩ => ⟨S1024x1024, .bf16⟩
  | .hbm, ⟨21, _⟩ => ⟨S1x1024, .f32⟩
  | .hbm, ⟨22, _⟩ => ⟨S16x1024, .f32⟩
  | .hbm, ⟨23, _⟩ => ⟨S16384x1024, .f32⟩
  | .hbm, ⟨24, _⟩ => ⟨S16384x1024, .bf16⟩
  | .hbm, ⟨25, _⟩ => ⟨S2x16x8192, .f32⟩
  | .local _ .vmem, ⟨0, _⟩ => ⟨S256x512, .f32⟩
  | .local _ .vmem, ⟨1, _⟩ => ⟨S256x512, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x1024, .f32⟩
  | .local _ .vmem, ⟨13, _⟩ => ⟨S256x1024, .f32⟩
  | .local _ .vmem, ⟨14, _⟩ => ⟨S1x512, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1024x1024, .bf16⟩
  | .local _ .vmem, ⟨19, _⟩ => ⟨S1x1024, .f32⟩
  | .local _ .vmem, ⟨20, _⟩ => ⟨S16x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .bf16⟩
  | .local _ .vmem, ⟨24, _⟩ => ⟨S256x1024, .bf16⟩
  | .local _ .vmem, ⟨25, _⟩ => ⟨S1x16x256, .f32⟩
  | .local _ .vmem, ⟨26, _⟩ => ⟨S1x16x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev main_v9_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x16x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== OutputRefIdeal.lean ====
abbrev S16384x512 : Shape := ⟨2, ![16384, 512]⟩
abbrev S16384x256 : Shape := ⟨2, ![16384, 256]⟩
abbrev S16384x768 : Shape := ⟨2, ![16384, 768]⟩
abbrev S16384x1024 : Shape := ⟨2, ![16384, 1024]⟩
abbrev S512 : Shape := ⟨1, ![512]⟩
abbrev S256 : Shape := ⟨1, ![256]⟩
abbrev S4 : Shape := ⟨1, ![4]⟩
abbrev S1024x1024 : Shape := ⟨2, ![1024, 1024]⟩
abbrev S1024 : Shape := ⟨1, ![1024]⟩
abbrev S1024x16 : Shape := ⟨2, ![1024, 16]⟩
abbrev S16384x4x64 : Shape := ⟨3, ![16384, 4, 64]⟩
abbrev S4x1 : Shape := ⟨2, ![4, 1]⟩
abbrev S1x4x1 : Shape := ⟨3, ![1, 4, 1]⟩
abbrev S_ : Shape := ⟨0, ![]⟩
abbrev S16384x2x128 : Shape := ⟨3, ![16384, 2, 128]⟩
abbrev S2x128 : Shape := ⟨2, ![2, 128]⟩
abbrev S16384x2 : Shape := ⟨2, ![16384, 2]⟩
abbrev S16384x2x1 : Shape := ⟨3, ![16384, 2, 1]⟩
abbrev S1x2x128 : Shape := ⟨3, ![1, 2, 128]⟩
abbrev S16384 : Shape := ⟨1, ![16384]⟩
abbrev S16384x1 : Shape := ⟨2, ![16384, 1]⟩
abbrev S1x512 : Shape := ⟨2, ![1, 512]⟩
abbrev S1x256 : Shape := ⟨2, ![1, 256]⟩
abbrev S1x1024 : Shape := ⟨2, ![1, 1024]⟩
abbrev S16384x16 : Shape := ⟨2, ![16384, 16]⟩
abbrev S2x8192x16 : Shape := ⟨3, ![2, 8192, 16]⟩
abbrev S2x8192 : Shape := ⟨2, ![2, 8192]⟩
abbrev S2x8192x1 : Shape := ⟨3, ![2, 8192, 1]⟩
abbrev S2x16x8192 : Shape := ⟨3, ![2, 16, 8192]⟩

abbrev nBuf : Space → Nat
  | .hbm => 122
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x768, .f32⟩
  | .hbm, ⟨5, _⟩ => ⟨S16384x256, .f32⟩
  | .hbm, ⟨6, _⟩ => ⟨S16384x1024, .f32⟩
  | .hbm, ⟨7, _⟩ => ⟨S512, .f32⟩
  | .hbm, ⟨8, _⟩ => ⟨S256, .f32⟩
  | .hbm, ⟨9, _⟩ => ⟨S4, .f32⟩
  | .hbm, ⟨10, _⟩ => ⟨S256, .f32⟩
  | .hbm, ⟨11, _⟩ => ⟨S1024x1024, .f32⟩
  | .hbm, ⟨12, _⟩ => ⟨S1024, .f32⟩
  | .hbm, ⟨13, _⟩ => ⟨S1024x16, .f32⟩
  | .hbm, ⟨14, _⟩ => ⟨S16384x256, .f32⟩
  | .hbm, ⟨15, _⟩ => ⟨S16384x4x64, .f32⟩
  | .hbm, ⟨16, _⟩ => ⟨S16384x256, .f32⟩
  | .hbm, ⟨17, _⟩ => ⟨S16384x4x64, .f32⟩
  | .hbm, ⟨18, _⟩ => ⟨S4x1, .f32⟩
  | .hbm, ⟨19, _⟩ => ⟨S1x4x1, .f32⟩
  | .hbm, ⟨20, _⟩ => ⟨S16384x4x64, .f32⟩
  | .hbm, ⟨21, _⟩ => ⟨S16384x4x64, .f32⟩
  | .hbm, ⟨22, _⟩ => ⟨S16384x4x64, .f32⟩
  | .hbm, ⟨23, _⟩ => ⟨S16384x256, .f32⟩
  | .hbm, ⟨24, _⟩ => ⟨S16384x256, .f32⟩
  | .hbm, ⟨25, _⟩ => ⟨S16384x256, .f32⟩
  | .hbm, ⟨26, _⟩ => ⟨S_, .f32⟩
  | .hbm, ⟨27, _⟩ => ⟨S16384x256, .f32⟩
  | .hbm, ⟨28, _⟩ => ⟨S16384x256, .f32⟩
  | .hbm, ⟨29, _⟩ => ⟨S_, .f32⟩
  | .hbm, ⟨30, _⟩ => ⟨S16384x256, .f32⟩
  | .hbm, ⟨31, _⟩ => ⟨S16384x256, .f32⟩
  | .hbm, ⟨32, _⟩ => ⟨S16384x256, .f32⟩
  | .hbm, ⟨33, _⟩ => ⟨S16384x256, .f32⟩
  | .hbm, ⟨34, _⟩ => ⟨S16384x2x128, .f32⟩
  | .hbm, ⟨35, _⟩ => ⟨S2x128, .f32⟩
  | .hbm, ⟨36, _⟩ => ⟨S16384x2x128, .f32⟩
  | .hbm, ⟨37, _⟩ => ⟨S_, .f32⟩
  | .hbm, ⟨38, _⟩ => ⟨S16384x2, .f32⟩
  | .hbm, ⟨39, _⟩ => ⟨S16384x2x1, .f32⟩
  | .hbm, ⟨40, _⟩ => ⟨S_, .f32⟩
  | .hbm, ⟨41, _⟩ => ⟨S16384x2x1, .f32⟩
  | .hbm, ⟨42, _⟩ => ⟨S16384x2x1, .f32⟩
  | .hbm, ⟨43, _⟩ => ⟨S_, .f32⟩
  | .hbm, ⟨44, _⟩ => ⟨S16384x2x1, .f32⟩
  | .hbm, ⟨45, _⟩ => ⟨S16384x2x1, .f32⟩
  | .hbm, ⟨46, _⟩ => ⟨S16384x2x1, .f32⟩
  | .hbm, ⟨47, _⟩ => ⟨S16384x2x128, .f32⟩
  | .hbm, ⟨48, _⟩ => ⟨S16384x2x128, .f32⟩
  | .hbm, ⟨49, _⟩ => ⟨S1x2x128, .f32⟩
  | .hbm, ⟨50, _⟩ => ⟨S16384x2x128, .f32⟩
  | .hbm, ⟨51, _⟩ => ⟨S16384x2x128, .f32⟩
  | .hbm, ⟨52, _⟩ => ⟨S16384x256, .f32⟩
  | .hbm, ⟨53, _⟩ => ⟨S16384x512, .f32⟩
  | .hbm, ⟨54, _⟩ => ⟨S_, .f32⟩
  | .hbm, ⟨55, _⟩ => ⟨S16384, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S16384x1, .f32⟩
  | .hbm, ⟨64, _⟩ => ⟨S16384x512, .f32⟩
  | .hbm, ⟨65, _⟩ => ⟨S16384x512, .f32⟩
  | .hbm, ⟨66, _⟩ => ⟨S1x512, .f32⟩
  | .hbm, ⟨67, _⟩ => ⟨S16384x512, .f32⟩
  | .hbm, ⟨68, _⟩ => ⟨S16384x512, .f32⟩
  | .hbm, ⟨69, _⟩ => ⟨S16384x256, .f32⟩
  | .hbm, ⟨70, _⟩ => ⟨S_, .f32⟩
  | .hbm, ⟨71, _⟩ => ⟨S16384, .f32⟩
  | .hbm, ⟨72, _⟩ => ⟨S16384x1, .f32⟩
  | .hbm, ⟨73, _⟩ => ⟨S_, .f32⟩
  | .hbm, ⟨74, _⟩ => ⟨S16384x1, .f32⟩
  | .hbm, ⟨75, _⟩ => ⟨S16384x1, .f32⟩
  | .hbm, ⟨76, _⟩ => ⟨S_, .f32⟩
  | .hbm, ⟨77, _⟩ => ⟨S16384x1, .f32⟩
  | .hbm, ⟨78, _⟩ => ⟨S16384x1, .f32⟩
  | .hbm, ⟨79, _⟩ => ⟨S16384x1, .f32⟩
  | .hbm, ⟨80, _⟩ => ⟨S16384x256, .f32⟩
  | .hbm, ⟨81, _⟩ => ⟨S16384x256, .f32⟩
  | .hbm, ⟨82, _⟩ => ⟨S1x256, .f32⟩
  | .hbm, ⟨83, _⟩ => ⟨S16384x256, .f32⟩
  | .hbm, ⟨84, _⟩ => ⟨S16384x256, .f32⟩
  | .hbm, ⟨85, _⟩ => ⟨S16384x1024, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S_, .f32⟩
  | .hbm, ⟨90, _⟩ => ⟨S16384, .f32⟩
  | .hbm, ⟨91, _⟩ => ⟨S16384x1, .f32⟩
  | .hbm, ⟨92, _⟩ => ⟨S_, .f32⟩
  | .hbm, ⟨93, _⟩ => ⟨S16384x1, .f32⟩
  | .hbm, ⟨94, _⟩ => ⟨S16384x1, .f32⟩
  | .hbm, ⟨95, _⟩ => ⟨S_, .f32⟩
  | .hbm, ⟨96, _⟩ => ⟨S16384x1, .f32⟩
  | .hbm, ⟨97, _⟩ => ⟨S16384x1, .f32⟩
  | .hbm, ⟨98, _⟩ => ⟨S16384x1, .f32⟩
  | .hbm, ⟨99, _⟩ => ⟨S16384x1024, .f32⟩
  | .hbm, ⟨100, _⟩ => ⟨S16384x1024, .f32⟩
  | .hbm, ⟨101, _⟩ => ⟨S1x1024, .f32⟩
  | .hbm, ⟨102, _⟩ => ⟨S16384x1024, .f32⟩
  | .hbm, ⟨103, _⟩ => ⟨S16384x1024, .f32⟩
  | .hbm, ⟨104, _⟩ => ⟨S16384x16, .f32⟩
  | .hbm, ⟨105, _⟩ => ⟨S2x8192x16, .f32⟩
  | .hbm, ⟨106, _⟩ => ⟨S_, .f32⟩
  | .hbm, ⟨107, _⟩ => ⟨S2x8192, .f32⟩
  | .hbm, ⟨108, _⟩ => ⟨S_, .f32⟩
  | .hbm, ⟨109, _⟩ => ⟨S2x8192, .f32⟩
  | .hbm, ⟨110, _⟩ => ⟨S2x8192, .f32⟩
  | .hbm, ⟨111, _⟩ => ⟨S2x8192x1, .f32⟩
  | .hbm, ⟨112, _⟩ => ⟨S2x8192x16, .f32⟩
  | .hbm, ⟨113, _⟩ => ⟨S2x8192x16, .f32⟩
  | .hbm, ⟨114, _⟩ => ⟨S2x8192x16, .f32⟩
  | .hbm, ⟨115, _⟩ => ⟨S_, .f32⟩
  | .hbm, ⟨116, _⟩ => ⟨S2x8192, .f32⟩
  | .hbm, ⟨117, _⟩ => ⟨S2x8192x1, .f32⟩
  | .hbm, ⟨118, _⟩ => ⟨S2x8192x16, .f32⟩
  | .hbm, ⟨119, _⟩ => ⟨S2x8192x16, .f32⟩
  | .hbm, ⟨120, _⟩ => ⟨S16384x1024, .bf16⟩
  | .hbm, ⟨121, _⟩ => ⟨S2x16x8192, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst : Ref sig .tc := ⟨.hbm, 37, rfl⟩
abbrev main_v15 : Ref sig .tc := ⟨.hbm, 38, rfl⟩
abbrev main_v16 : Ref sig .tc := ⟨.hbm, 39, rfl⟩
abbrev main_cst_0 : Ref sig .tc := ⟨.hbm, 40, rfl⟩
abbrev main_v17 : Ref sig .tc := ⟨.hbm, 41, rfl⟩
abbrev main_v18 : Ref sig .tc := ⟨.hbm, 42, rfl⟩
abbrev main_cst_1 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_2 : Ref sig .tc := ⟨.hbm, 54, rfl⟩
abbrev main_v29 : Ref sig .tc := ⟨.hbm, 55, rfl⟩
abbrev main_v30 : Ref sig .tc := ⟨.hbm, 56, rfl⟩
abbrev main_cst_3 : Ref sig .tc := ⟨.hbm, 57, rfl⟩
abbrev main_v31 : Ref sig .tc := ⟨.hbm, 58, rfl⟩
abbrev main_v32 : Ref sig .tc := ⟨.hbm, 59, rfl⟩
abbrev main_cst_4 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_5 : Ref sig .tc := ⟨.hbm, 70, rfl⟩
abbrev main_v42 : Ref sig .tc := ⟨.hbm, 71, rfl⟩
abbrev main_v43 : Ref sig .tc := ⟨.hbm, 72, rfl⟩
abbrev main_cst_6 : Ref sig .tc := ⟨.hbm, 73, rfl⟩
abbrev main_v44 : Ref sig .tc := ⟨.hbm, 74, rfl⟩
abbrev main_v45 : Ref sig .tc := ⟨.hbm, 75, rfl⟩
abbrev main_cst_7 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_8 : Ref sig .tc := ⟨.hbm, 89, rfl⟩
abbrev main_v58 : Ref sig .tc := ⟨.hbm, 90, rfl⟩
abbrev main_v59 : Ref sig .tc := ⟨.hbm, 91, rfl⟩
abbrev main_cst_9 : Ref sig .tc := ⟨.hbm, 92, rfl⟩
abbrev main_v60 : Ref sig .tc := ⟨.hbm, 93, rfl⟩
abbrev main_v61 : Ref sig .tc := ⟨.hbm, 94, rfl⟩
abbrev main_cst_10 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_11 : Ref sig .tc := ⟨.hbm, 106, rfl⟩
abbrev main_v72 : Ref sig .tc := ⟨.hbm, 107, rfl⟩
abbrev main_cst_12 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_13 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩

abbrev nD : Nat := 1
abbrev τ : Topo := Topo.v7x

variable {F : FTy → Type} [FloatOps F]
-- ==== Last.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== LastRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Softmax.lean ====
/-
  Softmax over the extended reals, and its computation block by block with a running maximum. The scores are finite
  (each is the coercion of a real); the values they weight may be any extended reals.
-/
module

public import Idealize.ShloMosaic.PureOps.Ideal
public import Mathlib.Data.EReal.Operations

@[expose] public section

noncomputable section

namespace Cert.Attn

open Idealize.ShloMosaic

/-- The largest of the first `n` scores, `⊥` for none. -/
def top (s : ℕ → EReal) (n : ℕ) : EReal := (Finset.range n).sup s

/-- The first `n` values weighted by the exponentials of their scores less `m`. -/
def wsum (s v : ℕ → EReal) (m : EReal) (n : ℕ) : EReal := ∑ j ∈ Finset.range n, Ideal.exp (s j - m) * v j

/-- One row of softmax attention: the values weighted by the normalised exponentials of the scores. -/
def attnRow {N : ℕ} (s v : Fin N → EReal) : EReal :=
  ∑ j, v j * Ideal.div (Ideal.exp (s j - Finset.univ.fold max ⊥ s)) (∑ i, Ideal.exp (s i - Finset.univ.fold max ⊥ s))

/-- A family over `Fin N` continued by zeros. -/
def ext {N : ℕ} (f : Fin N → EReal) : ℕ → EReal := fun j => if h : j < N then f ⟨j, h⟩ else 0

theorem ext_of_lt {N : ℕ} (f : Fin N → EReal) (j : ℕ) (h : j < N) : ext f j = f ⟨j, h⟩ := dif_pos h

/-- Every entry of the family is a real number. -/
def Finite {ι : Type} (s : ι → EReal) : Prop := ∀ j, ∃ r : ℝ, s j = (r : EReal)

theorem finite_ext {N : ℕ} {f : Fin N → EReal} (h : Finite f) : Finite (ext f) := fun j => by
  by_cases hj : j < N
  · rw [ext_of_lt f j hj]; exact h _
  · exact ⟨0, by rw [ext, dif_neg hj]; rfl⟩

theorem fold_max_eq_sup {ι : Type} [DecidableEq ι] (t : Finset ι) (f : ι → EReal) : t.fold max ⊥ f = t.sup f := rfl

/-- The largest of a positive number of finite scores is finite. -/
theorem top_finite {s : ℕ → EReal} (hs : Finite s) {n : ℕ} (hn : 0 < n) : ∃ r : ℝ, top s n = (r : EReal) := by
  obtain ⟨j, _, hj⟩ := Finset.exists_mem_eq_sup (Finset.range n) ⟨0, Finset.mem_range.mpr hn⟩ s
  obtain ⟨r, hr⟩ := hs j
  exact ⟨r, by rw [top, hj, hr]⟩

/-- The running maximum after one more block. -/
theorem top_add (s : ℕ → EReal) (n b : ℕ) :
    max (top s n) (Finset.univ.fold max ⊥ fun i : Fin b => s (n + i)) = top s (n + b) := by
  rw [fold_max_eq_sup]
  apply le_antisymm
  · refine max_le (Finset.sup_mono fun j hj => ?_) (Finset.sup_le fun i _ => ?_)
    · rw [Finset.mem_range] at hj ⊢; omega
    · exact Finset.le_sup (f := s) (Finset.mem_range.mpr (Nat.add_lt_add_left i.isLt n))
  · refine Finset.sup_le fun j hj => ?_
    rw [Finset.mem_range] at hj
    by_cases hjn : j < n
    · exact le_max_of_le_left (Finset.le_sup (f := s) (Finset.mem_range.mpr hjn))
    · refine le_max_of_le_right ?_
      have h := Finset.le_sup (f := fun i : Fin b => s (n + i)) (Finset.mem_univ (⟨j - n, by omega⟩ : Fin b))
      have e : n + (j - n) = j := by omega
      simpa only [e] using h

/-- The coercion of a real sum is the sum of the coercions. -/
theorem coe_sum {ι : Type} (t : Finset ι) (f : ι → ℝ) : ((∑ j ∈ t, f j : ℝ) : EReal) = ∑ j ∈ t, (f j : EReal) := by
  classical
  induction t using Finset.induction_on with
  | empty => simp
  | insert a t ha ih => rw [Finset.sum_insert ha, Finset.sum_insert ha, EReal.coe_add, ih]

/-- A nonnegative real factor moves into a sum of extended reals, whatever its terms. -/
theorem sum_mul_real {ι : Type} (t : Finset ι) (f : ι → EReal) {c : ℝ} (hc : 0 ≤ c) :
    (∑ j ∈ t, f j) * (c : EReal) = ∑ j ∈ t, f j * (c : EReal) := by
  classical
  induction t using Finset.induction_on with
  | empty => simp
  | insert a t ha ih =>
    rw [Finset.sum_insert ha, Finset.sum_insert ha, ← ih]
    exact EReal.right_distrib_of_nonneg_of_ne_top (EReal.coe_nonneg.mpr hc) (EReal.coe_ne_top c) _ _

/-- The weighted sum after one more block: what came before is scaled by the exponential of the maximum's change. -/
theorem wsum_add {s : ℕ → EReal} (hs : Finite s) (v : ℕ → EReal) (n : ℕ) {b : ℕ} (hb : 0 < b) :
    wsum s v (top s n) n * Ideal.exp (top s n - top s (n + b))
        + ∑ i : Fin b, Ideal.exp (s (n + i) - top s (n + b)) * v (n + i)
      = wsum s v (top s (n + b)) (n + b) := by
  obtain ⟨M, hM⟩ := top_finite hs (n := n + b) (by omega)
  rw [wsum, wsum, Finset.sum_range_add, Finset.sum_range (fun i => Ideal.exp (s (n + i) - top s (n + b)) * v (n + i))]
  congr 1
  rcases Nat.eq_zero_or_pos n with rfl | hn
  · simp
  · obtain ⟨m, hm⟩ := top_finite hs hn
    rw [hM, hm, ← EReal.coe_sub, Ideal.exp_coe, sum_mul_real _ _ (Real.exp_pos _).le]
    refine Finset.sum_congr rfl fun j _ => ?_
    obtain ⟨r, hr⟩ := hs j
    rw [hr, ← EReal.coe_sub, ← EReal.coe_sub, Ideal.exp_coe, Ideal.exp_coe, mul_right_comm, ← EReal.coe_mul,
      ← Real.exp_add]
    rw [show r - m + (m - M) = r - M by ring]

/-- The sum of the weights after one more block. -/
theorem wone_add {s : ℕ → EReal} (hs : Finite s) (n : ℕ) {b : ℕ} (hb : 0 < b) :
    wsum s (fun _ => 1) (top s n) n * Ideal.exp (top s n - top s (n + b))
        + ∑ i : Fin b, Ideal.exp (s (n + i) - top s (n + b))
      = wsum s (fun _ => 1) (top s (n + b)) (n + b) := by
  have h := wsum_add hs (fun _ => 1) n hb
  simpa only [mul_one] using h

theorem top_ext {N : ℕ} (s : Fin N → EReal) : top (ext s) N = Finset.univ.fold max ⊥ s := by
  have h := top_add (ext s) 0 N
  rw [show top (ext s) 0 = ⊥ from rfl, max_bot_left, Nat.zero_add] at h
  rw [← h]
  congr 1; funext i
  rw [Nat.zero_add, ext_of_lt s i i.isLt]

/-- The quotient of the two running sums over all the scores is the row of softmax attention. -/
theorem div_wsum {N : ℕ} (hN : 0 < N) {s : Fin N → EReal} (hs : Finite s) (v : Fin N → EReal) :
    Ideal.div (wsum (ext s) (ext v) (top (ext s) N) N) (wsum (ext s) (fun _ => 1) (top (ext s) N) N) = attnRow s v := by
  obtain ⟨M, hM⟩ := top_finite (finite_ext hs) hN
  choose r hr using hs
  rw [attnRow, ← top_ext, hM, wsum, wsum, Finset.sum_range, Finset.sum_range]
  have hL : ∀ i : Fin N, Ideal.exp (s i - (M : EReal)) = ((Real.exp (r i - M) : ℝ) : EReal) := fun i => by
    rw [hr i, ← EReal.coe_sub, Ideal.exp_coe]
  have hS : ∑ i : Fin N, Ideal.exp (s i - (M : EReal)) = ((∑ i : Fin N, Real.exp (r i - M) : ℝ) : EReal) := by
    rw [coe_sum]; exact Finset.sum_congr rfl fun i _ => hL i
  have hpos : 0 < ∑ i : Fin N, Real.exp (r i - M) :=
    Finset.sum_pos (fun i _ => Real.exp_pos _) ⟨⟨0, hN⟩, Finset.mem_univ _⟩
  have h1 : ∑ i : Fin N, Ideal.exp (ext s i - (M : EReal)) * 1 = ((∑ i : Fin N, Real.exp (r i - M) : ℝ) : EReal) := by
    rw [← hS]; exact Finset.sum_congr rfl fun i _ => by rw [mul_one, ext_of_lt s i i.isLt]
  rw [h1, hS, Ideal.div_coe hpos.ne', sum_mul_real _ _ (one_div_pos.mpr hpos).le]
  refine Finset.sum_congr rfl fun j _ => ?_
  rw [Ideal.div_coe hpos.ne', ext_of_lt s j j.isLt, ext_of_lt v j j.isLt, mul_comm (Ideal.exp _), mul_assoc]

/-- A dot product of finite entries is finite. -/
theorem finite_dot {ι : Type} [Fintype ι] {a b : ι → EReal} (ha : Finite a) (hb : Finite b) :
    ∃ r : ℝ, ∑ d, a d * b d = (r : EReal) := by
  choose x hx using ha
  choose y hy using hb
  exact ⟨∑ d, x d * y d, by
    rw [coe_sum]; exact Finset.sum_congr rfl fun d _ => by rw [hx, hy, EReal.coe_mul]⟩

end Cert.Attn

end
-- ==== Proof.AttnPay.lean ====
/-
  The values the attention's loop body computes, read at an index: the scores of one block of keys, the running
  maximum, the running sum of weights and the running weighted sum of values.
-/
module

public import proofs.«01_k».proof.Proof.Gen.AttentionIdeal.Skeleton
public import proofs.«01_k».proof.Proof.Softmax
public import Idealize.ShloMosaic.Lib.Pointwise

@[expose] public section

noncomputable section

namespace Cert.Attn

open Cert.AttentionIdeal Cert.AttentionIdeal.Gen Idealize.ShloMosaic

/-- The word of −∞ reads as the least extended real. -/
theorem ofBits_neg_inf : Ideal.ofBits .f32 0xFF800000#32 = ⊥ := by
  show Ideal.ieee 8 23 0xFF800000#32 = ⊥
  unfold Ideal.ieee
  simp

/-- The score of query row `r` of a block against key row `j` of a block. -/
theorem pay4_apply (q : Vec Ideal S1x256x128 .bf16) (k : Vec Ideal S1x512x128 .bf16) (r : Fin 256) (j : Fin 512) :
    k0_pay4 q k (ix2 r j) = ∑ d : Fin 128, q (ix3 0 r d) * k (ix3 0 j d) := by
  pointwise [k0_pay4]

theorem pay5_apply (q : Vec Ideal S1x256x128 .bf16) (m : FVec Ideal S256x1 .f32) (k : Vec Ideal S1x512x128 .bf16) (r : Fin 256) :
    k0_pay5 q m k (ix2 r 0)
      = max (m (ix2 r 0)) (Finset.univ.fold max ⊥ fun j : Fin 512 => ∑ d : Fin 128, q (ix3 0 r d) * k (ix3 0 j d)) := by
  pointwise [k0_pay5, k0_pay4, ofBits_neg_inf]

theorem pay6_apply (q : Vec Ideal S1x256x128 .bf16) (m : FVec Ideal S256x1 .f32) (k : Vec Ideal S1x512x128 .bf16) (r : Fin 256) :
    k0_pay6 q m k (ix2 r 0) = Ideal.exp (m (ix2 r 0) - k0_pay5 q m k (ix2 r 0)) := by
  pointwise [k0_pay6]

theorem pay8_apply (q : Vec Ideal S1x256x128 .bf16) (m l : FVec Ideal S256x1 .f32) (k : Vec Ideal S1x512x128 .bf16) (r : Fin 256) :
    k0_pay8 q m l k (ix2 r 0)
      = l (ix2 r 0) * Ideal.exp (m (ix2 r 0) - k0_pay5 q m k (ix2 r 0))
        + ∑ j : Fin 512, Ideal.exp ((∑ d : Fin 128, q (ix3 0 r d) * k (ix3 0 j d)) - k0_pay5 q m k (ix2 r 0)) := by
  pointwise [k0_pay8, k0_pay6, k0_pay7, k0_pay4]

theorem pay9_apply (q : Vec Ideal S1x256x128 .bf16) (m : FVec Ideal S256x1 .f32) (a : FVec Ideal S256x64 .f32)
    (k : Vec Ideal S1x512x128 .bf16) (v : Vec Ideal S1x512x64 .bf16) (r : Fin 256) (e : Fin 64) :
    k0_pay9 q m a k v (ix2 r e)
      = a (ix2 r e) * Ideal.exp (m (ix2 r 0) - k0_pay5 q m k (ix2 r 0))
        + ∑ j : Fin 512, Ideal.exp ((∑ d : Fin 128, q (ix3 0 r d) * k (ix3 0 j d)) - k0_pay5 q m k (ix2 r 0)) * v (ix3 0 j e) := by
  pointwise [k0_pay9, k0_pay6, k0_pay7, k0_pay4]

/-- The second head's body computes the first's functions. -/
theorem pay14_eq : k0_pay14 (F := Ideal) = k0_pay5 := rfl
theorem pay17_eq : k0_pay17 (F := Ideal) = k0_pay8 := rfl
theorem pay18_eq : k0_pay18 (F := Ideal) = k0_pay9 := rfl

theorem pay1_apply (i : S256x1.Idx) : k0_pay1 (F := Ideal) i = ⊥ := by pointwise [k0_pay1, ofBits_neg_inf]
theorem pay2_apply (i : S256x1.Idx) : k0_pay2 (F := Ideal) i = 0 := by pointwise [k0_pay2]
theorem pay3_apply (i : S256x64.Idx) : k0_pay3 (F := Ideal) i = 0 := by pointwise [k0_pay3]
theorem pay10_eq : k0_pay10 (F := Ideal) = k0_pay1 := rfl
theorem pay11_eq : k0_pay11 (F := Ideal) = k0_pay2 := rfl
theorem pay12_eq : k0_pay12 (F := Ideal) = k0_pay3 := rfl

/-- The block the body stores: the first head's quotients in its first 64 columns. -/
theorem pay19_fst (l : FVec Ideal S256x1 .f32) (a : FVec Ideal S256x64 .f32) (l' : FVec Ideal S256x1 .f32) (a' : FVec Ideal S256x64 .f32)
    (r : Fin 256) (c : Fin 128) (h : c.val < 64) :
    k0_pay19 l a l' a' (ix3 0 r c) = Ideal.div (a (ix2 r ⟨c.val, h⟩)) (l (ix2 r 0)) := by
  pointwise [k0_pay19]
  rw [dif_pos h]

/-- … and the second's in its last 64. -/
theorem pay19_snd (l : FVec Ideal S256x1 .f32) (a : FVec Ideal S256x64 .f32) (l' : FVec Ideal S256x1 .f32) (a' : FVec Ideal S256x64 .f32)
    (r : Fin 256) (c : Fin 128) (h : ¬ c.val < 64) :
    k0_pay19 l a l' a' (ix3 0 r c) = Ideal.div (a' (ix2 r ⟨c.val - 64, by omega⟩)) (l' (ix2 r 0)) := by
  pointwise [k0_pay19]
  rw [dif_neg h]

end Cert.Attn

end
-- ==== Proof.AttnBlock.lean ====
/-
  What the attention's body leaves in one block of its result: each row of a head's 64 columns is a row of softmax
  attention over all the keys. The loop over blocks of 512 keys keeps the running maximum, the running sum of weights
  and the running weighted sum of values of the keys met so far.
-/
module

public import proofs.«01_k».proof.Proof.AttnPay
public import proofs.«01_k».proof.Proof.Gen.AttentionIdeal.Value
public import Idealize.ShloMosaic.Lib.Tactic

@[expose] public section

noncomputable section

namespace Cert.Attn

open Cert.AttentionIdeal Cert.AttentionIdeal.Gen Idealize.ShloMosaic Idealize.ShloMosaic.TcCoe Idealize.SL.Sem

/-- What the loop carries: the running maximum, the sum of weights and the weighted sum of values, row by row. -/
abbrev Carried : Type := FVec Ideal S256x1 .f32 × FVec Ideal S256x1 .f32 × FVec Ideal S256x64 .f32

/-- One trip's carried value from the one before, the block's queries, keys and values. -/
def trip (q : Vec Ideal S1x256x128 .bf16) (k : Vec Ideal S1x512x128 .bf16) (v : Vec Ideal S1x512x64 .bf16) (acc : Carried) : Carried :=
  (k0_pay5 q acc.1 k, k0_pay8 q acc.1 acc.2.1 k, k0_pay9 q acc.1 acc.2.2 k v)

/-- The carried value holds, at row `r` and column `e`, the running quantities of the first `n` keys. -/
structure Holds (s w : ℕ → EReal) (r : Fin 256) (e : Fin 64) (n : ℕ) (acc : Carried) : Prop where
  max_eq : acc.1 (ix2 r 0) = top s n
  sum_eq : acc.2.1 (ix2 r 0) = wsum s (fun _ => 1) (top s n) n
  out_eq : acc.2.2 (ix2 r e) = wsum s w (top s n) n

theorem holds_init (s w : ℕ → EReal) (r : Fin 256) (e : Fin 64) : Holds s w r e 0 (k0_pay1, k0_pay2, k0_pay3) where
  max_eq := pay1_apply (ix2 r 0)
  sum_eq := (pay2_apply (ix2 r 0)).trans (by simp [wsum])
  out_eq := (pay3_apply (ix2 r e)).trans (by simp [wsum])

/-- One trip takes the running quantities of `n` keys to those of `n + 512`. -/
theorem holds_trip {s w : ℕ → EReal} (hs : Finite s) {r : Fin 256} {e : Fin 64} {n : ℕ} {acc : Carried}
    (h : Holds s w r e n acc) (q : Vec Ideal S1x256x128 .bf16) (k : Vec Ideal S1x512x128 .bf16) (v : Vec Ideal S1x512x64 .bf16)
    (hk : ∀ j : Fin 512, ∑ d : Fin 128, q (ix3 0 r d) * k (ix3 0 j d) = s (n + j))
    (hv : ∀ j : Fin 512, v (ix3 0 j e) = w (n + j)) : Holds s w r e (n + 512) (trip q k v acc) := by
  have hm : k0_pay5 q acc.1 k (ix2 r 0) = top s (n + 512) := by
    rw [pay5_apply, h.max_eq, ← top_add s n 512]
    simp only [hk]
  refine ⟨hm, ?_, ?_⟩
  · show k0_pay8 q acc.1 acc.2.1 k (ix2 r 0) = _
    rw [pay8_apply, hm, h.max_eq, h.sum_eq, ← wone_add hs n (by decide : 0 < 512)]
    simp only [hk]
  · show k0_pay9 q acc.1 acc.2.2 k v (ix2 r e) = _
    rw [pay9_apply, hm, h.max_eq, h.out_eq, ← wsum_add hs w n (by decide : 0 < 512)]
    simp only [hk, hv]

section Runs

variable (𝒱 : Variants) (c : Dev nD) (bd : Option 𝒱.V) (i : grid0.Coords)
  (a3 : Memref sig .tc .vmem S1x256x256 .bf16) (h3 : a3.IsWhole) (a4 : Memref sig .tc .vmem S1x8192x256 .bf16) (h4 : a4.IsWhole)
  (a5 : Memref sig .tc .vmem S1x8192x128 .bf16) (h5 : a5.IsWhole) (a6 : Memref sig .tc .vmem S1x256x128 .f32) (h6 : a6.IsWhole)
  (q : Vec Ideal S1x256x128 .bf16) (K : Vec Ideal S1x8192x256 .bf16) (V : Vec Ideal S1x8192x128 .bf16)

/-- One trip of the first head's loop, from the blocks of keys and values it loads. -/
theorem trip1_eq (k : Fin k0_t1_loop.trips) (acc : Carried) :
    tripR_k0_t1 𝒱 c bd i a3 h3 a4 h4 a5 h5 a6 h6 q (h4.unread K) (h5.unread V) k acc
      = trip q (View.ld K (Rect.unit (s := S1x8192x256) (k0_off1 k) S1x512x128.size (k0_off1_inb k)))
          (View.ld V (Rect.unit (s := S1x8192x128) (k0_off2 k) S1x512x64.size (k0_off2_inb k))) acc := by
  unfold tripR_k0_t1 trip_k0_t1
  dsimp only
  simp only [View.readAt_eq_ld, h4.read_unread, h5.read_unread]
  rfl

/-- One trip of the second head's loop. -/
theorem trip2_eq (k : Fin k0_t2_loop.trips) (acc : Carried) :
    tripR_k0_t2 𝒱 c bd i a3 h3 a4 h4 a5 h5 a6 h6 q (h4.unread K) (h5.unread V) k acc
      = trip q (View.ld K (Rect.unit (s := S1x8192x256) (k0_off3 k) S1x512x128.size (k0_off3_inb k)))
          (View.ld V (Rect.unit (s := S1x8192x128) (k0_off4 k) S1x512x64.size (k0_off4_inb k))) acc := by
  unfold tripR_k0_t2 trip_k0_t2
  dsimp only
  simp only [View.readAt_eq_ld, h4.read_unread, h5.read_unread, pay14_eq, pay17_eq, pay18_eq]
  rfl

end Runs

theorem trips1 : k0_t1_loop.trips = 16 := by decide
theorem trips2 : k0_t2_loop.trips = 16 := by decide

/-- The scores of one head (its columns from `o`) of a block's query row `r` against every key. -/
def score (Q : Vec Ideal S1x256x256 .bf16) (K : Vec Ideal S1x8192x256 .bf16) (o : ℕ) (ho : o ≤ 128) (r : Fin 256) (j : Fin 8192) : EReal :=
  ∑ d : Fin 128, Q (ix3 0 r ⟨o + d, by omega⟩) * K (ix3 0 j ⟨o + d, by omega⟩)

/-- A block of 512 keys of one head, loaded from row `512 n`. -/
theorem ldK_apply (K : Vec Ideal S1x8192x256 .bf16) (off : Fin 3 → ℕ) (inb : ∀ a, off a + S1x512x128.size a ≤ S1x8192x256.size a)
    (n o : ℕ) (hn : n < 16) (ho : o ≤ 128) (h : off = ![0, 512 * n, o]) (j : Fin 512) (d : Fin 128) :
    View.ld K (Rect.unit (s := S1x8192x256) off S1x512x128.size inb) (ix3 0 j d)
      = K (ix3 0 ⟨512 * n + j, by omega⟩ ⟨o + d, by omega⟩) := by
  subst h
  pointwise

theorem ldV_apply (V : Vec Ideal S1x8192x128 .bf16) (off : Fin 3 → ℕ) (inb : ∀ a, off a + S1x512x64.size a ≤ S1x8192x128.size a)
    (n o : ℕ) (hn : n < 16) (ho : o ≤ 64) (h : off = ![0, 512 * n, o]) (j : Fin 512) (e : Fin 64) :
    View.ld V (Rect.unit (s := S1x8192x128) off S1x512x64.size inb) (ix3 0 j e)
      = V (ix3 0 ⟨512 * n + j, by omega⟩ ⟨o + e, by omega⟩) := by
  subst h
  pointwise

theorem ldQ_apply (Q : Vec Ideal S1x256x256 .bf16) (off : Fin 3 → ℕ) (inb : ∀ a, off a + S1x256x128.size a ≤ S1x256x256.size a)
    (o : ℕ) (ho : o ≤ 128) (h : off = ![0, 0, o]) (r : Fin 256) (d : Fin 128) :
    View.ld Q (Rect.unit (s := S1x256x256) off S1x256x128.size inb) (ix3 0 r d)
      = Q (ix3 0 r ⟨o + d, by omega⟩) := by
  subst h
  pointwise

section Loops

variable (𝒱 : Variants) (c : Dev nD) (bd : Option 𝒱.V) (i : grid0.Coords)
  (a3 : Memref sig .tc .vmem S1x256x256 .bf16) (h3 : a3.IsWhole) (a4 : Memref sig .tc .vmem S1x8192x256 .bf16) (h4 : a4.IsWhole)
  (a5 : Memref sig .tc .vmem S1x8192x128 .bf16) (h5 : a5.IsWhole) (a6 : Memref sig .tc .vmem S1x256x128 .f32) (h6 : a6.IsWhole)
  (Q : Vec Ideal S1x256x256 .bf16) (K : Vec Ideal S1x8192x256 .bf16) (V : Vec Ideal S1x8192x128 .bf16)

/-- The trip over the keys from `512 n` extends the running quantities of one head. -/
theorem holds_block (o ov : ℕ) (ho : o ≤ 128) (hov : ov ≤ 64) (r : Fin 256) (e : Fin 64) (hs : Finite (score Q K o ho r))
    (q : Vec Ideal S1x256x128 .bf16) (hq : ∀ d, q (ix3 0 r d) = Q (ix3 0 r ⟨o + d, by omega⟩))
    (n : ℕ) (hn : n < 16) (offK offV : Fin 3 → ℕ) (inbK : ∀ a, offK a + S1x512x128.size a ≤ S1x8192x256.size a)
    (inbV : ∀ a, offV a + S1x512x64.size a ≤ S1x8192x128.size a) (hK : offK = ![0, 512 * n, o]) (hV : offV = ![0, 512 * n, ov])
    (acc : Carried)
    (h : Holds (ext (score Q K o ho r)) (ext fun j => V (ix3 0 j ⟨ov + e, by omega⟩)) r e (512 * n) acc) :
    Holds (ext (score Q K o ho r)) (ext fun j => V (ix3 0 j ⟨ov + e, by omega⟩)) r e (512 * (n + 1))
      (trip q (View.ld K (Rect.unit (s := S1x8192x256) offK S1x512x128.size inbK))
        (View.ld V (Rect.unit (s := S1x8192x128) offV S1x512x64.size inbV)) acc) := by
  refine holds_trip (finite_ext hs) h q _ _ (fun j => ?_) (fun j => ?_)
  · rw [ext_of_lt _ _ (by omega), score]
    exact Finset.sum_congr rfl fun d _ => by rw [hq, ldK_apply K offK inbK n o hn ho hK]
  · rw [ext_of_lt _ _ (by omega), ldV_apply V offV inbV n ov hn hov hV]

/-- Before trip `n` of the first head's loop: the running quantities of the first `512 n` keys. -/
theorem holds1 (r : Fin 256) (e : Fin 64) (hs : Finite (score Q K 0 (by omega) r))
    (q : Vec Ideal S1x256x128 .bf16) (hq : ∀ d, q (ix3 0 r d) = Q (ix3 0 r ⟨0 + d, by omega⟩)) :
    ∀ n : ℕ, n ≤ 16 → Holds (ext (score Q K 0 (by omega) r)) (ext fun j => V (ix3 0 j ⟨0 + e, by omega⟩)) r e (512 * n)
      (st_k0_t1 𝒱 c bd i a3 h3 a4 h4 a5 h5 a6 h6 q (h4.unread K) (h5.unread V) (k0_pay1, k0_pay2, k0_pay3) n)
  | 0, _ => by rw [st_k0_t1_zero]; exact holds_init _ _ r e
  | n + 1, hn => by
    have hk : n < k0_t1_loop.trips := by rw [trips1]; omega
    rw [st_k0_t1_succ 𝒱 c bd i a3 h3 a4 h4 a5 h5 a6 h6 q _ _ _ ⟨n, hk⟩, trip1_eq]
    exact holds_block Q K V 0 0 (by omega) (by omega) r e hs q hq n (by omega) _ _ (k0_off1_inb ⟨n, hk⟩) (k0_off2_inb ⟨n, hk⟩) (k0_off1_eq ⟨n, hk⟩) (k0_off2_eq ⟨n, hk⟩) _
      (holds1 r e hs q hq n (by omega))

/-- Before trip `n` of the second head's loop. -/
theorem holds2 (r : Fin 256) (e : Fin 64) (hs : Finite (score Q K 128 (by omega) r))
    (q : Vec Ideal S1x256x128 .bf16) (hq : ∀ d, q (ix3 0 r d) = Q (ix3 0 r ⟨128 + d, by omega⟩)) :
    ∀ n : ℕ, n ≤ 16 → Holds (ext (score Q K 128 (by omega) r)) (ext fun j => V (ix3 0 j ⟨64 + e, by omega⟩)) r e (512 * n)
      (st_k0_t2 𝒱 c bd i a3 h3 a4 h4 a5 h5 a6 h6 q (h4.unread K) (h5.unread V) (k0_pay1, k0_pay2, k0_pay3) n)
  | 0, _ => by rw [st_k0_t2_zero]; exact holds_init _ _ r e
  | n + 1, hn => by
    have hk : n < k0_t2_loop.trips := by rw [trips2]; omega
    rw [st_k0_t2_succ 𝒱 c bd i a3 h3 a4 h4 a5 h5 a6 h6 q _ _ _ ⟨n, hk⟩, trip2_eq]
    exact holds_block Q K V 128 64 (by omega) (by omega) r e hs q hq n (by omega) _ _ (k0_off3_inb ⟨n, hk⟩) (k0_off4_inb ⟨n, hk⟩) (k0_off3_eq ⟨n, hk⟩) (k0_off4_eq ⟨n, hk⟩) _
      (holds2 r e hs q hq n (by omega))

/-- The quotient the body stores after all the keys. -/
theorem quotient {s w : Fin 8192 → EReal} (hs : Finite s) {r : Fin 256} {e : Fin 64} {acc : Carried}
    (h : Holds (ext s) (ext w) r e (512 * 16) acc) :
    Ideal.div (acc.2.2 (ix2 r e)) (acc.2.1 (ix2 r 0)) = attnRow s w := by
  rw [h.out_eq, h.sum_eq]
  exact div_wsum (by decide) hs w

theorem hz3 : (![0, 0, 0] : Fin 3 → ℕ) = fun _ => 0 := funext fun a => by fin_cases a <;> rfl

/-- The first head's columns of the block the body leaves. -/
theorem out_fst (r : Fin 256) (x : Fin 128) (hx : x.val < 64) (hs : Finite (score Q K 0 (by omega) r)) :
    out0_A_3 c i a3 h3 a4 h4 a5 h5 a6 h6 Q K V (ix3 0 r x)
      = attnRow (score Q K 0 (by omega) r) (fun j => V (ix3 0 j x)) := by
  unfold out0_A_3
  rw [View.read_writes_eq_canon _ _ _ (cover0_A_3 c i a3 h3 a4 h4 a5 h5 a6 h6 Q K V)]
  unfold kernelRun0_A
  dsimp only
  rw [View.canon_unit_zero hz3, pay19_fst _ _ _ _ r x hx]
  simp only [View.readAt_eq_ld, h3.read_unread]
  rw [show Scf.trips (0#32) (Scalar.addi 0#32 16#32) 1#32 = 16 from trips1]
  rw [quotient hs (holds1 Variants.none c none i a3 h3 a4 h4 a5 h5 a6 h6 Q K V r ⟨x.val, hx⟩ hs _
    (fun d => ldQ_apply Q _ _ 0 (by omega) rfl r d) 16 le_rfl)]
  simp only [Nat.zero_add]

/-- The second head's columns of the block the body leaves. -/
theorem out_snd (r : Fin 256) (x : Fin 128) (hx : ¬ x.val < 64) (hs : Finite (score Q K 128 (by omega) r)) :
    out0_A_3 c i a3 h3 a4 h4 a5 h5 a6 h6 Q K V (ix3 0 r x)
      = attnRow (score Q K 128 (by omega) r) (fun j => V (ix3 0 j x)) := by
  unfold out0_A_3
  rw [View.read_writes_eq_canon _ _ _ (cover0_A_3 c i a3 h3 a4 h4 a5 h5 a6 h6 Q K V)]
  unfold kernelRun0_A
  dsimp only
  rw [View.canon_unit_zero hz3, pay19_snd _ _ _ _ r x hx]
  simp only [View.readAt_eq_ld, h3.read_unread, pay10_eq, pay11_eq, pay12_eq]
  rw [show Scf.trips (0#32) (Scalar.addi 0#32 16#32) 1#32 = 16 from trips2]
  rw [quotient hs (holds2 Variants.none c none i a3 h3 a4 h4 a5 h5 a6 h6 Q K V r ⟨x.val - 64, by omega⟩ hs _
    (fun d => ldQ_apply Q _ _ 128 (by omega) rfl r d) 16 le_rfl)]
  congr 1; funext j; congr 3
  show 64 + (x.val - 64) = x.val
  omega

end Loops

end Cert.Attn

end
-- ==== Proof.AttnArray.lean ====
/-
  The array the attention leaves: every grid point writes the block of one batch, one pair of heads and 256 queries, and
  the blocks tile the result.
-/
module

public import proofs.«01_k».proof.Proof.AttnBlock
public import Idealize.ShloMosaic.Lib.Pipeline.ValueKit

@[expose] public section

set_option maxRecDepth 16384

noncomputable section

namespace Cert.Attn

open Cert.AttentionIdeal Cert.AttentionIdeal.Gen Cert.AttentionIdeal.Value Idealize.ShloMosaic Idealize.ShloMosaic.TcCoe Idealize.SL.Sem
open Idealize.ShloMosaic.Pipeline

/-- The score of query `t` against key `j` of the head that column `c` of the values belongs to. -/
def headScore (q k : S2x8192x1024.Idx → EReal) (b : Fin 2) (t : Fin 8192) (c : Fin 512) (j : Fin 8192) : EReal :=
  ∑ d : Fin 128, q (ix3 b t ⟨128 * (c.val / 64) + d, by omega⟩) * k (ix3 b j ⟨128 * (c.val / 64) + d, by omega⟩)

/-- Softmax attention of query `t` of batch `b` at column `c`. -/
def attnAt (q k : S2x8192x1024.Idx → EReal) (v : S2x8192x512.Idx → EReal) (b : Fin 2) (t : Fin 8192) (c : Fin 512) : EReal :=
  attnRow (headScore q k b t c) (fun j => v (ix3 b j c))

theorem headScore_finite {q k : S2x8192x1024.Idx → EReal} (hq : ∀ i, ∃ r : ℝ, q i = r) (hk : ∀ i, ∃ r : ℝ, k i = r)
    (b : Fin 2) (t : Fin 8192) (c : Fin 512) : Finite (headScore q k b t c) :=
  fun _ => finite_dot (fun _ => hq _) (fun _ => hk _)

theorem index_q (t : Fin cfg0.N) : win0_0.index t = ![(grid0.coords t 0).val, (grid0.coords t 2).val, (grid0.coords t 1).val] := by
  revert t; decide +kernel

theorem index_k (t : Fin cfg0.N) : win0_1.index t = ![(grid0.coords t 0).val, 0, (grid0.coords t 1).val] := by
  revert t; decide +kernel

theorem index_v (t : Fin cfg0.N) : win0_2.index t = ![(grid0.coords t 0).val, 0, (grid0.coords t 1).val] := by
  revert t; decide +kernel

theorem index_o (t : Fin cfg0.N) : win0_3.index t = ![(grid0.coords t 0).val, (grid0.coords t 2).val, (grid0.coords t 1).val] := by
  revert t; decide +kernel

variable (m : (ℓ : Loc nD τ sig) → Buf (Elt Ideal) ℓ)

/-- The arrays the program is given. -/
abbrev argQ (c : Dev nD) : S2x8192x1024.Idx → EReal := m ((c.tc : Thread nD τ).loc main_arg0)
abbrev argK (c : Dev nD) : S2x8192x1024.Idx → EReal := m ((c.tc : Thread nD τ).loc main_arg1)
abbrev argV (c : Dev nD) : S2x8192x512.Idx → EReal := m ((c.tc : Thread nD τ).loc main_arg2)

theorem coord0 (t : Fin cfg0.N) : (grid0.coords t 0).val < 2 := (grid0.coords t 0).isLt
theorem coord1 (t : Fin cfg0.N) : (grid0.coords t 1).val < 4 := (grid0.coords t 1).isLt
theorem coord2 (t : Fin cfg0.N) : (grid0.coords t 2).val < 32 := (grid0.coords t 2).isLt

theorem blk_q (c : Dev nD) (t : Fin cfg0.N) (r : Fin 256) (x : Fin 256) :
    (iblk m c 0 t : Vec Ideal S1x256x256 .bf16) (ix3 0 r x)
      = argQ m c (ix3 ⟨_, coord0 t⟩ ⟨256 * (grid0.coords t 2).val + r, by have := coord2 t; omega⟩
          ⟨256 * (grid0.coords t 1).val + x, by have := coord1 t; omega⟩) := by
  blk_ext [iblk, V, index_q t]

theorem blk_k (c : Dev nD) (t : Fin cfg0.N) (j : Fin 8192) (x : Fin 256) :
    (iblk m c 1 t : Vec Ideal S1x8192x256 .bf16) (ix3 0 j x)
      = argK m c (ix3 ⟨_, coord0 t⟩ j ⟨256 * (grid0.coords t 1).val + x, by have := coord1 t; omega⟩) := by
  blk_ext [iblk, V, index_k t]

theorem blk_v (c : Dev nD) (t : Fin cfg0.N) (j : Fin 8192) (x : Fin 128) :
    (iblk m c 2 t : Vec Ideal S1x8192x128 .bf16) (ix3 0 j x)
      = argV m c (ix3 ⟨_, coord0 t⟩ j ⟨128 * (grid0.coords t 1).val + x, by have := coord1 t; omega⟩) := by
  blk_ext [iblk, V, index_v t]

/-- A block's scores of the head from its column `o` are the arrays' scores of that head. -/
theorem score_eq (c : Dev nD) (t : Fin cfg0.N) (o : ℕ) (ho : o ≤ 128) (r : Fin 256) (x : Fin 128) (hx : 128 * (x.val / 64) = o) :
    score (iblk m c 0 t : Vec Ideal S1x256x256 .bf16) (iblk m c 1 t : Vec Ideal S1x8192x256 .bf16) o ho r
      = headScore (argQ m c) (argK m c) ⟨_, coord0 t⟩ ⟨256 * (grid0.coords t 2).val + r, by have := coord2 t; omega⟩
          ⟨128 * (grid0.coords t 1).val + x, by have := coord1 t; omega⟩ := by
  funext j
  unfold score headScore
  refine Finset.sum_congr rfl fun d _ => ?_
  rw [blk_q, blk_k]
  have e : 256 * (grid0.coords t 1).val + (o + d.val) = 128 * ((128 * (grid0.coords t 1).val + x.val) / 64) + d.val := by omega
  simp only [e]

/-- What a grid point leaves in its block. -/
theorem block_eq (c : Dev nD) (hq : ∀ i, ∃ r : ℝ, argQ m c i = r) (hk : ∀ i, ∃ r : ℝ, argK m c i = r) (t : Fin cfg0.N)
    (r : Fin 256) (x : Fin 128) :
    out0_A_3 c (grid0.coords t) (ms0_0 t) (hs0_0 t) (ms0_1 t) (hs0_1 t) (ms0_2 t) (hs0_2 t) (ms0_3 t) (hs0_3 t)
        (iblk m c 0 t) (iblk m c 1 t) (iblk m c 2 t) (ix3 0 r x)
      = attnAt (argQ m c) (argK m c) (argV m c) ⟨_, coord0 t⟩ ⟨256 * (grid0.coords t 2).val + r, by have := coord2 t; omega⟩
          ⟨128 * (grid0.coords t 1).val + x, by have := coord1 t; omega⟩ := by
  have hb := x.isLt
  by_cases hx : x.val < 64
  · have e := score_eq m c t 0 (by omega) r x (by omega)
    refine (out_fst c (grid0.coords t) (ms0_0 t) (hs0_0 t) (ms0_1 t) (hs0_1 t) (ms0_2 t) (hs0_2 t) (ms0_3 t) (hs0_3 t)
      (iblk m c 0 t) (iblk m c 1 t) (iblk m c 2 t) r x hx (e ▸ headScore_finite hq hk _ _ _)).trans ?_
    rw [e]
    unfold attnAt
    congr 1
    funext j
    rw [blk_v]
  · have e := score_eq m c t 128 (by omega) r x (by omega)
    refine (out_snd c (grid0.coords t) (ms0_0 t) (hs0_0 t) (ms0_1 t) (hs0_1 t) (ms0_2 t) (hs0_2 t) (ms0_3 t) (hs0_3 t)
      (iblk m c 0 t) (iblk m c 1 t) (iblk m c 2 t) r x hx (e ▸ headScore_finite hq hk _ _ _)).trans ?_
    rw [e]
    unfold attnAt
    congr 1
    funext j
    rw [blk_v]

theorem block_idx (c : Dev nD) (hq : ∀ i, ∃ r : ℝ, argQ m c i = r) (hk : ∀ i, ∃ r : ℝ, argK m c i = r) (t : Fin cfg0.N)
    (y : S1x256x128.Idx) :
    out0_A_3 c (grid0.coords t) (ms0_0 t) (hs0_0 t) (ms0_1 t) (hs0_1 t) (ms0_2 t) (hs0_2 t) (ms0_3 t) (hs0_3 t)
        (iblk m c 0 t) (iblk m c 1 t) (iblk m c 2 t) y
      = attnAt (argQ m c) (argK m c) (argV m c) ⟨_, coord0 t⟩
          ⟨256 * (grid0.coords t 2).val + (y 1 : Fin 256), by have := coord2 t; have : (y 1 : Fin 256).val < 256 := (y 1 : Fin 256).isLt; omega⟩
          ⟨128 * (grid0.coords t 1).val + (y 2 : Fin 128), by have := coord1 t; have : (y 2 : Fin 128).val < 128 := (y 2 : Fin 128).isLt; omega⟩ := by
  have hy : y = ix3 0 (y 1 : Fin 256) (y 2 : Fin 128) := by
    funext a
    match a with
    | ⟨0, _⟩ => exact Subsingleton.elim (α := Fin 1) _ _
    | ⟨1, _⟩ => rfl
    | ⟨2, _⟩ => rfl
  exact (congrArg _ hy).trans (block_eq m c hq hk t (y 1) (y 2))

/-- The whole result. -/
def attnArr (q k : S2x8192x1024.Idx → EReal) (v : S2x8192x512.Idx → EReal) (i : S2x8192x512.Idx) : EReal :=
  attnAt q k v (i 0) (i 1) (i 2)

theorem attnArr_of (q k : S2x8192x1024.Idx → EReal) (v : S2x8192x512.Idx → EReal) (i : S2x8192x512.Idx) (b : Fin 2) (t : Fin 8192)
    (c : Fin 512) (hb : (i 0).val = b.val) (ht : (i 1).val = t.val) (hc : (i 2).val = c.val) :
    attnArr q k v i = attnAt q k v b t c := by
  obtain rfl : (i 0 : Fin 2) = b := Fin.ext hb
  obtain rfl : (i 1 : Fin 8192) = t := Fin.ext ht
  obtain rfl : (i 2 : Fin 512) = c := Fin.ext hc
  rfl

theorem array_eq (c : Dev nD) (hq : ∀ i, ∃ r : ℝ, argQ m c i = r) (hk : ∀ i, ∃ r : ℝ, argK m c i = r) :
    (dats m 0 c).arrAt 3 cfg0.N = attnArr (argQ m c) (argK m c) (argV m c) := by
  refine (dats m 0 c).arrAt_eq_of_covers 3 _ (by decide +kernel) fun t hf y => ?_
  have h := congrFun (flushed3_A m c t) y
  blk_simp at h ⊢
  refine h.trans ((block_idx m c hq hk t y).trans ?_)
  refine (attnArr_of _ _ _ _ _ _ _ ?_ ?_ ?_).symm
  · have h0 : (y 0 : Fin 1).val = 0 := by have : (y 0 : Fin 1).val < 1 := (y 0 : Fin 1).isLt; omega
    blk_simp [index_o t]
  · blk_simp [index_o t]
    simp [Nat.mul_comm]
  · blk_simp [index_o t]
    simp [Nat.mul_comm]

end Cert.Attn

end
-- ==== Proof.AttnRef.lean ====
/-
  What the reference computes at an index of its result: the same row of softmax attention.
-/
module

public import proofs.«01_k».proof.Proof.AttnArray
public import proofs.«01_k».proof.Proof.Gen.AttentionRefIdeal.Run

@[expose] public section

set_option maxRecDepth 16384

noncomputable section

namespace Cert.Attn.Ref

open Cert.AttentionRefIdeal Cert.AttentionRefIdeal.Gen Idealize.ShloMosaic Idealize.SL.Sem

/-- The reference's queries or keys, head by head. -/
abbrev heads (x : FVec Ideal S2x8192x1024 .bf16) : FVec Ideal S2x8192x8x128 .f32 :=
  shapeCast _ (extf .f32 x bitsLt_bf16_f32) shapeCasts_S2x8192x1024_S2x8192x8x128

/-- The reference's scores, queries against keys. -/
abbrev scores (q k : FVec Ideal S2x8192x1024 .bf16) : FVec Ideal S2x8x8192x8192 .f32 :=
  Host.dotGeneral dot_S2x8192x8x128_S2x8192x8x128_S2x8x8192x8192_3_3_1_1_02_02 none (heads q) (heads k)

/-- A row's greatest score. -/
abbrev rowMax (s : FVec Ideal S2x8x8192x8192 .f32) : FVec Ideal S2x8x8192 .f32 :=
  maximumf (broadcastInDim S2x8x8192 ![] bcast_S_S2x8x8192 (constant S_ .f32 0xFF800000#32)) (Host.reduce FloatOps.maximumf s (constant S_ .f32 0xFF800000#32) reducesTo_S2x8x8192x8192_S2x8x8192_d3 h_S_)

/-- A row's sum. -/
abbrev rowSum (w : FVec Ideal S2x8x8192x8192 .f32) : FVec Ideal S2x8x8192 .f32 :=
  Host.reduceAdd w (constant S_ .f32 0x00000000#32) reducesTo_S2x8x8192x8192_S2x8x8192_d3 h_S_

/-- A row's value at each of its elements. -/
abbrev alongRow (x : FVec Ideal S2x8x8192 .f32) : FVec Ideal S2x8x8192x8192 .f32 :=
  broadcastInDim S2x8x8192x8192 ![0, 1, 2, 3] bcast_S2x8x8192x1_S2x8x8192x8192_0_1_2_3 (broadcastInDim S2x8x8192x1 ![0, 1, 2] bcast_S2x8x8192_S2x8x8192x1_0_1_2 x)

/-- The scores less their row's maximum, exponentiated. -/
abbrev weights (s : FVec Ideal S2x8x8192x8192 .f32) : FVec Ideal S2x8x8192x8192 .f32 :=
  Host.exp (subf s (alongRow (rowMax s)))

/-- The weights over their row's sum. -/
abbrev probs (w : FVec Ideal S2x8x8192x8192 .f32) : FVec Ideal S2x8x8192x8192 .f32 :=
  Host.divf w (alongRow (rowSum w))

/-- The reference's result from its scores' probabilities. -/
abbrev mixed (v : FVec Ideal S2x8192x512 .bf16) (p : FVec Ideal S2x8x8192x8192 .f32) : FVec Ideal S2x8192x512 .f32 :=
  shapeCast _ (transpose S2x8192x8x64 [0, 3, 1, 2] (Host.dotGeneral dot_S2x8192x8x64_S2x8x8192x8192_S2x8x64x8192_1_3_3_2_02_01 none (shapeCast _ (extf .f32 v bitsLt_bf16_f32) shapeCasts_S2x8192x512_S2x8192x8x64) p) transposes_S2x8x64x8192_S2x8192x8x64_0_3_1_2) shapeCasts_S2x8192x8x64_S2x8192x512

theorem scores_apply (q k : FVec Ideal S2x8192x1024 .bf16) (b : Fin 2) (h : Fin 8) (t j : Fin 8192) :
    scores q k (ix4 b h t j)
      = ∑ d : Fin 128, q (ix3 b t ⟨128 * h.val + d, by omega⟩) * k (ix3 b j ⟨128 * h.val + d, by omega⟩) := by
  pointwise
  simp only [Nat.mul_comm]

theorem reduceMax_apply {n0 n1 n2 n3 : ℕ} (s : FVec Ideal ⟨4, ![n0, n1, n2, n3]⟩ .f32)
    (hr : (⟨4, ![n0, n1, n2, n3]⟩ : Shape).ReducesTo [3] ⟨3, ![n0, n1, n2]⟩) (b : Fin n0) (h : Fin n1) (t : Fin n2) :
    Host.reduce FloatOps.maximumf s (constant S_ .f32 0xFF800000#32) hr h_S_ (ix3 b h t)
      = Finset.univ.fold max ⊥ fun i : Fin n3 => s (ix4 b h t i) := by
  pointwise [ofBits_neg_inf]

theorem reduceSum_apply {n0 n1 n2 n3 : ℕ} (s : FVec Ideal ⟨4, ![n0, n1, n2, n3]⟩ .f32)
    (hr : (⟨4, ![n0, n1, n2, n3]⟩ : Shape).ReducesTo [3] ⟨3, ![n0, n1, n2]⟩) (b : Fin n0) (h : Fin n1) (t : Fin n2) :
    Host.reduceAdd s (constant S_ .f32 0x00000000#32) hr h_S_ (ix3 b h t) = ∑ i : Fin n3, s (ix4 b h t i) := by
  pointwise

theorem rowMax_gen {n0 n1 n2 n3 : ℕ} (s : FVec Ideal ⟨4, ![n0, n1, n2, n3]⟩ .f32)
    (hr : (⟨4, ![n0, n1, n2, n3]⟩ : Shape).ReducesTo [3] ⟨3, ![n0, n1, n2]⟩)
    (hb : S_.BroadcastsInDim (⟨3, ![n0, n1, n2]⟩ : Shape) ![]) (b : Fin n0) (h : Fin n1) (t : Fin n2) :
    maximumf (broadcastInDim ⟨3, ![n0, n1, n2]⟩ ![] hb (constant S_ .f32 0xFF800000#32)) (Host.reduce FloatOps.maximumf s (constant S_ .f32 0xFF800000#32) hr h_S_) (ix3 b h t)
      = Finset.univ.fold max ⊥ fun i : Fin n3 => s (ix4 b h t i) := by
  have e := reduceMax_apply s hr b h t
  generalize Host.reduce FloatOps.maximumf s (constant S_ .f32 0xFF800000#32) hr h_S_ = x at e ⊢
  pointwise [ofBits_neg_inf]
  rw [e]
  exact max_eq_right bot_le

theorem rowMax_apply (s : FVec Ideal S2x8x8192x8192 .f32) (b : Fin 2) (h : Fin 8) (t : Fin 8192) :
    rowMax s (ix3 b h t) = Finset.univ.fold max ⊥ fun i : Fin 8192 => s (ix4 b h t i) :=
  rowMax_gen s _ _ b h t

theorem rowSum_apply (s : FVec Ideal S2x8x8192x8192 .f32) (b : Fin 2) (h : Fin 8) (t : Fin 8192) :
    rowSum s (ix3 b h t) = ∑ i : Fin 8192, s (ix4 b h t i) :=
  reduceSum_apply s _ b h t

theorem shifted_apply (s : FVec Ideal S2x8x8192x8192 .f32) (x : FVec Ideal S2x8x8192 .f32) (b : Fin 2) (h : Fin 8) (t j : Fin 8192) :
    Host.exp (subf s (alongRow x)) (ix4 b h t j) = Ideal.exp (s (ix4 b h t j) - x (ix3 b h t)) := by
  pointwise

theorem divided_apply (s : FVec Ideal S2x8x8192x8192 .f32) (x : FVec Ideal S2x8x8192 .f32) (b : Fin 2) (h : Fin 8) (t j : Fin 8192) :
    Host.divf s (alongRow x) (ix4 b h t j) = Ideal.div (s (ix4 b h t j)) (x (ix3 b h t)) := by
  pointwise

theorem weights_apply (s : FVec Ideal S2x8x8192x8192 .f32) (b : Fin 2) (h : Fin 8) (t j : Fin 8192) :
    weights s (ix4 b h t j) = Ideal.exp (s (ix4 b h t j) - Finset.univ.fold max ⊥ fun i : Fin 8192 => s (ix4 b h t i)) :=
  (shifted_apply s (rowMax s) b h t j).trans (by rw [rowMax_apply])

theorem probs_apply (w : FVec Ideal S2x8x8192x8192 .f32) (b : Fin 2) (h : Fin 8) (t j : Fin 8192) :
    probs w (ix4 b h t j) = Ideal.div (w (ix4 b h t j)) (∑ i : Fin 8192, w (ix4 b h t i)) :=
  (divided_apply w (rowSum w) b h t j).trans (by rw [rowSum_apply])

theorem mixed_apply (v : FVec Ideal S2x8192x512 .bf16) (p : FVec Ideal S2x8x8192x8192 .f32) (b : Fin 2) (t : Fin 8192) (c : Fin 512) :
    mixed v p (ix3 b t c) = ∑ j : Fin 8192, v (ix3 b j c) * p (ix4 b ⟨c.val / 64, by omega⟩ t j) := by
  pointwise

/-- The scores of the head a column belongs to. -/
theorem scores_head (q k : FVec Ideal S2x8192x1024 .bf16) (b : Fin 2) (t j : Fin 8192) (c : Fin 512) :
    scores q k (ix4 b ⟨c.val / 64, by omega⟩ t j) = headScore q k b t c j :=
  scores_apply q k b ⟨c.val / 64, by omega⟩ t j

/-- One probability of the head a column belongs to. -/
theorem probs_head (q k : FVec Ideal S2x8192x1024 .bf16) (b : Fin 2) (t j : Fin 8192) (c : Fin 512) :
    probs (weights (scores q k)) (ix4 b ⟨c.val / 64, by omega⟩ t j)
      = Ideal.div (Ideal.exp (headScore q k b t c j - Finset.univ.fold max ⊥ (headScore q k b t c)))
          (∑ i, Ideal.exp (headScore q k b t c i - Finset.univ.fold max ⊥ (headScore q k b t c))) := by
  generalize hs : scores q k = s
  have hh : ∀ i, s (ix4 b ⟨c.val / 64, by omega⟩ t i) = headScore q k b t c i := fun i => hs ▸ scores_head q k b t i c
  rw [probs_apply]
  simp only [weights_apply, hh]

theorem reference_apply (q k : FVec Ideal S2x8192x1024 .bf16) (v : FVec Ideal S2x8192x512 .bf16) (b : Fin 2) (t : Fin 8192) (c : Fin 512) :
    mixed v (probs (weights (scores q k))) (ix3 b t c) = attnAt q k v b t c := by
  have hp := fun j => probs_head q k b t j c
  generalize probs (weights (scores q k)) = p at hp ⊢
  rw [mixed_apply]
  unfold attnAt attnRow
  simp only [hp]

theorem reference_eq (q k : FVec Ideal S2x8192x1024 .bf16) (v : FVec Ideal S2x8192x512 .bf16) :
    mixed v (probs (weights (scores q k))) = attnArr q k v := by
  funext i
  idx_vars i
  exact reference_apply q k v _ _ _

end Cert.Attn.Ref

end
-- ==== Proof.AttnClaim.lean ====
/-
  The attention's value claim: for finite queries and keys the program and the reference leave the same array.
-/
module

public import proofs.«01_k».proof.Defs
public import proofs.«01_k».proof.Proof.AttnRef
public import proofs.«01_k».proof.Proof.Gen.Pre_finite_qk
public import Idealize.ShloMosaic.Lib.ReduceAll

@[expose] public section

set_option maxRecDepth 16384

noncomputable section

namespace Cert.Attn

open Idealize.ShloMosaic Idealize.ShloMosaic.TcCoe Idealize.SL.Sem

/-- The word of +∞ reads as the greatest extended real. -/
theorem ofBits_pos_inf : Ideal.ofBits .f32 0x7F800000#32 = ⊤ := by
  show Ideal.ieee 8 23 0x7F800000#32 = ⊤
  unfold Ideal.ieee
  simp

theorem finite_of_abs_lt {x : EReal} (h : max x (-x) < ⊤) : ∃ r : ℝ, x = r := by
  induction x with
  | bot => simp at h
  | coe r => exact ⟨r, rfl⟩
  | top => simp at h

theorem and_one {a b : BitVec 1} (h : a &&& b = 1#1) : a = 1#1 ∧ b = 1#1 := by
  revert a b; decide

/-- An array whose every magnitude is found below +∞ is finite. -/
theorem finite_of_all {s : Shape} {axes : List (Fin s.rank)} (x : FVec Ideal s .bf16) (hlt : FTy.bits .bf16 < FTy.bits .f32)
    (hb : Cert.Pre_finite_qk.S_.BroadcastsInDim s (![] : Fin 0 → Fin s.rank)) (hr : s.ReducesTo axes Cert.Pre_finite_qk.S_)
    (h0 : 0 < Cert.Pre_finite_qk.S_.numel) (i0 : Cert.Pre_finite_qk.S_.Idx)
    (e : Host.reduce IntOp.andi (cmpf .olt (Host.absf (extf .f32 x hlt))
      (broadcastInDim s ![] hb (constant Cert.Pre_finite_qk.S_ .f32 0x7F800000#32))) (constantI Cert.Pre_finite_qk.S_ 1 1#1) hr h0 i0 = 1#1)
    (i : s.Idx) : ∃ r : ℝ, x i = r := by
  haveI : Subsingleton Cert.Pre_finite_qk.S_.Idx := ⟨fun a b => funext fun d => d.elim0⟩
  have h := Host.reduce_andi_all _ _ hr h0 i0 e i
  have h' : Ideal.cmp .olt (max (x i) (-(x i))) (Ideal.ofBits .f32 0x7F800000#32) = 1#1 := h
  rw [ofBits_pos_inf] at h'
  refine finite_of_abs_lt ?_
  by_contra hn
  simp [Ideal.cmp, hn] at h'

theorem finite_args {q k : FVec Ideal Cert.Pre_finite_qk.S2x8192x1024 .bf16} {v : FVec Ideal Cert.Pre_finite_qk.S2x8192x512 .bf16}
    (h : Cert.Pre_finite_qk.fn (F := Ideal) q k v = fun _ => 1#1) :
    (∀ i, ∃ r : ℝ, q i = r) ∧ (∀ i, ∃ r : ℝ, k i = r) := by
  have e := congrFun h (fun d => d.elim0)
  dsimp only [Cert.Pre_finite_qk.fn] at e
  obtain ⟨e1, e2⟩ := and_one e
  exact ⟨finite_of_all q Cert.Pre_finite_qk.Facts.bitsLt_bf16_f32 Cert.Pre_finite_qk.Facts.bcast_S_S2x8192x1024
      Cert.Pre_finite_qk.Facts.reducesTo_S2x8192x1024_S_d0_1_2 Cert.Pre_finite_qk.Facts.h_S_ (fun d => d.elim0) e1,
    finite_of_all k Cert.Pre_finite_qk.Facts.bitsLt_bf16_f32 Cert.Pre_finite_qk.Facts.bcast_S_S2x8192x1024
      Cert.Pre_finite_qk.Facts.reducesTo_S2x8192x1024_S_d0_1_2 Cert.Pre_finite_qk.Facts.h_S_ (fun d => d.elim0) e2⟩

end Cert.Attn

namespace Cert.Proof

open Idealize.ShloMosaic Idealize.ShloMosaic.TcCoe Idealize.SL.Sem

theorem attention_eq : Cert.algebraic_AttentionIdeal_AttentionRefIdeal_pre_finite_qk := by
  intro m g m' g' hpre hargs
  have hfin := fun c => Cert.Attn.finite_args (hpre c)
  refine ⟨fun c => Cert.Attn.attnArr (Cert.Attn.argQ m c) (Cert.Attn.argK m c) (Cert.Attn.argV m c), ?_, ?_⟩
  · exact (θ_run Cert.AttentionIdeal.defs _ _).mono
      (fun r h c => ⟨(h c).1.trans (Cert.Attn.array_eq m c (hfin c).1 (hfin c).2), (h c).2⟩)
      (Cert.AttentionIdeal.Value.run_blocks m g)
  · refine (θ_run Cert.AttentionRefIdeal.defs _ _).mono (fun r h c => ⟨(h c).1.trans ?_, (h c).2⟩)
      (Cert.AttentionRefIdeal.Value.run m' g')
    obtain ⟨h0, h1, h2⟩ := hargs c
    refine (Cert.Attn.Ref.reference_eq _ _ _).trans ?_
    rw [h0, h1, h2]

end Cert.Proof

end
-- ==== Proof.ExpPay.lean ====
/-
  The values the experts' body computes, read at an index: the gated product of one block of 512 features and its
  image under the rows of the last matrix that belong to the block.
-/
module

public import proofs.«01_k».proof.Proof.Gen.ExpertsIdeal.Skeleton
public import Idealize.ShloMosaic.Lib.Pointwise

@[expose] public section

set_option maxRecDepth 16384

noncomputable section

namespace Cert.Exp

open Cert.ExpertsIdeal Cert.ExpertsIdeal.Gen Idealize.ShloMosaic

/-- The gated value of two products: `a / (1 + exp (-a))` times `u`. -/
def gated (a u : EReal) : EReal := a * Ideal.logistic a * u

/-- A token's row against column `f` of a block of an expert's matrix. -/
def dotCol (x : Vec Ideal S2x1x1024x1024 .bf16) (w : Vec Ideal S1x1024x512 .f32) (b : Fin 2) (t : Fin 1024) (f : Fin 512) : EReal :=
  ∑ i : Fin 1024, x (ix4 b 0 t i) * w (ix3 0 i f)

/-- What one block of features adds to a token's result at column `d`. -/
def part (x : Vec Ideal S2x1x1024x1024 .bf16) (wg wu : Vec Ideal S1x1024x512 .f32) (wd : Vec Ideal S1x512x1024 .f32)
    (b : Fin 2) (t d : Fin 1024) : EReal :=
  ∑ f : Fin 512, gated (dotCol x wg b t f) (dotCol x wu b t f) * wd (ix3 0 f d)

theorem pay1_apply (x : Vec Ideal S2x1x1024x1024 .bf16) (wg wu : Vec Ideal S1x1024x512 .f32) (wd : Vec Ideal S1x512x1024 .f32)
    (r : Fin 2048) (d : Fin 1024) :
    k0_pay1 x wg wu wd (ix2 r d) = part x wg wu wd ⟨r.val / 1024, by omega⟩ ⟨r.val % 1024, by omega⟩ d := by
  unfold part gated dotCol
  pointwise [k0_pay1]

theorem pay2_apply (x : Vec Ideal S2x1x1024x1024 .bf16) (wg wu : Vec Ideal S1x1024x512 .f32) (wd : Vec Ideal S1x512x1024 .f32)
    (r : Fin 2048) (d : Fin 1024) :
    k0_pay2 x wg wu wd (ix2 r d) = part x wg wu wd ⟨r.val / 1024, by omega⟩ ⟨r.val % 1024, by omega⟩ d := by
  rw [← pay1_apply]
  unfold k0_pay2
  generalize k0_pay1 x wg wu wd = p
  pointwise

theorem pay3_apply (x : Vec Ideal S2x1x1024x1024 .bf16) (wg wu : Vec Ideal S1x1024x512 .f32) (wd : Vec Ideal S1x512x1024 .f32)
    (s : Vec Ideal S2048x1024 .f32) (r : Fin 2048) (d : Fin 1024) :
    k0_pay3 x wg wu wd s (ix2 r d)
      = s (ix2 r d) + part x wg wu wd ⟨r.val / 1024, by omega⟩ ⟨r.val % 1024, by omega⟩ d := by
  rw [← pay1_apply]
  unfold k0_pay3
  generalize k0_pay1 x wg wu wd = p
  pointwise

theorem pay4_apply (s : Vec Ideal S2048x1024 .f32) (b : Fin 2) (t d : Fin 1024) :
    k0_pay4 s (ix4 b 0 t d) = s (ix2 ⟨1024 * b.val + t.val, by omega⟩ d) := by
  pointwise [k0_pay4]
  simp only [Nat.mul_comm]

theorem pay5_apply (b : Fin 2) (t : Fin 512) (d : Fin 1024) : k0_pay5 (F := Ideal) (ix4 b 0 t d) = 0 := by
  pointwise [k0_pay5]

theorem pay4_idx (s : Vec Ideal S2048x1024 .f32) (z : S2x1x1024x1024.Idx) (r : Fin 2048) (d : Fin 1024)
    (hr : r.val = 1024 * (z 0).val + (z 2).val) (hd : d.val = (z 3).val) : k0_pay4 s z = s (ix2 r d) := by
  have h : z = ix4 (z 0 : Fin 2) 0 (z 2 : Fin 1024) (z 3 : Fin 1024) := by
    funext a
    match a with
    | ⟨0, _⟩ => rfl
    | ⟨1, _⟩ => exact Subsingleton.elim (α := Fin 1) _ _
    | ⟨2, _⟩ => rfl
    | ⟨3, _⟩ => rfl
  obtain rfl : d = (z 3 : Fin 1024) := Fin.ext hd
  refine (congrArg (k0_pay4 s) h).trans ((pay4_apply s _ _ _).trans ?_)
  congr 2
  exact Fin.ext hr.symm

theorem pay5_idx (z : S2x1x512x1024.Idx) : k0_pay5 (F := Ideal) z = 0 := by
  have h : z = ix4 (z 0 : Fin 2) 0 (z 2 : Fin 512) (z 3 : Fin 1024) := by
    funext a
    match a with
    | ⟨0, _⟩ => rfl
    | ⟨1, _⟩ => exact Subsingleton.elim (α := Fin 1) _ _
    | ⟨2, _⟩ => rfl
    | ⟨3, _⟩ => rfl
  exact (congrArg k0_pay5 h).trans (pay5_apply _ _ _)

end Cert.Exp

end
-- ==== Proof.ExpBlock.lean ====
/-
  What the experts' body leaves behind: in its running sum, the sum so far plus the part of the current block of 512
  features; at the last block, in its result, the finished sums and rows of zeros below them.
-/
module

public import proofs.«01_k».proof.Proof.ExpPay
public import proofs.«01_k».proof.Proof.Gen.ExpertsIdeal.Value
public import Idealize.ShloMosaic.Lib.Pipeline.ValueKit
public import Idealize.ShloMosaic.Lib.Tactic

@[expose] public section

set_option maxRecDepth 16384

noncomputable section

namespace Cert.Exp

open Cert.ExpertsIdeal Cert.ExpertsIdeal.Gen Idealize.ShloMosaic Idealize.ShloMosaic.TcCoe Idealize.SL.Sem

theorem hz2 : (![0, 0] : Fin 2 → ℕ) = fun _ => 0 := funext fun a => by fin_cases a <;> rfl
theorem hz3 : (![0, 0, 0] : Fin 3 → ℕ) = fun _ => 0 := funext fun a => by fin_cases a <;> rfl
theorem hz4 : (![0, 0, 0, 0] : Fin 4 → ℕ) = fun _ => 0 := funext fun a => by fin_cases a <;> rfl

/-- A load of a whole block reads it. -/
theorem ld_x (x : Vec Ideal S2x1x1024x1024 .bf16) (inb) : View.ld x (Rect.unit (s := S2x1x1024x1024) ![0, 0, 0, 0] ![2, 1, 1024, 1024] inb) = x :=
  View.ld_unit_zero hz4 inb x
theorem ld_w (w : Vec Ideal S1x1024x512 .f32) (inb) : View.ld w (Rect.unit (s := S1x1024x512) ![0, 0, 0] ![1, 1024, 512] inb) = w :=
  View.ld_unit_zero hz3 inb w
theorem ld_d (w : Vec Ideal S1x512x1024 .f32) (inb) : View.ld w (Rect.unit (s := S1x512x1024) ![0, 0, 0] ![1, 512, 1024] inb) = w :=
  View.ld_unit_zero hz3 inb w
theorem ld_s (w : Vec Ideal S2048x1024 .f32) (inb) : View.ld w (Rect.unit (s := S2048x1024) ![0, 0] ![2048, 1024] inb) = w :=
  View.ld_unit_zero hz2 inb w

variable (c : Dev nD) (i : grid0.Coords)
  (a2 : Memref sig .tc .vmem S2x1x1024x1024 .bf16) (h2 : a2.IsWhole) (a3 : Memref sig .tc .vmem S1x1024x512 .f32) (h3 : a3.IsWhole)
  (a4 : Memref sig .tc .vmem S1x1024x512 .f32) (h4 : a4.IsWhole) (a5 : Memref sig .tc .vmem S1x512x1024 .f32) (h5 : a5.IsWhole)
  (a6 : Memref sig .tc .vmem S2x1x1536x1024 .bf16) (h6 : a6.IsWhole) (a7 : Memref sig .tc .vmem S2048x1024 .f32) (h7 : a7.IsWhole)
  (x : Vec Ideal S2x1x1024x1024 .bf16) (wg wu : Vec Ideal S1x1024x512 .f32) (wd : Vec Ideal S1x512x1024 .f32)
  (s : Vec Ideal S2048x1024 .f32)

/-- At an expert's first block the running sum starts. -/
theorem first_eq (hc0 : cond0_0 i) (hc1 : ¬cond0_1 i) (hc2 : ¬cond0_2 i) :
    sout0_A_0 c i a2 h2 a3 h3 a4 h4 a5 h5 a6 h6 a7 h7 hc0 hc1 hc2 x wg wu wd = k0_pay2 x wg wu wd := by
  unfold sout0_A_0
  rw [View.read_writes_eq_canon _ _ _ (scover0_A_0 c i a2 h2 a3 h3 a4 h4 a5 h5 a6 h6 a7 h7 hc0 hc1 hc2 x wg wu wd)]
  unfold kernelRun0_A
  dsimp only
  rw [View.canon_unit_zero hz2]
  simp only [View.readAt_eq_ld, h2.read_unread, h3.read_unread, h4.read_unread, h5.read_unread, ld_x, ld_w, ld_d]

/-- At an expert's middle blocks it grows by the block's part. -/
theorem middle_eq (hc0 : ¬cond0_0 i) (hc1 : cond0_1 i) (hc2 : ¬cond0_2 i) :
    sout0_B_0 c i a2 h2 a3 h3 a4 h4 a5 h5 a6 h6 a7 h7 hc0 hc1 hc2 x wg wu wd s = k0_pay3 x wg wu wd s := by
  unfold sout0_B_0
  rw [View.read_writes_eq_canon _ _ _ (scover0_B_0 c i a2 h2 a3 h3 a4 h4 a5 h5 a6 h6 a7 h7 hc0 hc1 hc2 x wg wu wd s)]
  unfold kernelRun0_B
  dsimp only
  rw [View.canon_unit_zero hz2]
  simp only [View.readAt_eq_ld, h2.read_unread, h3.read_unread, h4.read_unread, h5.read_unread, h7.read_unread,
    ld_x, ld_w, ld_d, ld_s]

/-- The running sum the last block's body reads back after adding the block's part. -/
theorem running_eq : kernelRun0_C.sl.v28 c a2 h2 a3 h3 a4 h4 a5 h5 a7 h7 x wg wu wd s = k0_pay3 x wg wu wd s := by
  unfold kernelRun0_C.sl.v28 kernelRun0_C.sl.HS0_1
  rw [View.readCov_unit_zero _ hz2]
  simp only [View.readAt_eq_ld, h2.read_unread, h3.read_unread, h4.read_unread, h5.read_unread, h7.read_unread,
    ld_x, ld_w, ld_d, ld_s]

/-- At its last block the body writes the finished sums in the first 1024 rows of the result and zeros below them. -/
theorem last_eq (hc0 : ¬cond0_0 i) (hc1 : cond0_1 i) (hc2 : cond0_2 i) (b : Fin 2) (t : Fin 1536) (d : Fin 1024) :
    out0_C_4 c i a2 h2 a3 h3 a4 h4 a5 h5 a6 h6 a7 h7 hc0 hc1 hc2 x wg wu wd s (ix4 b 0 t d)
      = if h : t.val < 1024 then k0_pay3 x wg wu wd s (ix2 ⟨1024 * b.val + t.val, by omega⟩ d) else 0 := by
  have hcov := cover0_C_4 c i a2 h2 a3 h3 a4 h4 a5 h5 a6 h6 a7 h7 hc0 hc1 hc2 x wg wu wd s
  unfold out0_C_4
  rw [View.read_writes_eq_canon _ _ _ hcov]
  refine View.canon_eq_of_allAt _ _ _ (hcov _) ?_
  unfold kernelRun0_C
  dsimp only
  refine View.allAt_cons_unit _ _ _ _ _ ?_ (View.allAt_cons_unit _ _ _ _ _ ?_ (View.allAt_nil _ _))
  · intro z hz
    have e : t.val = 1024 + (z 2 : Fin 512).val := hz 2
    have hn : ¬t.val < 1024 := by omega
    rw [dif_neg hn]
    exact pay5_idx z
  · intro z hz
    have e0 : b.val = 0 + (z 0).val := hz 0
    have e2 : t.val = 0 + (z 2).val := hz 2
    have e3 : d.val = 0 + (z 3).val := hz 3
    have hlt : (z 2).val < 1024 := (z 2).isLt
    have ht : t.val < 1024 := by omega
    rw [dif_pos ht, running_eq]
    exact pay4_idx _ z _ _ (by show 1024 * b.val + t.val = _; omega) (by omega)

end Cert.Exp

end
-- ==== Proof.ExpArray.lean ====
/-
  The array the experts leave: four grid points run over the blocks of an expert's 2048 features, and the last writes
  the expert's rows.
-/
module

public import proofs.«01_k».proof.Proof.Softmax
public import proofs.«01_k».proof.Proof.ExpBlock

@[expose] public section

set_option maxRecDepth 16384

noncomputable section

namespace Cert.Exp

open Cert.ExpertsIdeal Cert.ExpertsIdeal.Gen Cert.ExpertsIdeal.Value Idealize.ShloMosaic Idealize.ShloMosaic.TcCoe Idealize.SL.Sem
open Idealize.ShloMosaic.Pipeline
open Cert.Attn (ext ext_of_lt)

/-- Token `t` of expert `e` against column `f` of one of the expert's first matrices. -/
def proj (x : S2x16x1024x1024.Idx → EReal) (w : S16x1024x2048.Idx → EReal) (b : Fin 2) (e : Fin 16) (t : Fin 1024) (f : Fin 2048) : EReal :=
  ∑ i : Fin 1024, x (ix4 b e t i) * w (ix3 e i f)

/-- What feature `f` adds to token `t`'s result at column `d`. -/
def feat (x : S2x16x1024x1024.Idx → EReal) (wg wu : S16x1024x2048.Idx → EReal) (wd : S16x2048x1024.Idx → EReal)
    (b : Fin 2) (e : Fin 16) (t d : Fin 1024) (f : Fin 2048) : EReal :=
  gated (proj x wg b e t f) (proj x wu b e t f) * wd (ix3 e f d)

/-- Token `t` of expert `e` through the expert, at column `d`. -/
def expertAt (x : S2x16x1024x1024.Idx → EReal) (wg wu : S16x1024x2048.Idx → EReal) (wd : S16x2048x1024.Idx → EReal)
    (b : Fin 2) (e : Fin 16) (t d : Fin 1024) : EReal :=
  ∑ f : Fin 2048, feat x wg wu wd b e t d f

/-- The whole result: 1024 rows of tokens and 512 of zeros for each expert. -/
def expertArr (x : S2x16x1024x1024.Idx → EReal) (wg wu : S16x1024x2048.Idx → EReal) (wd : S16x2048x1024.Idx → EReal)
    (i : S2x16x1536x1024.Idx) : EReal :=
  if h : (i 2 : Fin 1536).val < 1024 then expertAt x wg wu wd (i 0) (i 1) ⟨(i 2 : Fin 1536).val, h⟩ (i 3) else 0

theorem coords_eq (t : Fin cfg0.N) : (grid0.coords t 0).val = t.val / 4 ∧ (grid0.coords t 1).val = t.val % 4 := by
  revert t; decide +kernel

theorem lt_N (t : Fin cfg0.N) : t.val < 64 := lt_of_lt_of_eq t.isLt N_0

theorem index_x (t : Fin cfg0.N) : win0_0.index t = ![0, t.val / 4, 0, 0] := by revert t; decide +kernel
theorem index_g (t : Fin cfg0.N) : win0_1.index t = ![t.val / 4, 0, t.val % 4] := by revert t; decide +kernel
theorem index_u (t : Fin cfg0.N) : win0_2.index t = ![t.val / 4, 0, t.val % 4] := by revert t; decide +kernel
theorem index_d (t : Fin cfg0.N) : win0_3.index t = ![t.val / 4, t.val % 4, 0] := by revert t; decide +kernel
theorem index_o (t : Fin cfg0.N) : win0_4.index t = ![0, t.val / 4, 0, 0] := by revert t; decide +kernel

variable (m : (ℓ : Loc nD τ sig) → Buf (Elt Ideal) ℓ)

/-- The arrays the program is given. -/
abbrev argX (c : Dev nD) : S2x16x1024x1024.Idx → EReal := m ((c.tc : Thread nD τ).loc main_arg0)
abbrev argG (c : Dev nD) : S16x1024x2048.Idx → EReal := m ((c.tc : Thread nD τ).loc main_arg1)
abbrev argU (c : Dev nD) : S16x1024x2048.Idx → EReal := m ((c.tc : Thread nD τ).loc main_arg2)
abbrev argD (c : Dev nD) : S16x2048x1024.Idx → EReal := m ((c.tc : Thread nD τ).loc main_arg3)

/-- The expert a grid point works on, and the feature its block's column `f` is. -/
def expertOf (t : Fin cfg0.N) : Fin 16 := ⟨t.val / 4, by have := lt_N t; omega⟩
def featOf (t : Fin cfg0.N) (f : Fin 512) : Fin 2048 := ⟨512 * (t.val % 4) + f.val, by omega⟩

theorem blk_x (c : Dev nD) (t : Fin cfg0.N) (b : Fin 2) (r i : Fin 1024) :
    (iblk m c 0 t : Vec Ideal S2x1x1024x1024 .bf16) (ix4 b 0 r i) = argX m c (ix4 b (expertOf t) r i) := by
  unfold expertOf
  blk_ext [iblk, V, index_x t]

theorem blk_g (c : Dev nD) (t : Fin cfg0.N) (i : Fin 1024) (f : Fin 512) :
    (iblk m c 1 t : Vec Ideal S1x1024x512 .f32) (ix3 0 i f) = argG m c (ix3 (expertOf t) i (featOf t f)) := by
  unfold expertOf featOf
  blk_ext [iblk, V, index_g t]

theorem blk_u (c : Dev nD) (t : Fin cfg0.N) (i : Fin 1024) (f : Fin 512) :
    (iblk m c 2 t : Vec Ideal S1x1024x512 .f32) (ix3 0 i f) = argU m c (ix3 (expertOf t) i (featOf t f)) := by
  unfold expertOf featOf
  blk_ext [iblk, V, index_u t]

theorem blk_d (c : Dev nD) (t : Fin cfg0.N) (f : Fin 512) (d : Fin 1024) :
    (iblk m c 3 t : Vec Ideal S1x512x1024 .f32) (ix3 0 f d) = argD m c (ix3 (expertOf t) (featOf t f) d) := by
  unfold expertOf featOf
  blk_ext [iblk, V, index_d t]

/-- What a grid point adds is its 512 features' share. -/
theorem part_eq (c : Dev nD) (t : Fin cfg0.N) (b : Fin 2) (r d : Fin 1024) :
    part (iblk m c 0 t : Vec Ideal S2x1x1024x1024 .bf16) (iblk m c 1 t : Vec Ideal S1x1024x512 .f32)
        (iblk m c 2 t : Vec Ideal S1x1024x512 .f32) (iblk m c 3 t : Vec Ideal S1x512x1024 .f32) b r d
      = ∑ k ∈ Finset.range 512, ext (feat (argX m c) (argG m c) (argU m c) (argD m c) b (expertOf t) r d) (512 * (t.val % 4) + k) := by
  unfold part
  rw [Finset.sum_range]
  refine Finset.sum_congr rfl fun f _ => ?_
  rw [ext_of_lt _ _ (by omega)]
  unfold dotCol feat proj
  simp only [blk_x, blk_g, blk_u, blk_d]
  rfl

/-- The running sum after point `j` of expert `q`, before its last point: the share of the first `512 (j + 1)` features. -/
theorem sum_eq (c : Dev nD) (q : Fin 16) (b : Fin 2) (r d : Fin 1024) (p : Fin 2048) (hp : p.val = 1024 * b.val + r.val) :
    ∀ (j n : ℕ) (hn : n < cfg0.N), n = 4 * q.val + j → j < 3 →
      (outsAt0 m c n hn).2 (ix2 p d)
        = ∑ k ∈ Finset.range (512 * j + 512), ext (feat (argX m c) (argG m c) (argU m c) (argD m c) b q r d) k
  | 0, n, hn, h, _ => by
    have e := outsAt0_A m c ⟨n, hn⟩ (by show n % 4 = 0; omega) (by show ¬1 ≤ n % 4; omega) (by show ¬n % 4 = 3; omega)
    have hq : expertOf ⟨n, hn⟩ = q := Fin.ext (by show n / 4 = q.val; omega)
    have hb : (⟨p.val / 1024, by omega⟩ : Fin 2) = b := Fin.ext (by show p.val / 1024 = b.val; omega)
    have hr : (⟨p.val % 1024, by omega⟩ : Fin 1024) = r := Fin.ext (by show p.val % 1024 = r.val; omega)
    refine (congrFun (congrArg Prod.snd e) (ix2 p d)).trans ?_
    dsimp only
    rw [first_eq, pay2_apply, part_eq, hq, hb, hr]
    have h4 : n % 4 = 0 := by omega
    simp only [h4, Nat.mul_zero, Nat.zero_add]
  | j + 1, n, hn, h, hj => by
    have ih := sum_eq c q b r d p hp j (n - 1) (by omega) (by omega) (by omega)
    have hq : expertOf ⟨n, hn⟩ = q := Fin.ext (by show n / 4 = q.val; omega)
    have hb : (⟨p.val / 1024, by omega⟩ : Fin 2) = b := Fin.ext (by show p.val / 1024 = b.val; omega)
    have hr : (⟨p.val % 1024, by omega⟩ : Fin 1024) = r := Fin.ext (by show p.val % 1024 = r.val; omega)
    have h4 : n % 4 = j + 1 := by omega
    have e := outsAt0_B m c ⟨n, hn⟩ (by show ¬n % 4 = 0; omega) (by show 1 ≤ n % 4; omega) (by show ¬n % 4 = 3; omega)
    refine (congrFun (congrArg Prod.snd e) (ix2 p d)).trans ?_
    dsimp only
    rw [middle_eq, pay3_apply, part_eq, hq, hb, hr, ih]
    simp only [h4]
    rw [show 512 * (j + 1) = 512 * j + 512 by omega, ← Finset.sum_range_add]

/-- What an expert's last point leaves in its block. -/
theorem block_eq (c : Dev nD) (t : Fin cfg0.N) (h0 : ¬t.val % 4 = 0) (h1 : 1 ≤ t.val % 4) (h2 : t.val % 4 = 3)
    (b : Fin 2) (r : Fin 1536) (d : Fin 1024) :
    out0_C_4 c (grid0.coords t) (ms0_0 t) (hs0_0 t) (ms0_1 t) (hs0_1 t) (ms0_2 t) (hs0_2 t) (ms0_3 t) (hs0_3 t) (ms0_4 t) (hs0_4 t)
        scM0_0 (Memref.isWhole_whole _) (fun h => h0 ((hcond0_0 t).mp h)) ((hcond0_1 t).mpr h1) ((hcond0_2 t).mpr h2)
        (iblk m c 0 t) (iblk m c 1 t) (iblk m c 2 t) (iblk m c 3 t)
        (outsAt0 m c (t.val - 1) (Nat.lt_of_le_of_lt (Nat.sub_le _ _) t.isLt)).2 (ix4 b 0 r d)
      = expertArr (argX m c) (argG m c) (argU m c) (argD m c) (ix4 b (expertOf t) r d) := by
  rw [last_eq]
  show _ = if h : r.val < 1024 then expertAt (argX m c) (argG m c) (argU m c) (argD m c) b (expertOf t) ⟨r.val, h⟩ d else 0
  by_cases hr : r.val < 1024
  · rw [dif_pos hr, dif_pos hr, pay3_apply, part_eq,
      sum_eq m c (expertOf t) b ⟨r.val, hr⟩ d _ rfl 2 (t.val - 1) _ (by show t.val - 1 = 4 * (t.val / 4) + 2; omega) (by omega)]
    have hb : (⟨(1024 * b.val + r.val) / 1024, by omega⟩ : Fin 2) = b := Fin.ext (by show (1024 * b.val + r.val) / 1024 = b.val; omega)
    have hx : (⟨(1024 * b.val + r.val) % 1024, by omega⟩ : Fin 1024) = ⟨r.val, hr⟩ := Fin.ext (by show (1024 * b.val + r.val) % 1024 = r.val; omega)
    simp only [hb, hx, h2]
    rw [show 512 * 2 + 512 = 512 * 3 by omega, ← Finset.sum_range_add]
    unfold expertAt
    rw [show 512 * 3 + 512 = 2048 by omega, Finset.sum_range]
    exact Finset.sum_congr rfl fun f _ => ext_of_lt _ _ f.isLt
  · rw [dif_neg hr, dif_neg hr]

theorem block_idx (c : Dev nD) (t : Fin cfg0.N) (h0 : ¬t.val % 4 = 0) (h1 : 1 ≤ t.val % 4) (h2 : t.val % 4 = 3)
    (y : S2x1x1536x1024.Idx) :
    out0_C_4 c (grid0.coords t) (ms0_0 t) (hs0_0 t) (ms0_1 t) (hs0_1 t) (ms0_2 t) (hs0_2 t) (ms0_3 t) (hs0_3 t) (ms0_4 t) (hs0_4 t)
        scM0_0 (Memref.isWhole_whole _) (fun h => h0 ((hcond0_0 t).mp h)) ((hcond0_1 t).mpr h1) ((hcond0_2 t).mpr h2)
        (iblk m c 0 t) (iblk m c 1 t) (iblk m c 2 t) (iblk m c 3 t)
        (outsAt0 m c (t.val - 1) (Nat.lt_of_le_of_lt (Nat.sub_le _ _) t.isLt)).2 y
      = expertArr (argX m c) (argG m c) (argU m c) (argD m c) (ix4 (y 0 : Fin 2) (expertOf t) (y 2 : Fin 1536) (y 3 : Fin 1024)) := by
  have hy : y = ix4 (y 0 : Fin 2) 0 (y 2 : Fin 1536) (y 3 : Fin 1024) := by
    funext a
    match a with
    | ⟨0, _⟩ => rfl
    | ⟨1, _⟩ => exact Subsingleton.elim (α := Fin 1) _ _
    | ⟨2, _⟩ => rfl
    | ⟨3, _⟩ => rfl
  exact (congrArg _ hy).trans (block_eq m c t h0 h1 h2 (y 0) (y 2) (y 3))

theorem expertArr_of (x : S2x16x1024x1024.Idx → EReal) (wg wu : S16x1024x2048.Idx → EReal) (wd : S16x2048x1024.Idx → EReal)
    (i : S2x16x1536x1024.Idx) (b : Fin 2) (e : Fin 16) (r : Fin 1536) (d : Fin 1024)
    (hb : (i 0).val = b.val) (he : (i 1).val = e.val) (hr : (i 2).val = r.val) (hd : (i 3).val = d.val) :
    expertArr x wg wu wd i = expertArr x wg wu wd (ix4 b e r d) := by
  obtain rfl : (i 0 : Fin 2) = b := Fin.ext hb
  obtain rfl : (i 1 : Fin 16) = e := Fin.ext he
  obtain rfl : (i 2 : Fin 1536) = r := Fin.ext hr
  obtain rfl : (i 3 : Fin 1024) = d := Fin.ext hd
  rfl

theorem array_eq (c : Dev nD) :
    (dats m 0 c).arrAt 4 cfg0.N = expertArr (argX m c) (argG m c) (argU m c) (argD m c) := by
  refine (dats m 0 c).arrAt_eq_of_covers 4 _ (by decide +kernel) fun t hf y => ?_
  have h2 : t.val % 4 = 3 := (flush0_4 t).mp hf
  have h := congrFun (flushed4_C m c t (by omega) (by omega) h2) y
  blk_simp at h ⊢
  refine h.trans ((block_idx m c t (by omega) (by omega) h2 y).trans ?_)
  refine (expertArr_of _ _ _ _ _ _ _ _ _ ?_ ?_ ?_ ?_).symm
  · blk_simp [index_o t]
  · have h1 : (y 1 : Fin 1).val = 0 := by have : (y 1 : Fin 1).val < 1 := (y 1 : Fin 1).isLt; omega
    blk_simp [index_o t]
    simp [expertOf]
  · blk_simp [index_o t]
  · blk_simp [index_o t]

end Cert.Exp

end
-- ==== Proof.ExpRef.lean ====
/-
  What the experts' reference computes at an index of its result.
-/
module

public import proofs.«01_k».proof.Proof.ExpArray
public import proofs.«01_k».proof.Proof.Gen.ExpertsRefIdeal.Run

@[expose] public section

set_option maxRecDepth 16384

noncomputable section

namespace Cert.Exp.Ref

open Cert.ExpertsRefIdeal Cert.ExpertsRefIdeal.Gen Idealize.ShloMosaic Idealize.SL.Sem

/-- The tokens against one of the experts' first matrices. -/
abbrev projected (x : FVec Ideal S2x16x1024x1024 .bf16) (w : FVec Ideal S16x1024x2048 .f32) : FVec Ideal S2x16x1024x2048 .f32 :=
  transpose S2x16x1024x2048 [2, 0, 3, 1] (Host.dotGeneral dot_S16x1024x2048_S2x16x1024x1024_S16x2048x2x1024_1_3_2_02_0_1 none w (extf .f32 x bitsLt_bf16_f32)) transposes_S16x2048x2x1024_S2x16x1024x2048_2_0_3_1

/-- The ones the logistic function is written with. -/
abbrev ones : FVec Ideal S2x16x1024x2048 .f32 := broadcastInDim S2x16x1024x2048 ![] bcast_S_S2x16x1024x2048 (constant S_ .f32 0x3F800000#32)

/-- The gated product. -/
abbrev gatedProd (a u : FVec Ideal S2x16x1024x2048 .f32) : FVec Ideal S2x16x1024x2048 .f32 :=
  mulf (mulf a (Host.divf ones (addf ones (Host.exp (Host.negf a))))) u

/-- The gated product through the last matrix. -/
abbrev outcome (h : FVec Ideal S2x16x1024x2048 .f32) (w : FVec Ideal S16x2048x1024 .f32) : FVec Ideal S2x16x1024x1024 .f32 :=
  transpose S2x16x1024x1024 [2, 0, 3, 1] (Host.dotGeneral dot_S16x2048x1024_S2x16x1024x2048_S16x1024x2x1024_1_3_2_02_0_1 none w h) transposes_S16x1024x2x1024_S2x16x1024x1024_2_0_3_1

/-- The result, rows of zeros added. -/
abbrev padded (o : FVec Ideal S2x16x1024x1024 .f32) : FVec Ideal S2x16x1536x1024 .bf16 :=
  truncf .bf16 (pad S2x16x1536x1024 ![0, 0, 0, 0] ![0, 0, 512, 0] ![0, 0, 0, 0] o (sitofp .f32 (constantI S_ 32 0#32)) pads_S2x16x1024x1024_S2x16x1536x1024_000_000_05120_000 h_S_) bitsLt_bf16_f32

theorem projected_apply (x : FVec Ideal S2x16x1024x1024 .bf16) (w : FVec Ideal S16x1024x2048 .f32) (b : Fin 2) (e : Fin 16)
    (t : Fin 1024) (f : Fin 2048) : projected x w (ix4 b e t f) = proj x w b e t f := by
  unfold proj
  pointwise
  exact Finset.sum_congr rfl fun i _ => mul_comm _ _

theorem gatedProd_apply (a u : FVec Ideal S2x16x1024x2048 .f32) (b : Fin 2) (e : Fin 16) (t : Fin 1024) (f : Fin 2048) :
    gatedProd a u (ix4 b e t f) = gated (a (ix4 b e t f)) (u (ix4 b e t f)) := by
  unfold gated
  pointwise [Ideal.logistic, Ideal.ofBits_one_f32]

theorem outcome_apply (h : FVec Ideal S2x16x1024x2048 .f32) (w : FVec Ideal S16x2048x1024 .f32) (b : Fin 2) (e : Fin 16)
    (t d : Fin 1024) : outcome h w (ix4 b e t d) = ∑ f : Fin 2048, h (ix4 b e t f) * w (ix3 e f d) := by
  pointwise
  exact Finset.sum_congr rfl fun i _ => mul_comm _ _

/-- The padding's zero, converted from an integer. -/
theorem sitofp_zero : (FloatOps.sitofp FTy.f32 (0#32) : Ideal .f32) = 0 := by
  show ((((0#32 : BitVec 32).toInt : ℤ) : ℝ) : EReal) = 0
  simp

theorem padded_apply (o : FVec Ideal S2x16x1024x1024 .f32) (b : Fin 2) (e : Fin 16) (t : Fin 1536) (d : Fin 1024) :
    padded o (ix4 b e t d) = if h : t.val < 1024 then o (ix4 b e ⟨t.val, h⟩ d) else 0 := by
  pointwise [sitofp_zero]

theorem reference_apply (x : FVec Ideal S2x16x1024x1024 .bf16) (wg wu : FVec Ideal S16x1024x2048 .f32) (wd : FVec Ideal S16x2048x1024 .f32)
    (b : Fin 2) (e : Fin 16) (t d : Fin 1024) :
    outcome (gatedProd (projected x wg) (projected x wu)) wd (ix4 b e t d) = expertAt x wg wu wd b e t d := by
  have hg := projected_apply x wg b e t
  have hu := projected_apply x wu b e t
  generalize projected x wg = a at hg ⊢
  generalize projected x wu = u at hu ⊢
  have hp := gatedProd_apply a u b e t
  generalize gatedProd a u = p at hp ⊢
  rw [outcome_apply]
  unfold expertAt feat
  exact Finset.sum_congr rfl fun f _ => by rw [hp, hg, hu]

theorem reference_at (x : FVec Ideal S2x16x1024x1024 .bf16) (wg wu : FVec Ideal S16x1024x2048 .f32) (wd : FVec Ideal S16x2048x1024 .f32)
    (b : Fin 2) (e : Fin 16) (t : Fin 1536) (d : Fin 1024) :
    padded (outcome (gatedProd (projected x wg) (projected x wu)) wd) (ix4 b e t d) = expertArr x wg wu wd (ix4 b e t d) := by
  have h := reference_apply x wg wu wd b e
  generalize outcome (gatedProd (projected x wg) (projected x wu)) wd = o at h ⊢
  rw [padded_apply]
  show _ = if h : t.val < 1024 then expertAt x wg wu wd b e ⟨t.val, h⟩ d else 0
  simp only [h]

theorem reference_eq (x : FVec Ideal S2x16x1024x1024 .bf16) (wg wu : FVec Ideal S16x1024x2048 .f32) (wd : FVec Ideal S16x2048x1024 .f32) :
    padded (outcome (gatedProd (projected x wg) (projected x wu)) wd) = expertArr x wg wu wd := by
  funext i
  idx_vars i
  exact reference_at x wg wu wd _ _ _ _

end Cert.Exp.Ref

end
-- ==== Proof.ExpClaim.lean ====
/-
  The experts' claim: the kernel's run and the reference's leave the same array.
-/
module

public import proofs.«01_k».proof.Proof.ExpRef
public import proofs.«01_k».proof.Defs

@[expose] public section

noncomputable section

namespace Cert.Proof

open Idealize.ShloMosaic Idealize.ShloMosaic.TcCoe Idealize.SL.Sem

theorem experts_eq : Cert.algebraic_ExpertsIdeal_ExpertsRefIdeal := by
  intro m g m' g' _ hargs
  refine ⟨fun c => Cert.Exp.expertArr (Cert.Exp.argX m c) (Cert.Exp.argG m c) (Cert.Exp.argU m c) (Cert.Exp.argD m c), ?_, ?_⟩
  · exact (θ_run Cert.ExpertsIdeal.defs _ _).mono
      (fun r h c => ⟨(h c).1.trans (Cert.Exp.array_eq m c), (h c).2⟩)
      (Cert.ExpertsIdeal.Value.run_blocks m g)
  · refine (θ_run Cert.ExpertsRefIdeal.defs _ _).mono (fun r h c => ⟨(h c).1.trans ?_, (h c).2⟩)
      (Cert.ExpertsRefIdeal.Value.run m' g')
    obtain ⟨h0, h1, h2, h3⟩ := hargs c
    refine (Cert.Exp.Ref.reference_eq _ _ _ _).trans ?_
    rw [h0, h1, h2, h3]

end Cert.Proof

end
-- ==== Proof.Rms.lean ====
/-
  A row over its root mean square, times a gain.
-/
module

public import Idealize.ShloMosaic.Lib.Pointwise

@[expose] public section

noncomputable section

namespace Cert.Rms

open Idealize.ShloMosaic

/-- The inverse root of a row's mean square, `w` the word of the row's length. -/
def scale {n : ℕ} (w : BitVec 32) (x : Fin n → EReal) : EReal :=
  Ideal.rsqrt (Ideal.div (∑ k, x k * x k) (Ideal.ofBits .f32 w) + Ideal.ofBits .f32 0x358637BD#32)

/-- The row normalized, times the gain `g`. -/
def rms {n : ℕ} (w : BitVec 32) (x g : Fin n → EReal) (j : Fin n) : EReal := x j * scale w x * g j

/-- A sum along the last axis, at an index. -/
theorem sum_gen2 {n0 n1 : ℕ} (s : FVec Ideal ⟨2, ![n0, n1]⟩ .f32) (hr : (⟨2, ![n0, n1]⟩ : Shape).ReducesTo [1] ⟨1, ![n0]⟩)
    (h : 0 < (⟨0, ![]⟩ : Shape).numel) (t : Fin n0) :
    Host.reduceAdd s (constant ⟨0, ![]⟩ .f32 0x00000000#32) hr h (ix1 t) = ∑ i : Fin n1, s (ix2 t i) := by
  pointwise

theorem sum_gen3 {n0 n1 n2 : ℕ} (s : FVec Ideal ⟨3, ![n0, n1, n2]⟩ .f32) (hr : (⟨3, ![n0, n1, n2]⟩ : Shape).ReducesTo [2] ⟨2, ![n0, n1]⟩)
    (h : 0 < (⟨0, ![]⟩ : Shape).numel) (b : Fin n0) (t : Fin n1) :
    Host.reduceAdd s (constant ⟨0, ![]⟩ .f32 0x00000000#32) hr h (ix2 b t) = ∑ i : Fin n2, s (ix3 b t i) := by
  pointwise

theorem sq_gen2 {n0 n1 : ℕ} (s : FVec Ideal ⟨2, ![n0, n1]⟩ .f32) (hr : (⟨2, ![n0, n1]⟩ : Shape).ReducesTo [1] ⟨1, ![n0]⟩)
    (h : 0 < (⟨0, ![]⟩ : Shape).numel) (t : Fin n0) :
    Host.reduceAdd (mulf s s) (constant ⟨0, ![]⟩ .f32 0x00000000#32) hr h (ix1 t) = ∑ i : Fin n1, s (ix2 t i) * s (ix2 t i) := by
  pointwise

theorem sq_gen3 {n0 n1 n2 : ℕ} (s : FVec Ideal ⟨3, ![n0, n1, n2]⟩ .f32) (hr : (⟨3, ![n0, n1, n2]⟩ : Shape).ReducesTo [2] ⟨2, ![n0, n1]⟩)
    (h : 0 < (⟨0, ![]⟩ : Shape).numel) (b : Fin n0) (t : Fin n1) :
    Host.reduceAdd (mulf s s) (constant ⟨0, ![]⟩ .f32 0x00000000#32) hr h (ix2 b t) = ∑ i : Fin n2, s (ix3 b t i) * s (ix3 b t i) := by
  pointwise

/-- The word of −∞ reads as the least extended real. -/
theorem neg_inf : Ideal.ofBits .f32 0xFF800000#32 = ⊥ := by
  show Ideal.ieee 8 23 0xFF800000#32 = ⊥
  unfold Ideal.ieee
  simp

theorem max_gen3 {n0 n1 n2 : ℕ} (s : FVec Ideal ⟨3, ![n0, n1, n2]⟩ .f32) (hr : (⟨3, ![n0, n1, n2]⟩ : Shape).ReducesTo [2] ⟨2, ![n0, n1]⟩)
    (h : 0 < (⟨0, ![]⟩ : Shape).numel) (b : Fin n0) (t : Fin n1) :
    Host.reduce FloatOps.maximumf s (constant ⟨0, ![]⟩ .f32 0xFF800000#32) hr h (ix2 b t) = Finset.univ.fold max ⊥ fun i : Fin n2 => s (ix3 b t i) := by
  pointwise [neg_inf]

end Cert.Rms

end
-- ==== Proof.ProjMath.lean ====
/-
  The arithmetic of the projections: a normalized row is finite, a finite row's product with negated weights, and the
  rotation of a pair of columns.
-/
module

public import proofs.«01_k».proof.Proof.Rms
public import proofs.«01_k».proof.Proof.Softmax

@[expose] public section

noncomputable section

namespace Cert.Proj

open Idealize.ShloMosaic Cert.Rms

theorem ofBits_eps : Ideal.ofBits .f32 0x358637BD#32 = (((8796093 : ℝ) * 2 ^ (-43 : ℤ) : ℝ) : EReal) := by
  simp [Ideal.ofBits, Ideal.ieee, -EReal.coe_mul]

theorem ofBits_1024 : Ideal.ofBits .f32 0x44800000#32 = ((1024 : ℝ) : EReal) := by
  simp [Ideal.ofBits, Ideal.ieee, -EReal.coe_mul]; norm_num

theorem ofBits_256 : Ideal.ofBits .f32 0x43800000#32 = ((256 : ℝ) : EReal) := by
  simp [Ideal.ofBits, Ideal.ieee, -EReal.coe_mul]; norm_num

theorem sq_nonneg (x : EReal) : 0 ≤ x * x := by
  induction x with
  | bot => simp
  | coe r => rw [← EReal.coe_mul]; exact EReal.coe_nonneg.mpr (mul_self_nonneg r)
  | top => simp

theorem sq_top {x : EReal} (h : ¬∃ r : ℝ, x = r) : x * x = ⊤ := by
  induction x with
  | bot => simp
  | coe r => exact absurd ⟨r, rfl⟩ h
  | top => simp

/-- A row times the inverse root of its mean square is finite, whatever the row: with an infinite entry the root's
    inverse is zero. -/
theorem scaled_finite {n : ℕ} {w : BitVec 32} {N : ℝ} (hN : 0 < N) (hw : Ideal.ofBits .f32 w = (N : EReal)) (x : Fin n → EReal)
    (j : Fin n) : ∃ r : ℝ, x j * scale w x = r := by
  have hE : (0 : ℝ) < (8796093 : ℝ) * 2 ^ (-43 : ℤ) := by positivity
  unfold scale
  rw [hw, ofBits_eps, Ideal.div_coe hN.ne']
  generalize (8796093 : ℝ) * 2 ^ (-43 : ℤ) = e at hE
  by_cases h : ∀ k, ∃ r : ℝ, x k = r
  · choose y hy using h
    have hS : ∑ k, x k * x k = ((∑ k, y k * y k : ℝ) : EReal) := by
      rw [Cert.Attn.coe_sum]
      exact Finset.sum_congr rfl fun k _ => by rw [hy k, EReal.coe_mul]
    have h0 : 0 ≤ ∑ k, y k * y k := Finset.sum_nonneg fun k _ => mul_self_nonneg (y k)
    have hp : 0 < (∑ k, y k * y k) * (1 / N) + e := by positivity
    rw [hS, ← EReal.coe_mul, ← EReal.coe_add, Ideal.rsqrt_coe, if_neg (not_lt.mpr hp.le), if_neg hp.ne', hy j, ← EReal.coe_mul]
    exact ⟨_, rfl⟩
  · push Not at h
    obtain ⟨k, hk⟩ := h
    have hk' : x k * x k = ⊤ := sq_top fun ⟨r, hr⟩ => hk r hr
    have hS : ∑ k, x k * x k = ⊤ := by
      rw [← Finset.add_sum_erase _ _ (Finset.mem_univ k), hk']
      refine EReal.top_add_of_ne_bot fun hb => ?_
      have h0 : (0 : EReal) ≤ ∑ k ∈ Finset.univ.erase k, x k * x k := Finset.sum_nonneg fun k _ => sq_nonneg (x k)
      rw [hb] at h0
      exact absurd h0 (by simp)
    rw [hS, EReal.top_mul_coe_of_pos (one_div_pos.mpr hN), EReal.top_add_coe, Ideal.rsqrt_top, mul_zero]
    exact ⟨0, rfl⟩

/-- With a finite gain the normalized row is finite. -/
theorem rms_finite {n : ℕ} {w : BitVec 32} {N : ℝ} (hN : 0 < N) (hw : Ideal.ofBits .f32 w = (N : EReal)) (x g : Fin n → EReal)
    (hg : ∀ k, ∃ r : ℝ, g k = r) (j : Fin n) : ∃ r : ℝ, rms w x g j = r := by
  obtain ⟨a, ha⟩ := scaled_finite hN hw x j
  obtain ⟨b, hb⟩ := hg j
  exact ⟨a * b, by rw [rms, ha, hb, EReal.coe_mul]⟩

/-- A finite row times negated finite weights. -/
theorem sum_mul_neg {ι : Type} [Fintype ι] {a b : ι → EReal} (ha : ∀ d, ∃ r : ℝ, a d = r) (hb : ∀ d, ∃ r : ℝ, b d = r) :
    ∑ d, a d * -b d = -∑ d, a d * b d := by
  choose x hx using ha
  choose y hy using hb
  have h1 : ∑ d, a d * b d = ((∑ d, x d * y d : ℝ) : EReal) := by
    rw [Cert.Attn.coe_sum]
    exact Finset.sum_congr rfl fun d _ => by rw [hx, hy, EReal.coe_mul]
  have h2 : ∑ d, a d * -b d = ((∑ d, -(x d * y d) : ℝ) : EReal) := by
    rw [Cert.Attn.coe_sum]
    exact Finset.sum_congr rfl fun d _ => by rw [hx, hy, ← EReal.coe_neg, ← EReal.coe_mul, mul_neg]
  rw [h1, h2, Finset.sum_neg_distrib, EReal.coe_neg]

/-- 32 columns in two halves, turned by 16 angles: `c` the cosines, `s` the sines. -/
def rot (f : Fin 32 → EReal) (c s : Fin 16 → EReal) (r : Fin 32) : EReal :=
  if h : r.val < 16 then f r * c ⟨r.val, h⟩ - f ⟨16 + r.val, by omega⟩ * s ⟨r.val, h⟩
  else f r * c ⟨r.val - 16, by omega⟩ + f ⟨r.val - 16, by omega⟩ * s ⟨r.val - 16, by omega⟩

/-- A head of 128 columns: 64 plain, 32 others, 32 zeros. -/
def head (p : Fin 64 → EReal) (q : Fin 32 → EReal) (j : Fin 128) : EReal :=
  if h : j.val < 64 then p ⟨j.val, h⟩ else if h' : j.val < 96 then q ⟨j.val - 64, by omega⟩ else 0

/-- The same columns with the 32 swapped in halves, the first of them negated, and zeros before. -/
def swapped (f : Fin 32 → EReal) (j : Fin 128) : EReal :=
  if h : j.val < 64 then 0 else if h' : j.val < 80 then -f ⟨j.val - 48, by omega⟩ else if h'' : j.val < 96 then f ⟨j.val - 80, by omega⟩ else 0

/-- The rotation as the sum of two products: the columns times the cosines, the swapped columns times the sines. -/
theorem rotated (p : Fin 64 → EReal) (f : Fin 32 → EReal) (c s : Fin 128 → EReal) (h1 : ∀ j : Fin 64, c ⟨j.val, by omega⟩ = 1)
    (hc : ∀ j : Fin 16, c ⟨64 + j.val, by omega⟩ = c ⟨80 + j.val, by omega⟩)
    (hs : ∀ j : Fin 16, s ⟨64 + j.val, by omega⟩ = s ⟨80 + j.val, by omega⟩) (j : Fin 128) :
    head p f j * c j + swapped f j * s j
      = head p (rot f (fun k => c ⟨64 + k.val, by omega⟩) (fun k => s ⟨64 + k.val, by omega⟩)) j := by
  unfold head swapped rot
  by_cases h : j.val < 64
  · simp only [dif_pos h]
    have e := h1 ⟨j.val, h⟩
    rw [show c j = 1 from e, mul_one, zero_mul, add_zero]
  · simp only [dif_neg h]
    by_cases h80 : j.val < 80
    · have h96 : j.val < 96 := by omega
      have h16 : j.val - 64 < 16 := by omega
      simp only [dif_pos h80, dif_pos h96, dif_pos h16]
      have e1 : (⟨64 + (j.val - 64), by omega⟩ : Fin 128) = j := Fin.ext (by show 64 + (j.val - 64) = j.val; omega)
      have e2 : (⟨16 + (j.val - 64), by omega⟩ : Fin 32) = ⟨j.val - 48, by omega⟩ := Fin.ext (by show 16 + (j.val - 64) = j.val - 48; omega)
      rw [e1, e2, EReal.neg_mul, sub_eq_add_neg]
    · simp only [dif_neg h80]
      by_cases h96 : j.val < 96
      · have h16 : ¬j.val - 64 < 16 := by omega
        simp only [dif_pos h96, dif_neg h16]
        have ec := hc ⟨j.val - 64 - 16, by omega⟩
        have es := hs ⟨j.val - 64 - 16, by omega⟩
        have e1 : (⟨80 + (j.val - 64 - 16), by omega⟩ : Fin 128) = j := Fin.ext (by show 80 + (j.val - 64 - 16) = j.val; omega)
        have e2 : (⟨j.val - 64 - 16, by omega⟩ : Fin 32) = ⟨j.val - 80, by omega⟩ := Fin.ext (by show j.val - 64 - 16 = j.val - 80; omega)
        rw [e1] at ec es
        rw [ec, es, e2]
      · simp only [dif_neg h96, zero_mul, add_zero]

/-- A sum of products with heads is the head of the sums. -/
theorem sum_head {ι : Type} [Fintype ι] (a : ι → EReal) (p : ι → Fin 64 → EReal) (q : ι → Fin 32 → EReal) (j : Fin 128) :
    ∑ k, a k * head (p k) (q k) j = head (fun r => ∑ k, a k * p k r) (fun r => ∑ k, a k * q k r) j := by
  unfold head
  split_ifs
  · rfl
  · rfl
  · simp only [mul_zero, Finset.sum_const_zero]

/-- The same of the swapped columns, where all is finite. -/
theorem sum_swapped {ι : Type} [Fintype ι] {a : ι → EReal} {f : ι → Fin 32 → EReal} (ha : ∀ k, ∃ r : ℝ, a k = r)
    (hf : ∀ k i, ∃ r : ℝ, f k i = r) (j : Fin 128) :
    ∑ k, a k * swapped (f k) j = swapped (fun r => ∑ k, a k * f k r) j := by
  unfold swapped
  split_ifs
  · simp only [mul_zero, Finset.sum_const_zero]
  · exact sum_mul_neg ha fun k => hf k _
  · rfl
  · simp only [mul_zero, Finset.sum_const_zero]

/-- The plain columns and the others, added. -/
theorem head_add (p : Fin 64 → EReal) (q : Fin 32 → EReal) (j : Fin 128) :
    head p (fun _ => 0) j + head (fun _ => 0) q j = head p q j := by
  unfold head
  split_ifs <;> simp

end Cert.Proj

end
-- ==== Proof.ProjPay.lean ====
/-
  The values the projections' body computes, read at an index.
-/
module

public import proofs.«01_k».proof.Proof.ProjMath
public import proofs.«01_k».proof.Proof.Gen.ProjectionsIdeal.Skeleton
public import Idealize.ShloMosaic.Lib.Pointwise

@[expose] public section

set_option maxRecDepth 16384

noncomputable section

namespace Cert.Proj

open Cert.ProjectionsIdeal Cert.ProjectionsIdeal.Gen Idealize.ShloMosaic Cert.Rms

theorem pay4_apply (x : Vec Ideal S512x1024 .f32) (g : Vec Ideal S1x1024 .f32) (w : Vec Ideal S1024x2560 .bf16) (r : Fin 512) (j : Fin 2560) :
    k0_pay4 x g w (ix2 r j) = ∑ k, rms 0x44800000#32 (fun k => x (ix2 r k)) (fun k => g (ix2 0 k)) k * w (ix2 k j) := by
  unfold rms scale
  pointwise [k0_pay4]

section
variable (x : Vec Ideal S512x1024 .f32) (g : Vec Ideal S1x1024 .f32) (w : Vec Ideal S1024x2560 .bf16) (r : Fin 512)

theorem pay5_apply (j : Fin 768) : k0_pay5 x g w (ix2 r j) = k0_pay4 x g w (ix2 r ⟨640 + j.val, by omega⟩) := by
  unfold k0_pay5
  generalize k0_pay4 x g w = p
  pointwise

theorem pay6_apply (j : Fin 256) : k0_pay6 x g w (ix2 r j) = k0_pay4 x g w (ix2 r ⟨1408 + j.val, by omega⟩) := by
  unfold k0_pay6
  generalize k0_pay4 x g w = p
  pointwise

theorem pay7_apply (j : Fin 768) : k0_pay7 x g w (ix2 r j) = k0_pay4 x g w (ix2 r ⟨1664 + j.val, by omega⟩) := by
  unfold k0_pay7
  generalize k0_pay4 x g w = p
  pointwise

theorem pay8_apply (j : Fin 128) : k0_pay8 x g w (ix2 r j) = k0_pay4 x g w (ix2 r ⟨2432 + j.val, by omega⟩) := by
  unfold k0_pay8
  generalize k0_pay4 x g w = p
  pointwise

theorem pay11_apply (j : Fin 256) : k0_pay11 x g w (ix2 r j) = k0_pay4 x g w (ix2 r ⟨j.val, by omega⟩) := by
  unfold k0_pay11
  generalize k0_pay4 x g w = p
  pointwise
end

theorem pay9_apply (v : Vec Ideal S512x128 .f32) (r : Fin 512) (c : Fin 1024) :
    k0_pay9 v (ix2 r c) = v (ix2 r ⟨c.val % 128, by omega⟩) := by
  pointwise [k0_pay9]
  split_ifs <;> exact congrArg (fun j => v (ix2 r j)) (Fin.ext (by simp only; omega))

theorem pay10_apply (v : Vec Ideal S512x128 .f32) (r : Fin 512) (c : Fin 1024) :
    k0_pay10 v (ix2 r c) = v (ix2 r ⟨c.val % 128, by omega⟩) := pay9_apply v r c

theorem pay12_apply (v29 v30 : FVec Ideal S512x1024 .f32) (v31 : FVec Ideal S512x256 .f32) (v32 : Vec Ideal S1x256 .f32)
    (v47 v50 : Vec Ideal S256x1024 .bf16) (r : Fin 512) (c : Fin 1024) :
    k0_pay12 v29 v30 v31 v32 v47 v50 (ix2 r c)
      = ((∑ k, rms 0x43800000#32 (fun k => v31 (ix2 r k)) (fun k => v32 (ix2 0 k)) k * v47 (ix2 k c)) * v29 (ix2 r c)
          + (∑ k, rms 0x43800000#32 (fun k => v31 (ix2 r k)) (fun k => v32 (ix2 0 k)) k * v50 (ix2 k c)) * v30 (ix2 r c))
        * Ideal.ofBits .f32 0x3DD105EC#32 := by
  unfold rms scale
  pointwise [k0_pay12]

theorem pay13_apply (v : Vec Ideal S1x128 .f32) (j : Fin 128) : k0_pay13 v (ix2 0 j) = v (ix2 0 j) := by
  pointwise [k0_pay13]

theorem pay14_apply (v : FVec Ideal S512x2560 .f32) (r : Fin 512) (j : Fin 128) :
    k0_pay14 v (ix2 r j) = v (ix2 r ⟨256 + j.val, by omega⟩) * scale 0x43000000#32 (fun k : Fin 128 => v (ix2 r ⟨256 + k.val, by omega⟩)) := by
  unfold scale
  pointwise [k0_pay14]

theorem pay2_apply (g : FVec Ideal S1x128 .f32) (v : FVec Ideal S512x128 .f32) (w : Vec Ideal S128x512 .bf16) (r : Fin 512) (c : Fin 512) :
    k0_pay2 g v w (ix2 r c) = ∑ k, v (ix2 r k) * g (ix2 0 k) * w (ix2 k c) := by
  pointwise [k0_pay2, k0_pay1]

theorem pay3_apply (v18 : FVec Ideal S512x2560 .f32) (v27 v28 : Vec Ideal S512x128 .f32) (g : FVec Ideal S1x128 .f32) (v : FVec Ideal S512x128 .f32)
    (w : Vec Ideal S128x1024 .bf16) (r : Fin 512) (c : Fin 1024) :
    k0_pay3 v18 v27 v28 g v w (ix2 r c)
      = ∑ k, v (ix2 r k) * g (ix2 0 k) * w (ix2 k c)
        + (v18 (ix2 r ⟨384 + c.val % 128, by omega⟩) * v27 (ix2 r ⟨c.val % 128, by omega⟩)
          + v18 (ix2 r ⟨512 + c.val % 128, by omega⟩) * v28 (ix2 r ⟨c.val % 128, by omega⟩)) := by
  let kr : Vec Ideal S512x128 .f32 :=
    addf (mulf (extractStridedSlice S512x128 ![0, 384] v18 slices_S512x2560_o0_384_S512x128) v27)
      (mulf (extractStridedSlice S512x128 ![0, 512] v18 slices_S512x2560_o0_512_S512x128) v28)
  have h1 : k0_pay3 v18 v27 v28 g v w (ix2 r c) = ∑ k, v (ix2 r k) * g (ix2 0 k) * w (ix2 k c) + k0_pay9 kr (ix2 r c) := by
    show _ = _ + k0_pay9 (addf (mulf (extractStridedSlice S512x128 ![0, 384] v18 slices_S512x2560_o0_384_S512x128) v27)
      (mulf (extractStridedSlice S512x128 ![0, 512] v18 slices_S512x2560_o0_512_S512x128) v28)) (ix2 r c)
    unfold k0_pay3 k0_pay9
    pointwise [k0_pay1]
  rw [h1, pay9_apply]
  congr 1
  show addf (mulf (extractStridedSlice S512x128 ![0, 384] v18 slices_S512x2560_o0_384_S512x128) v27)
      (mulf (extractStridedSlice S512x128 ![0, 512] v18 slices_S512x2560_o0_512_S512x128) v28) (ix2 r ⟨c.val % 128, by omega⟩) = _
  pointwise

end Cert.Proj

end
-- ==== Proof.ProjPack.lean ====
/-
  The weights packed for the projections, read at an index.
-/
module

public import proofs.«01_k».proof.Proof.ProjMath
public import proofs.«01_k».proof.Proof.Gen.ProjectionsIdeal.Skeleton
public import Idealize.ShloMosaic.Lib.Pointwise

@[expose] public section

set_option maxRecDepth 16384

noncomputable section

namespace Cert.Proj

open Cert.ProjectionsIdeal Cert.ProjectionsIdeal.Gen Idealize.ShloMosaic Cert.Rms

theorem sitofp_zero : (FloatOps.sitofp FTy.f32 (0#32) : Ideal .f32) = (0 : EReal) := by
  show ((((0#32 : BitVec 32).toInt : ℤ) : ℝ) : EReal) = 0
  simp

/-- The packed input weights. -/
abbrev packed (w : FVec Ideal S1024x2216 .f32) : FVec Ideal S1024x2560 .bf16 :=
  truncf .bf16 (concatenate S1024x2560 1 [⟨S1024x256, (extractStridedSlice S1024x256 ![0, 0] w slices_S1024x2216_S1024x256_0_0)⟩,
        ⟨S1024x128, (extractStridedSlice S1024x128 ![0, 256] w slices_S1024x2216_S1024x128_0_256)⟩,
        ⟨S1024x128, (concatenate S1024x128 1 [⟨S1024x64, (broadcastInDim S1024x64 ![] bcast_S_S1024x64 (constant S_ .f32 0x00000000#32))⟩, ⟨S1024x32, (extractStridedSlice S1024x32 ![0, 384] w slices_S1024x2216_S1024x32_0_384)⟩, ⟨S1024x32, (broadcastInDim S1024x32 ![] bcast_S_S1024x32 (constant S_ .f32 0x00000000#32))⟩] concatenates_S1024x64_S1024x32_S1024x32_S1024x128_d1)⟩,
        ⟨S1024x128, (concatenate S1024x128 1 [⟨S1024x64, (broadcastInDim S1024x64 ![] bcast_S_S1024x64 (constant S_ .f32 0x00000000#32))⟩, ⟨S1024x16, Host.negf (extractStridedSlice S1024x16 ![0, 16] (extractStridedSlice S1024x32 ![0, 384] w slices_S1024x2216_S1024x32_0_384) slices_S1024x32_S1024x16_0_16)⟩,
          ⟨S1024x16, extractStridedSlice S1024x16 ![0, 0] (extractStridedSlice S1024x32 ![0, 384] w slices_S1024x2216_S1024x32_0_384) slices_S1024x32_S1024x16_0_0⟩, ⟨S1024x32, (broadcastInDim S1024x32 ![] bcast_S_S1024x32 (constant S_ .f32 0x00000000#32))⟩] concatenates_S1024x64_S1024x16_S1024x16_S1024x32_S1024x128_d1)⟩,
        ⟨S1024x768, (extractStridedSlice S1024x768 ![0, 416] w slices_S1024x2216_S1024x768_0_416)⟩,
        ⟨S1024x256, (extractStridedSlice S1024x256 ![0, 1184] w slices_S1024x2216_S1024x256_0_1184)⟩,
        ⟨S1024x768, (extractStridedSlice S1024x768 ![0, 1440] w slices_S1024x2216_S1024x768_0_1440)⟩,
        ⟨S1024x128, (pad S1024x128 ![0, 0] ![0, 120] ![0, 0] (extractStridedSlice S1024x8 ![0, 2208] w slices_S1024x2216_S1024x8_0_2208) (sitofp .f32 (constantI S_ 32 0#32)) pads_S1024x8_S1024x128_000_01200 h_S_)⟩]
        concatenates_S1024x256_S1024x128_S1024x128_S1024x128_S1024x768_S1024x256_S1024x768_S1024x128_S1024x2560_d1) bitsLt_bf16_f32

/-- The query weights, head by head in 128 columns. -/
abbrev queryW (w : FVec Ideal S256x768 .f32) : FVec Ideal S256x1024 .bf16 :=
  truncf .bf16 (shapeCast S256x1024 (concatenate S256x8x128 2 [⟨S256x8x64, (extractStridedSlice S256x8x64 ![0, 0, 0] (shapeCast S256x8x96 w shapeCasts_S256x768_S256x8x96) slices_S256x8x96_S256x8x64_0_0_0)⟩, ⟨S256x8x32, (extractStridedSlice S256x8x32 ![0, 0, 64] (shapeCast S256x8x96 w shapeCasts_S256x768_S256x8x96) slices_S256x8x96_S256x8x32_0_0_64)⟩, ⟨S256x8x32, (broadcastInDim S256x8x32 ![] bcast_S_S256x8x32 (constant S_ .f32 0x00000000#32))⟩] concatenates_S256x8x64_S256x8x32_S256x8x32_S256x8x128_d2) shapeCasts_S256x8x128_S256x1024) bitsLt_bf16_f32

/-- The same, swapped. -/
abbrev swappedW (w : FVec Ideal S256x768 .f32) : FVec Ideal S256x1024 .bf16 :=
  truncf .bf16 (shapeCast S256x1024 (concatenate S256x8x128 2 [⟨S256x8x64, (broadcastInDim S256x8x64 ![] bcast_S_S256x8x64 (constant S_ .f32 0x00000000#32))⟩,
    ⟨S256x8x16, Host.negf (extractStridedSlice S256x8x16 ![0, 0, 16] (extractStridedSlice S256x8x32 ![0, 0, 64] (shapeCast S256x8x96 w shapeCasts_S256x768_S256x8x96) slices_S256x8x96_S256x8x32_0_0_64) slices_S256x8x32_S256x8x16_0_0_16)⟩,
    ⟨S256x8x16, extractStridedSlice S256x8x16 ![0, 0, 0] (extractStridedSlice S256x8x32 ![0, 0, 64] (shapeCast S256x8x96 w shapeCasts_S256x768_S256x8x96) slices_S256x8x96_S256x8x32_0_0_64) slices_S256x8x32_S256x8x16_0_0_0⟩, ⟨S256x8x32, (broadcastInDim S256x8x32 ![] bcast_S_S256x8x32 (constant S_ .f32 0x00000000#32))⟩] concatenates_S256x8x64_S256x8x16_S256x8x16_S256x8x32_S256x8x128_d2) shapeCasts_S256x8x128_S256x1024) bitsLt_bf16_f32

/-- The key weights, head by head in 128 columns. -/
abbrev keyW (w : FVec Ideal S128x1024 .f32) : FVec Ideal S128x1024 .bf16 :=
  truncf .bf16 (shapeCast S128x1024 (concatenate S128x8x128 2 [⟨S128x8x64, (extractStridedSlice S128x8x64 ![0, 0, 0] (shapeCast S128x8x128 w shapeCasts_S128x1024_S128x8x128) slices_S128x8x128_S128x8x64_0_0_0)⟩,
    ⟨S128x8x64, (broadcastInDim S128x8x64 ![] bcast_S_S128x8x64 (constant S_ .f32 0x00000000#32))⟩] concatenates_S128x8x64_S128x8x64_S128x8x128_d2) shapeCasts_S128x8x128_S128x1024) bitsLt_bf16_f32

/-- The value weights. -/
abbrev valueW (w : FVec Ideal S128x1024 .f32) : FVec Ideal S128x512 .bf16 :=
  truncf .bf16 (shapeCast S128x512 (extractStridedSlice S128x8x64 ![0, 0, 64] (shapeCast S128x8x128 w shapeCasts_S128x1024_S128x8x128) slices_S128x8x128_S128x8x64_0_0_64) shapeCasts_S128x8x64_S128x512) bitsLt_bf16_f32

/-! The packed weights at an index. -/

theorem col {n p : ℕ} (w : (⟨2, ![n, p]⟩ : Shape).Idx → EReal) (k : Fin n) {i j : Fin p} (h : i.val = j.val) : w (ix2 k i) = w (ix2 k j) := by
  rw [Fin.ext h]

theorem packed_low (w : FVec Ideal S1024x2216 .f32) (k : Fin 1024) (j : Fin 384) :
    packed w (ix2 k ⟨j.val, by omega⟩) = w (ix2 k ⟨j.val, by omega⟩) := by
  pointwise
  split_ifs <;> first
    | rfl
    | (exfalso; omega)
    | exact col w k (by first | omega | (simp only; omega))

set_option maxHeartbeats 1000000 in
theorem packed_rot (w : FVec Ideal S1024x2216 .f32) (k : Fin 1024) (j : Fin 128) :
    packed w (ix2 k ⟨384 + j.val, by omega⟩) = head (fun _ => 0) (fun r => w (ix2 k ⟨384 + r.val, by omega⟩)) j := by
  unfold head
  pointwise
  split_ifs <;> first
    | rfl
    | (exfalso; omega)
    | (rw [dif_neg (by omega), dif_pos (by omega)]; exact col w k (by first | omega | (simp only; omega)))

set_option maxHeartbeats 1000000 in
theorem packed_swap (w : FVec Ideal S1024x2216 .f32) (k : Fin 1024) (j : Fin 128) :
    packed w (ix2 k ⟨512 + j.val, by omega⟩) = swapped (fun r => w (ix2 k ⟨384 + r.val, by omega⟩)) j := by
  unfold swapped
  pointwise
  split_ifs <;> first
    | rfl
    | (exfalso; omega)
    | (rw [dif_neg (by omega), dif_pos (by omega)]; exact congrArg Neg.neg (col w k (by first | omega | (simp only; omega))))
    | (rw [dif_neg (by omega), dif_neg (by omega), dif_pos (by omega)]; exact col w k (by first | omega | (simp only; omega)))

set_option maxHeartbeats 1000000 in
theorem packed_high (w : FVec Ideal S1024x2216 .f32) (k : Fin 1024) (j : Fin 1800) :
    packed w (ix2 k ⟨640 + j.val, by omega⟩) = w (ix2 k ⟨416 + j.val, by omega⟩) := by
  pointwise
  split_ifs <;> first
    | rfl
    | (exfalso; omega)
    | exact col w k (by first | omega | (simp only; omega))

theorem packed_end (w : FVec Ideal S1024x2216 .f32) (k : Fin 1024) (j : Fin 120) :
    packed w (ix2 k ⟨2440 + j.val, by omega⟩) = 0 := by
  pointwise
  split_ifs <;> first
    | rfl
    | (exfalso; omega)
    | exact sitofp_zero

set_option maxHeartbeats 1000000 in
theorem queryW_apply (w : FVec Ideal S256x768 .f32) (k : Fin 256) (c : Fin 1024) :
    queryW w (ix2 k c) = head (fun r => w (ix2 k ⟨96 * (c.val / 128) + r.val, by omega⟩))
      (fun r => w (ix2 k ⟨96 * (c.val / 128) + 64 + r.val, by omega⟩)) ⟨c.val % 128, by omega⟩ := by
  unfold head
  pointwise
  split_ifs <;> first
    | rfl
    | (exfalso; omega)
    | exact col w k (by first | omega | (simp only; omega))
    | (rw [dif_pos (by omega)]; exact col w k (by first | omega | (simp only; omega)))

set_option maxHeartbeats 1000000 in
theorem swappedW_apply (w : FVec Ideal S256x768 .f32) (k : Fin 256) (c : Fin 1024) :
    swappedW w (ix2 k c) = swapped (fun r => w (ix2 k ⟨96 * (c.val / 128) + 64 + r.val, by omega⟩)) ⟨c.val % 128, by omega⟩ := by
  unfold swapped
  pointwise
  split_ifs <;> first
    | rfl
    | (exfalso; omega)
    | (rw [dif_pos (by omega)]; exact congrArg Neg.neg (col w k (by first | omega | (simp only; omega))))
    | (rw [dif_neg (by omega), dif_pos (by omega)]; exact col w k (by first | omega | (simp only; omega)))

theorem keyW_apply (w : FVec Ideal S128x1024 .f32) (k : Fin 128) (c : Fin 1024) :
    keyW w (ix2 k c) = head (fun r => w (ix2 k ⟨128 * (c.val / 128) + r.val, by omega⟩)) (fun _ => 0) ⟨c.val % 128, by omega⟩ := by
  unfold head
  pointwise
  split_ifs <;> first
    | rfl
    | (exfalso; omega)
    | exact col w k (by first | omega | (simp only; omega))

theorem valueW_apply (w : FVec Ideal S128x1024 .f32) (k : Fin 128) (c : Fin 512) :
    valueW w (ix2 k c) = w (ix2 k ⟨128 * (c.val / 64) + 64 + c.val % 64, by omega⟩) := by
  pointwise
  exact col w k (by first | omega | (simp only; omega))

end Cert.Proj

end
-- ==== Proof.ProjBlock.lean ====
/-
  What the projections' grid points find: their blocks of the arrays the program is given and of the weights packed
  from them.
-/
module

public import proofs.«01_k».proof.Proof.ProjPay
public import proofs.«01_k».proof.Proof.ProjPack
public import proofs.«01_k».proof.Proof.Gen.ProjectionsIdeal.Value
public import Idealize.ShloMosaic.Lib.Pipeline.ValueKit
public import Idealize.ShloMosaic.Lib.Tactic

@[expose] public section

set_option maxRecDepth 16384

noncomputable section

namespace Cert.Proj

open Cert.ProjectionsIdeal Cert.ProjectionsIdeal.Gen Cert.ProjectionsIdeal.Value Idealize.ShloMosaic Idealize.ShloMosaic.TcCoe Idealize.SL.Sem
open Idealize.ShloMosaic.Pipeline Cert.Rms

theorem hz2 : (![0, 0] : Fin 2 → ℕ) = fun _ => 0 := funext fun a => by fin_cases a <;> rfl

/-- The arrays the program is given. -/
structure Args where
  x : S16384x1024.Idx → EReal
  gm : S1024.Idx → EReal
  wi : S1024x2216.Idx → EReal
  gq : S256.Idx → EReal
  wq : S256x768.Idx → EReal
  gk : S128.Idx → EReal
  wk : S128x1024.Idx → EReal
  cs : S16384x128.Idx → EReal
  sn : S16384x128.Idx → EReal

theorem lt_N (t : Fin cfg0.N) : t.val < 32 := lt_of_lt_of_eq t.isLt N_0

theorem index_0 (t : Fin cfg0.N) : win0_0.index t = ![t.val, 0] := by revert t; decide +kernel
theorem index_1 (t : Fin cfg0.N) : win0_1.index t = ![0, 0] := by revert t; decide +kernel
theorem index_2 (t : Fin cfg0.N) : win0_2.index t = ![0, 0] := by revert t; decide +kernel
theorem index_3 (t : Fin cfg0.N) : win0_3.index t = ![0, 0] := by revert t; decide +kernel
theorem index_4 (t : Fin cfg0.N) : win0_4.index t = ![0, 0] := by revert t; decide +kernel
theorem index_5 (t : Fin cfg0.N) : win0_5.index t = ![0, 0] := by revert t; decide +kernel
theorem index_6 (t : Fin cfg0.N) : win0_6.index t = ![0, 0] := by revert t; decide +kernel
theorem index_7 (t : Fin cfg0.N) : win0_7.index t = ![0, 0] := by revert t; decide +kernel
theorem index_8 (t : Fin cfg0.N) : win0_8.index t = ![0, 0] := by revert t; decide +kernel
theorem index_9 (t : Fin cfg0.N) : win0_9.index t = ![t.val, 0] := by revert t; decide +kernel
theorem index_10 (t : Fin cfg0.N) : win0_10.index t = ![t.val, 0] := by revert t; decide +kernel
theorem index_11 (t : Fin cfg0.N) : win0_11.index t = ![t.val, 0] := by revert t; decide +kernel
theorem index_12 (t : Fin cfg0.N) : win0_12.index t = ![t.val, 0] := by revert t; decide +kernel
theorem index_13 (t : Fin cfg0.N) : win0_13.index t = ![t.val, 0] := by revert t; decide +kernel
theorem index_14 (t : Fin cfg0.N) : win0_14.index t = ![t.val, 0] := by revert t; decide +kernel
theorem index_15 (t : Fin cfg0.N) : win0_15.index t = ![t.val, 0] := by revert t; decide +kernel
theorem index_16 (t : Fin cfg0.N) : win0_16.index t = ![t.val, 0] := by revert t; decide +kernel
theorem index_17 (t : Fin cfg0.N) : win0_17.index t = ![t.val, 0] := by revert t; decide +kernel

variable (m : (ℓ : Loc nD τ sig) → Buf (Elt Ideal) ℓ)

/-- The program's arguments on a core. -/
def argsOf (c : Dev nD) : Args where
  x := m ((c.tc : Thread nD τ).loc main_arg0)
  gm := m ((c.tc : Thread nD τ).loc main_arg1)
  wi := m ((c.tc : Thread nD τ).loc main_arg2)
  gq := m ((c.tc : Thread nD τ).loc main_arg3)
  wq := m ((c.tc : Thread nD τ).loc main_arg4)
  gk := m ((c.tc : Thread nD τ).loc main_arg5)
  wk := m ((c.tc : Thread nD τ).loc main_arg6)
  cs := m ((c.tc : Thread nD τ).loc main_arg7)
  sn := m ((c.tc : Thread nD τ).loc main_arg8)

/-- The token a grid point's row `r` is. -/
def tok (t : Fin cfg0.N) (r : Fin 512) : Fin 16384 := ⟨512 * t.val + r.val, by have := lt_N t; omega⟩

/-! What the operations before the call leave for it. -/

theorem host_wi (c : Dev nD) : (V m c main_v18 : S1024x2560.Idx → EReal)
    = packed (argsOf m c).wi := by
  unfold V hostOps0 hostOps0_1 hostOps0_2
  simp only [List.flatten_cons, List.flatten_nil, List.append_nil, List.cons_append, List.nil_append]
  after_results_simp
  rfl

theorem host_wq (c : Dev nD) : (V m c main_v38 : S256x1024.Idx → EReal)
    = queryW (argsOf m c).wq := by
  unfold V hostOps0 hostOps0_1 hostOps0_2
  simp only [List.flatten_cons, List.flatten_nil, List.append_nil, List.cons_append, List.nil_append]
  after_results_simp
  rfl

theorem host_ws (c : Dev nD) : (V m c main_v39 : S256x1024.Idx → EReal)
    = swappedW (argsOf m c).wq := by
  unfold V hostOps0 hostOps0_1 hostOps0_2
  simp only [List.flatten_cons, List.flatten_nil, List.append_nil, List.cons_append, List.nil_append]
  after_results_simp
  rfl

theorem host_wk (c : Dev nD) : (V m c main_v40 : S128x1024.Idx → EReal)
    = keyW (argsOf m c).wk := by
  unfold V hostOps0 hostOps0_1 hostOps0_2
  simp only [List.flatten_cons, List.flatten_nil, List.append_nil, List.cons_append, List.nil_append]
  after_results_simp
  rfl

theorem host_wv (c : Dev nD) : (V m c main_v41 : S128x512.Idx → EReal)
    = valueW (argsOf m c).wk := by
  unfold V hostOps0 hostOps0_1 hostOps0_2
  simp only [List.flatten_cons, List.flatten_nil, List.append_nil, List.cons_append, List.nil_append]
  after_results_simp
  rfl

theorem host_gm (c : Dev nD) (k : Fin 1024) : (V m c main_v42 : S1x1024.Idx → EReal) (ix2 0 k) = (argsOf m c).gm (ix1 k) := by
  have h : (V m c main_v42 : S1x1024.Idx → EReal) = shapeCast S1x1024 ((argsOf m c).gm : FVec Ideal S1024 .f32) shapeCasts_S1024_S1x1024 := by
    unfold V hostOps0 hostOps0_1 hostOps0_2
    simp only [List.flatten_cons, List.flatten_nil, List.append_nil, List.cons_append, List.nil_append]
    after_results_simp
    rfl
  rw [h]
  pointwise

theorem host_gq (c : Dev nD) (k : Fin 256) : (V m c main_v43 : S1x256.Idx → EReal) (ix2 0 k) = (argsOf m c).gq (ix1 k) := by
  have h : (V m c main_v43 : S1x256.Idx → EReal) = shapeCast S1x256 ((argsOf m c).gq : FVec Ideal S256 .f32) shapeCasts_S256_S1x256 := by
    unfold V hostOps0 hostOps0_1 hostOps0_2
    simp only [List.flatten_cons, List.flatten_nil, List.append_nil, List.cons_append, List.nil_append]
    after_results_simp
    rfl
  rw [h]
  pointwise

theorem host_gk (c : Dev nD) (k : Fin 128) : (V m c main_v44 : S1x128.Idx → EReal) (ix2 0 k) = (argsOf m c).gk (ix1 k) := by
  have h : (V m c main_v44 : S1x128.Idx → EReal) = shapeCast S1x128 ((argsOf m c).gk : FVec Ideal S128 .f32) shapeCasts_S128_S1x128 := by
    unfold V hostOps0 hostOps0_1 hostOps0_2
    simp only [List.flatten_cons, List.flatten_nil, List.append_nil, List.cons_append, List.nil_append]
    after_results_simp
    rfl
  rw [h]
  pointwise

/-! A grid point's blocks. -/

theorem blk_0 (c : Dev nD) (t : Fin cfg0.N) (r : Fin 512) (k : Fin 1024) :
    (iblk m c 0 t : Vec Ideal S512x1024 .f32) (ix2 r k) = (argsOf m c).x (ix2 (tok t r) k) := by
  show _ = m ((c.tc : Thread nD τ).loc main_arg0) (ix2 (tok t r) k)
  unfold tok
  rw [← V_main_arg0 m c]
  blk_ext [iblk, index_0 t]

theorem blk_9 (c : Dev nD) (t : Fin cfg0.N) (r : Fin 512) (k : Fin 128) :
    (iblk m c 9 t : Vec Ideal S512x128 .f32) (ix2 r k) = (argsOf m c).cs (ix2 (tok t r) k) := by
  show _ = m ((c.tc : Thread nD τ).loc main_arg7) (ix2 (tok t r) k)
  unfold tok
  rw [← V_main_arg7 m c]
  blk_ext [iblk, index_9 t]

theorem blk_10 (c : Dev nD) (t : Fin cfg0.N) (r : Fin 512) (k : Fin 128) :
    (iblk m c 10 t : Vec Ideal S512x128 .f32) (ix2 r k) = (argsOf m c).sn (ix2 (tok t r) k) := by
  show _ = m ((c.tc : Thread nD τ).loc main_arg8) (ix2 (tok t r) k)
  unfold tok
  rw [← V_main_arg8 m c]
  blk_ext [iblk, index_10 t]

theorem blk_1 (c : Dev nD) (t : Fin cfg0.N) (k : Fin 1024) :
    (iblk m c 1 t : Vec Ideal S1x1024 .f32) (ix2 0 k) = (argsOf m c).gm (ix1 k) := by
  rw [← host_gm]
  blk_ext [iblk, index_1 t]

theorem blk_3 (c : Dev nD) (t : Fin cfg0.N) (k : Fin 256) :
    (iblk m c 3 t : Vec Ideal S1x256 .f32) (ix2 0 k) = (argsOf m c).gq (ix1 k) := by
  rw [← host_gq]
  blk_ext [iblk, index_3 t]

theorem blk_6 (c : Dev nD) (t : Fin cfg0.N) (k : Fin 128) :
    (iblk m c 6 t : Vec Ideal S1x128 .f32) (ix2 0 k) = (argsOf m c).gk (ix1 k) := by
  rw [← host_gk]
  blk_ext [iblk, index_6 t]

theorem blk_2 (c : Dev nD) (t : Fin cfg0.N) (k : Fin 1024) (j : Fin 2560) :
    (iblk m c 2 t : Vec Ideal S1024x2560 .bf16) (ix2 k j) = packed (argsOf m c).wi (ix2 k j) := by
  rw [← host_wi]
  blk_ext [iblk, index_2 t]

theorem blk_4 (c : Dev nD) (t : Fin cfg0.N) (k : Fin 256) (j : Fin 1024) :
    (iblk m c 4 t : Vec Ideal S256x1024 .bf16) (ix2 k j) = queryW (argsOf m c).wq (ix2 k j) := by
  rw [← host_wq]
  blk_ext [iblk, index_4 t]

theorem blk_5 (c : Dev nD) (t : Fin cfg0.N) (k : Fin 256) (j : Fin 1024) :
    (iblk m c 5 t : Vec Ideal S256x1024 .bf16) (ix2 k j) = swappedW (argsOf m c).wq (ix2 k j) := by
  rw [← host_ws]
  blk_ext [iblk, index_5 t]

theorem blk_7 (c : Dev nD) (t : Fin cfg0.N) (k : Fin 128) (j : Fin 1024) :
    (iblk m c 7 t : Vec Ideal S128x1024 .bf16) (ix2 k j) = keyW (argsOf m c).wk (ix2 k j) := by
  rw [← host_wk]
  blk_ext [iblk, index_7 t]

theorem blk_8 (c : Dev nD) (t : Fin cfg0.N) (k : Fin 128) (j : Fin 512) :
    (iblk m c 8 t : Vec Ideal S128x512 .bf16) (ix2 k j) = valueW (argsOf m c).wk (ix2 k j) := by
  rw [← host_wv]
  blk_ext [iblk, index_8 t]

end Cert.Proj

end
-- ==== Proof.ProjArray.lean ====
/-
  The arrays the projections leave: each grid point writes 512 rows of the seven.
-/
module

public import proofs.«01_k».proof.Proof.ProjBlock

@[expose] public section

set_option maxRecDepth 16384

noncomputable section

namespace Cert.Proj

open Cert.ProjectionsIdeal Cert.ProjectionsIdeal.Gen Cert.ProjectionsIdeal.Value Idealize.ShloMosaic Idealize.ShloMosaic.TcCoe Idealize.SL.Sem
open Idealize.ShloMosaic.Pipeline Cert.Rms

/-! What the projections compute of a token `t`. -/

section
variable (a : Args) (t : Fin 16384)

/-- The normalized row. -/
def hRow (k : Fin 1024) : EReal := rms 0x44800000#32 (fun k => a.x (ix2 t k)) (fun k => a.gm (ix1 k)) k

/-- The row projected. -/
def projAt (j : Fin 2216) : EReal := ∑ k, hRow a t k * a.wi (ix2 k j)

/-- The queries' latent, normalized. -/
def cqRow (k : Fin 256) : EReal := rms 0x43800000#32 (fun k : Fin 256 => projAt a t ⟨k.val, by omega⟩) (fun k => a.gq (ix1 k)) k

/-- The queries. -/
def qAt (j : Fin 768) : EReal := ∑ k, cqRow a t k * a.wq (ix2 k j)

/-- The keys' and values' latent, normalized. -/
def ckvRow (k : Fin 128) : EReal := rms 0x43000000#32 (fun k : Fin 128 => projAt a t ⟨256 + k.val, by omega⟩) (fun k => a.gk (ix1 k)) k

/-- The keys and values. -/
def kvAt (j : Fin 1024) : EReal := ∑ k, ckvRow a t k * a.wk (ix2 k j)

/-- 32 columns turned by the token's angles. -/
def turn (f : Fin 32 → EReal) : Fin 32 → EReal :=
  rot f (fun k => a.cs (ix2 t ⟨64 + k.val, by omega⟩)) (fun k => a.sn (ix2 t ⟨64 + k.val, by omega⟩))

def outQ (c : Fin 1024) : EReal :=
  head (fun r => qAt a t ⟨96 * (c.val / 128) + r.val, by omega⟩) (turn a t fun r => qAt a t ⟨96 * (c.val / 128) + 64 + r.val, by omega⟩)
    ⟨c.val % 128, by omega⟩ * Ideal.ofBits .f32 0x3DD105EC#32

def outK (c : Fin 1024) : EReal :=
  head (fun r => kvAt a t ⟨128 * (c.val / 128) + r.val, by omega⟩) (turn a t fun r => projAt a t ⟨384 + r.val, by omega⟩)
    ⟨c.val % 128, by omega⟩

def outV (c : Fin 512) : EReal := kvAt a t ⟨128 * (c.val / 64) + 64 + c.val % 64, by omega⟩

def outHy (j : Fin 768) : EReal := projAt a t ⟨416 + j.val, by omega⟩

def outZ (j : Fin 256) : EReal := projAt a t ⟨1184 + j.val, by omega⟩

def outXbc (j : Fin 768) : EReal := projAt a t ⟨1440 + j.val, by omega⟩

def outDt (j : Fin 128) : EReal := if h : j.val < 8 then projAt a t ⟨2208 + j.val, by omega⟩ else 0
end

/-! The seven arrays. -/

def arrQ (a : Args) (i : S16384x1024.Idx) : EReal := outQ a (i 0) (i 1)

def arrK (a : Args) (i : S16384x1024.Idx) : EReal := outK a (i 0) (i 1)

def arrV (a : Args) (i : S16384x512.Idx) : EReal := outV a (i 0) (i 1)

def arrHy (a : Args) (i : S16384x768.Idx) : EReal := outHy a (i 0) (i 1)

def arrZ (a : Args) (i : S16384x256.Idx) : EReal := outZ a (i 0) (i 1)

def arrXbc (a : Args) (i : S16384x768.Idx) : EReal := outXbc a (i 0) (i 1)

def arrDt (a : Args) (i : S16384x128.Idx) : EReal := outDt a (i 0) (i 1)

/-- What the call's results need of its arguments: tables of angles that leave the plain columns and turn both halves
    alike, and finite gains and weights of the columns that are negated. -/
structure Ok (a : Args) : Prop where
  one : ∀ t (j : Fin 64), a.cs (ix2 t ⟨j.val, by omega⟩) = 1
  cos : ∀ t (j : Fin 16), a.cs (ix2 t ⟨64 + j.val, by omega⟩) = a.cs (ix2 t ⟨80 + j.val, by omega⟩)
  sin : ∀ t (j : Fin 16), a.sn (ix2 t ⟨64 + j.val, by omega⟩) = a.sn (ix2 t ⟨80 + j.val, by omega⟩)
  gm : ∀ i, ∃ r : ℝ, a.gm i = r
  wi : ∀ k (j : Fin 32), ∃ r : ℝ, a.wi (ix2 k ⟨384 + j.val, by omega⟩) = r
  gq : ∀ i, ∃ r : ℝ, a.gq i = r
  wq : ∀ k (b : Fin 8) (j : Fin 32), ∃ r : ℝ, a.wq (ix2 k ⟨96 * b.val + 64 + j.val, by omega⟩) = r

theorem Ok.hRow {a : Args} (ok : Ok a) (t : Fin 16384) (k : Fin 1024) : ∃ r : ℝ, hRow a t k = r :=
  rms_finite (by norm_num) ofBits_1024 _ _ (fun k => ok.gm (ix1 k)) k

theorem Ok.cqRow {a : Args} (ok : Ok a) (t : Fin 16384) (k : Fin 256) : ∃ r : ℝ, cqRow a t k = r :=
  rms_finite (by norm_num) ofBits_256 _ _ (fun k => ok.gq (ix1 k)) k

theorem ld_0 (v : Vec Ideal S512x1024 .f32) : View.ld v r0_0 = v := View.ld_unit_zero hz2 _ v
theorem ld_1 (v : Vec Ideal S1x1024 .f32) : View.ld v r0_1 = v := View.ld_unit_zero hz2 _ v
theorem ld_2 (v : Vec Ideal S1024x2560 .bf16) : View.ld v r0_2 = v := View.ld_unit_zero hz2 _ v
theorem ld_3 (v : Vec Ideal S512x768 .f32) : View.ld v r0_3 = v := View.ld_unit_zero hz2 _ v
theorem ld_4 (v : Vec Ideal S512x256 .f32) : View.ld v r0_4 = v := View.ld_unit_zero hz2 _ v
theorem ld_5 (v : Vec Ideal S512x128 .f32) : View.ld v r0_5 = v := View.ld_unit_zero hz2 _ v
theorem ld_6 (v : Vec Ideal S1x256 .f32) : View.ld v r0_6 = v := View.ld_unit_zero hz2 _ v
theorem ld_7 (v : Vec Ideal S256x1024 .bf16) : View.ld v r0_7 = v := View.ld_unit_zero hz2 _ v
theorem ld_8 (v : Vec Ideal S1x128 .f32) : View.ld v r0_8 = v := View.ld_unit_zero hz2 _ v
theorem ld_9 (v : Vec Ideal S128x1024 .bf16) : View.ld v r0_9 = v := View.ld_unit_zero hz2 _ v
theorem ld_10 (v : Vec Ideal S128x512 .bf16) : View.ld v r0_10 = v := View.ld_unit_zero hz2 _ v

variable (m : (ℓ : Loc nD τ sig) → Buf (Elt Ideal) ℓ)

/-- The rows a grid point projects, in the packed columns. -/
def rows (c : Dev nD) (t : Fin cfg0.N) : FVec Ideal S512x2560 .f32 := k0_pay4 (iblk m c 0 t) (iblk m c 1 t) (iblk m c 2 t)

theorem rows_apply (c : Dev nD) (t : Fin cfg0.N) (r : Fin 512) (j : Fin 2560) :
    rows m c t (ix2 r j) = ∑ k, hRow (argsOf m c) (tok t r) k * packed (argsOf m c).wi (ix2 k j) := by
  unfold rows
  rw [pay4_apply]
  simp only [blk_0, blk_1, blk_2]
  rfl

theorem rows_low (c : Dev nD) (t : Fin cfg0.N) (r : Fin 512) (j : Fin 384) :
    rows m c t (ix2 r ⟨j.val, by omega⟩) = projAt (argsOf m c) (tok t r) ⟨j.val, by omega⟩ := by
  rw [rows_apply]
  simp only [packed_low]
  rfl

theorem rows_rot (c : Dev nD) (t : Fin cfg0.N) (r : Fin 512) (j : Fin 128) :
    rows m c t (ix2 r ⟨384 + j.val, by omega⟩)
      = head (fun _ => 0) (fun i => projAt (argsOf m c) (tok t r) ⟨384 + i.val, by omega⟩) j := by
  rw [rows_apply]
  simp only [packed_rot]
  rw [sum_head]
  simp only [mul_zero, Finset.sum_const_zero]
  rfl

theorem rows_swap (c : Dev nD) (ok : Ok (argsOf m c)) (t : Fin cfg0.N) (r : Fin 512) (j : Fin 128) :
    rows m c t (ix2 r ⟨512 + j.val, by omega⟩)
      = swapped (fun i => projAt (argsOf m c) (tok t r) ⟨384 + i.val, by omega⟩) j := by
  rw [rows_apply]
  simp only [packed_swap]
  exact sum_swapped (ok.hRow _) ok.wi j

theorem rows_high (c : Dev nD) (t : Fin cfg0.N) (r : Fin 512) (j : Fin 1800) :
    rows m c t (ix2 r ⟨640 + j.val, by omega⟩) = projAt (argsOf m c) (tok t r) ⟨416 + j.val, by omega⟩ := by
  rw [rows_apply]
  simp only [packed_high]
  rfl

theorem rows_end (c : Dev nD) (t : Fin cfg0.N) (r : Fin 512) (j : Fin 120) :
    rows m c t (ix2 r ⟨2440 + j.val, by omega⟩) = 0 := by
  rw [rows_apply]
  simp only [packed_end, mul_zero, Finset.sum_const_zero]

/-! The seven blocks a grid point leaves, at an index. -/

/-- The queries' block. -/
def blkQ (c : Dev nD) (t : Fin cfg0.N) : FVec Ideal S512x1024 .bf16 :=
  k0_pay12 (k0_pay9 (iblk m c 9 t)) (k0_pay10 (iblk m c 10 t)) (k0_pay11 (iblk m c 0 t) (iblk m c 1 t) (iblk m c 2 t))
    (iblk m c 3 t) (iblk m c 4 t) (iblk m c 5 t)

theorem blkQ_apply (c : Dev nD) (ok : Ok (argsOf m c)) (t : Fin cfg0.N) (r : Fin 512) (j : Fin 1024) :
    blkQ m c t (ix2 r j) = outQ (argsOf m c) (tok t r) j := by
  have h11 (k : Fin 256) : k0_pay11 (iblk m c 0 t) (iblk m c 1 t) (iblk m c 2 t) (ix2 r k)
      = projAt (argsOf m c) (tok t r) ⟨k.val, by omega⟩ :=
    (pay11_apply _ _ _ r k).trans (rows_low m c t r ⟨k.val, by omega⟩)
  unfold blkQ
  rw [pay12_apply, pay9_apply, pay10_apply]
  simp only [h11, blk_3, blk_4, blk_5, blk_9, blk_10, queryW_apply, swappedW_apply]
  show ((∑ k, cqRow (argsOf m c) (tok t r) k * _) * _ + (∑ k, cqRow (argsOf m c) (tok t r) k * _) * _) * _ = _
  rw [sum_head, sum_swapped (ok.cqRow _) fun k => ok.wq k ⟨j.val / 128, by omega⟩]
  unfold outQ
  congr 1
  exact rotated _ _ (fun i => (argsOf m c).cs (ix2 (tok t r) i)) (fun i => (argsOf m c).sn (ix2 (tok t r) i))
    (ok.one _) (ok.cos _) (ok.sin _) _

/-- The normalized latent of the keys and values. -/
theorem latent (c : Dev nD) (t : Fin cfg0.N) (r : Fin 512) (k : Fin 128) :
    k0_pay14 (rows m c t) (ix2 r k) * k0_pay13 (iblk m c 6 t) (ix2 0 k) = ckvRow (argsOf m c) (tok t r) k := by
  have hl (k : Fin 128) : rows m c t (ix2 r ⟨256 + k.val, by omega⟩) = projAt (argsOf m c) (tok t r) ⟨256 + k.val, by omega⟩ :=
    rows_low m c t r ⟨256 + k.val, by omega⟩
  rw [pay14_apply, pay13_apply]
  simp only [hl, blk_6]
  rfl

/-- The keys' block. -/
def blkK (c : Dev nD) (t : Fin cfg0.N) : FVec Ideal S512x1024 .bf16 :=
  k0_pay3 (rows m c t) (iblk m c 9 t) (iblk m c 10 t) (k0_pay13 (iblk m c 6 t)) (k0_pay14 (rows m c t)) (iblk m c 7 t)

theorem blkK_apply (c : Dev nD) (ok : Ok (argsOf m c)) (t : Fin cfg0.N) (r : Fin 512) (j : Fin 1024) :
    blkK m c t (ix2 r j) = outK (argsOf m c) (tok t r) j := by
  have hr := rows_rot m c t r ⟨j.val % 128, by omega⟩
  have hs := rows_swap m c ok t r ⟨j.val % 128, by omega⟩
  unfold blkK
  rw [pay3_apply]
  simp only [latent, blk_7, blk_9, blk_10, keyW_apply]
  simp only at hr hs
  rw [hr, hs, sum_head]
  simp only [mul_zero, Finset.sum_const_zero]
  refine Eq.trans ?_ (head_add _ _ _)
  congr 1
  exact rotated _ _ (fun i => (argsOf m c).cs (ix2 (tok t r) i)) (fun i => (argsOf m c).sn (ix2 (tok t r) i))
    (ok.one _) (ok.cos _) (ok.sin _) _

/-- The values' block. -/
def blkV (c : Dev nD) (t : Fin cfg0.N) : FVec Ideal S512x512 .bf16 :=
  k0_pay2 (k0_pay13 (iblk m c 6 t)) (k0_pay14 (rows m c t)) (iblk m c 8 t)

theorem blkV_apply (c : Dev nD) (t : Fin cfg0.N) (r : Fin 512) (j : Fin 512) :
    blkV m c t (ix2 r j) = outV (argsOf m c) (tok t r) j := by
  unfold blkV
  rw [pay2_apply]
  simp only [latent, blk_8, valueW_apply]
  rfl

theorem blkHy_apply (c : Dev nD) (t : Fin cfg0.N) (r : Fin 512) (j : Fin 768) :
    k0_pay5 (iblk m c 0 t) (iblk m c 1 t) (iblk m c 2 t) (ix2 r j) = outHy (argsOf m c) (tok t r) j :=
  (pay5_apply _ _ _ r j).trans (rows_high m c t r ⟨j.val, by omega⟩)

theorem blkZ_apply (c : Dev nD) (t : Fin cfg0.N) (r : Fin 512) (j : Fin 256) :
    k0_pay6 (iblk m c 0 t) (iblk m c 1 t) (iblk m c 2 t) (ix2 r j) = outZ (argsOf m c) (tok t r) j := by
  refine (pay6_apply _ _ _ r j).trans (Eq.trans ?_ ((rows_high m c t r ⟨768 + j.val, by omega⟩).trans ?_))
  · exact congrArg (fun i => rows m c t (ix2 r i)) (Fin.ext (by simp only; omega))
  · exact congrArg (projAt (argsOf m c) (tok t r)) (Fin.ext (by simp only; omega))

theorem blkXbc_apply (c : Dev nD) (t : Fin cfg0.N) (r : Fin 512) (j : Fin 768) :
    k0_pay7 (iblk m c 0 t) (iblk m c 1 t) (iblk m c 2 t) (ix2 r j) = outXbc (argsOf m c) (tok t r) j := by
  refine (pay7_apply _ _ _ r j).trans (Eq.trans ?_ ((rows_high m c t r ⟨1024 + j.val, by omega⟩).trans ?_))
  · exact congrArg (fun i => rows m c t (ix2 r i)) (Fin.ext (by simp only; omega))
  · exact congrArg (projAt (argsOf m c) (tok t r)) (Fin.ext (by simp only; omega))

theorem blkDt_apply (c : Dev nD) (t : Fin cfg0.N) (r : Fin 512) (j : Fin 128) :
    k0_pay8 (iblk m c 0 t) (iblk m c 1 t) (iblk m c 2 t) (ix2 r j) = outDt (argsOf m c) (tok t r) j := by
  refine (pay8_apply _ _ _ r j).trans ?_
  unfold outDt
  split_ifs with h
  · refine Eq.trans ?_ ((rows_high m c t r ⟨1792 + j.val, by omega⟩).trans ?_)
    · exact congrArg (fun i => rows m c t (ix2 r i)) (Fin.ext (by simp only; omega))
    · exact congrArg (projAt (argsOf m c) (tok t r)) (Fin.ext (by simp only; omega))
  · refine Eq.trans ?_ (rows_end m c t r ⟨j.val - 8, by omega⟩)
    exact congrArg (fun i => rows m c t (ix2 r i)) (Fin.ext (by simp only; omega))

/-! The arrays. -/

theorem arrQ_of (a : Args) (i : S16384x1024.Idx) (t : Fin 16384) (j : Fin 1024) (ht : (i 0).val = t.val) (hj : (i 1).val = j.val) :
    arrQ a i = outQ a t j := by
  obtain rfl : (i 0 : Fin 16384) = t := Fin.ext ht
  obtain rfl : (i 1 : Fin 1024) = j := Fin.ext hj
  rfl

theorem arrK_of (a : Args) (i : S16384x1024.Idx) (t : Fin 16384) (j : Fin 1024) (ht : (i 0).val = t.val) (hj : (i 1).val = j.val) :
    arrK a i = outK a t j := by
  obtain rfl : (i 0 : Fin 16384) = t := Fin.ext ht
  obtain rfl : (i 1 : Fin 1024) = j := Fin.ext hj
  rfl

theorem arrV_of (a : Args) (i : S16384x512.Idx) (t : Fin 16384) (j : Fin 512) (ht : (i 0).val = t.val) (hj : (i 1).val = j.val) :
    arrV a i = outV a t j := by
  obtain rfl : (i 0 : Fin 16384) = t := Fin.ext ht
  obtain rfl : (i 1 : Fin 512) = j := Fin.ext hj
  rfl

theorem arrHy_of (a : Args) (i : S16384x768.Idx) (t : Fin 16384) (j : Fin 768) (ht : (i 0).val = t.val) (hj : (i 1).val = j.val) :
    arrHy a i = outHy a t j := by
  obtain rfl : (i 0 : Fin 16384) = t := Fin.ext ht
  obtain rfl : (i 1 : Fin 768) = j := Fin.ext hj
  rfl

theorem arrZ_of (a : Args) (i : S16384x256.Idx) (t : Fin 16384) (j : Fin 256) (ht : (i 0).val = t.val) (hj : (i 1).val = j.val) :
    arrZ a i = outZ a t j := by
  obtain rfl : (i 0 : Fin 16384) = t := Fin.ext ht
  obtain rfl : (i 1 : Fin 256) = j := Fin.ext hj
  rfl

theorem arrXbc_of (a : Args) (i : S16384x768.Idx) (t : Fin 16384) (j : Fin 768) (ht : (i 0).val = t.val) (hj : (i 1).val = j.val) :
    arrXbc a i = outXbc a t j := by
  obtain rfl : (i 0 : Fin 16384) = t := Fin.ext ht
  obtain rfl : (i 1 : Fin 768) = j := Fin.ext hj
  rfl

theorem arrDt_of (a : Args) (i : S16384x128.Idx) (t : Fin 16384) (j : Fin 128) (ht : (i 0).val = t.val) (hj : (i 1).val = j.val) :
    arrDt a i = outDt a t j := by
  obtain rfl : (i 0 : Fin 16384) = t := Fin.ext ht
  obtain rfl : (i 1 : Fin 128) = j := Fin.ext hj
  rfl

theorem idx2 {n k : ℕ} (y : (⟨2, ![n, k]⟩ : Shape).Idx) : y = ix2 (y 0 : Fin n) (y 1 : Fin k) := by
  funext a
  match a with
  | ⟨0, _⟩ => rfl
  | ⟨1, _⟩ => rfl

section
variable (x : Vec Ideal S512x1024 .f32) (gm : Vec Ideal S1x1024 .f32) (wi : Vec Ideal S1024x2560 .bf16) (gq : Vec Ideal S1x256 .f32)
  (wq ws : Vec Ideal S256x1024 .bf16) (gk : Vec Ideal S1x128 .f32) (wk : Vec Ideal S128x1024 .bf16) (wv : Vec Ideal S128x512 .bf16)
  (cs sn : Vec Ideal S512x128 .f32)

theorem out11_eq : out0_11 x gm wi gq wq ws gk wk wv cs sn = k0_pay12 (k0_pay9 cs) (k0_pay10 sn) (k0_pay11 x gm wi) gq wq ws := by
  unfold out0_11
  simp only [k0_pay15, k0_pay16, k0_pay17, ld_0, ld_1, ld_2, ld_5, ld_6, ld_7, ld_8, ld_9, ld_10]
  exact View.canon_unit_zero hz2 _ _

theorem out12_eq : out0_12 x gm wi gq wq ws gk wk wv cs sn = k0_pay3 (k0_pay4 x gm wi) cs sn (k0_pay13 gk) (k0_pay14 (k0_pay4 x gm wi)) wk := by
  unfold out0_12
  simp only [k0_pay15, k0_pay16, k0_pay17, ld_0, ld_1, ld_2, ld_5, ld_6, ld_7, ld_8, ld_9, ld_10]
  exact View.canon_unit_zero hz2 _ _

theorem out13_eq : out0_13 x gm wi gq wq ws gk wk wv cs sn = k0_pay2 (k0_pay13 gk) (k0_pay14 (k0_pay4 x gm wi)) wv := by
  unfold out0_13
  simp only [k0_pay15, k0_pay16, k0_pay17, ld_0, ld_1, ld_2, ld_5, ld_6, ld_7, ld_8, ld_9, ld_10]
  exact View.canon_unit_zero hz2 _ _

theorem out14_eq : out0_14 x gm wi gq wq ws gk wk wv cs sn = k0_pay5 x gm wi := by
  unfold out0_14
  simp only [k0_pay15, k0_pay16, k0_pay17, ld_0, ld_1, ld_2, ld_5, ld_6, ld_7, ld_8, ld_9, ld_10]
  exact View.canon_unit_zero hz2 _ _

theorem out15_eq : out0_15 x gm wi gq wq ws gk wk wv cs sn = k0_pay6 x gm wi := by
  unfold out0_15
  simp only [k0_pay15, k0_pay16, k0_pay17, ld_0, ld_1, ld_2, ld_5, ld_6, ld_7, ld_8, ld_9, ld_10]
  exact View.canon_unit_zero hz2 _ _

theorem out16_eq : out0_16 x gm wi gq wq ws gk wk wv cs sn = k0_pay7 x gm wi := by
  unfold out0_16
  simp only [k0_pay15, k0_pay16, k0_pay17, ld_0, ld_1, ld_2, ld_5, ld_6, ld_7, ld_8, ld_9, ld_10]
  exact View.canon_unit_zero hz2 _ _

theorem out17_eq : out0_17 x gm wi gq wq ws gk wk wv cs sn = k0_pay8 x gm wi := by
  unfold out0_17
  simp only [k0_pay15, k0_pay16, k0_pay17, ld_0, ld_1, ld_2, ld_5, ld_6, ld_7, ld_8, ld_9, ld_10]
  exact View.canon_unit_zero hz2 _ _

end

theorem array11_eq (c : Dev nD) (ok : Ok (argsOf m c)) : (dats m 0 c).arrAt 11 cfg0.N = arrQ (argsOf m c) := by
  refine (dats m 0 c).arrAt_eq_of_covers 11 _ (by decide +kernel) fun t hf y => ?_
  have h := congrFun (flushed11 m c t) y
  rw [out11_eq] at h
  blk_simp at h ⊢
  refine h.trans (((congrArg (blkQ m c t) (idx2 y)).trans (blkQ_apply m c ok t _ _)).trans ?_)
  refine (arrQ_of _ _ _ _ ?_ ?_).symm
  · blk_simp [index_11 t]
    simp [tok, Nat.mul_comm]
  · blk_simp [index_11 t]

theorem array12_eq (c : Dev nD) (ok : Ok (argsOf m c)) : (dats m 0 c).arrAt 12 cfg0.N = arrK (argsOf m c) := by
  refine (dats m 0 c).arrAt_eq_of_covers 12 _ (by decide +kernel) fun t hf y => ?_
  have h := congrFun (flushed12 m c t) y
  rw [out12_eq] at h
  blk_simp at h ⊢
  refine h.trans (((congrArg (blkK m c t) (idx2 y)).trans (blkK_apply m c ok t _ _)).trans ?_)
  refine (arrK_of _ _ _ _ ?_ ?_).symm
  · blk_simp [index_12 t]
    simp [tok, Nat.mul_comm]
  · blk_simp [index_12 t]

theorem array13_eq (c : Dev nD) : (dats m 0 c).arrAt 13 cfg0.N = arrV (argsOf m c) := by
  refine (dats m 0 c).arrAt_eq_of_covers 13 _ (by decide +kernel) fun t hf y => ?_
  have h := congrFun (flushed13 m c t) y
  rw [out13_eq] at h
  blk_simp at h ⊢
  refine h.trans (((congrArg (blkV m c t) (idx2 y)).trans (blkV_apply m c t _ _)).trans ?_)
  refine (arrV_of _ _ _ _ ?_ ?_).symm
  · blk_simp [index_13 t]
    simp [tok, Nat.mul_comm]
  · blk_simp [index_13 t]

theorem array14_eq (c : Dev nD) : (dats m 0 c).arrAt 14 cfg0.N = arrHy (argsOf m c) := by
  refine (dats m 0 c).arrAt_eq_of_covers 14 _ (by decide +kernel) fun t hf y => ?_
  have h := congrFun (flushed14 m c t) y
  rw [out14_eq] at h
  blk_simp at h ⊢
  refine h.trans (((congrArg (k0_pay5 (iblk m c 0 t) (iblk m c 1 t) (iblk m c 2 t)) (idx2 y)).trans (blkHy_apply m c t _ _)).trans ?_)
  refine (arrHy_of _ _ _ _ ?_ ?_).symm
  · blk_simp [index_14 t]
    simp [tok, Nat.mul_comm]
  · blk_simp [index_14 t]

theorem array15_eq (c : Dev nD) : (dats m 0 c).arrAt 15 cfg0.N = arrZ (argsOf m c) := by
  refine (dats m 0 c).arrAt_eq_of_covers 15 _ (by decide +kernel) fun t hf y => ?_
  have h := congrFun (flushed15 m c t) y
  rw [out15_eq] at h
  blk_simp at h ⊢
  refine h.trans (((congrArg (k0_pay6 (iblk m c 0 t) (iblk m c 1 t) (iblk m c 2 t)) (idx2 y)).trans (blkZ_apply m c t _ _)).trans ?_)
  refine (arrZ_of _ _ _ _ ?_ ?_).symm
  · blk_simp [index_15 t]
    simp [tok, Nat.mul_comm]
  · blk_simp [index_15 t]

theorem array16_eq (c : Dev nD) : (dats m 0 c).arrAt 16 cfg0.N = arrXbc (argsOf m c) := by
  refine (dats m 0 c).arrAt_eq_of_covers 16 _ (by decide +kernel) fun t hf y => ?_
  have h := congrFun (flushed16 m c t) y
  rw [out16_eq] at h
  blk_simp at h ⊢
  refine h.trans (((congrArg (k0_pay7 (iblk m c 0 t) (iblk m c 1 t) (iblk m c 2 t)) (idx2 y)).trans (blkXbc_apply m c t _ _)).trans ?_)
  refine (arrXbc_of _ _ _ _ ?_ ?_).symm
  · blk_simp [index_16 t]
    simp [tok, Nat.mul_comm]
  · blk_simp [index_16 t]

theorem array17_eq (c : Dev nD) : (dats m 0 c).arrAt 17 cfg0.N = arrDt (argsOf m c) := by
  refine (dats m 0 c).arrAt_eq_of_covers 17 _ (by decide +kernel) fun t hf y => ?_
  have h := congrFun (flushed17 m c t) y
  rw [out17_eq] at h
  blk_simp at h ⊢
  refine h.trans (((congrArg (k0_pay8 (iblk m c 0 t) (iblk m c 1 t) (iblk m c 2 t)) (idx2 y)).trans (blkDt_apply m c t _ _)).trans ?_)
  refine (arrDt_of _ _ _ _ ?_ ?_).symm
  · blk_simp [index_17 t]
    simp [tok, Nat.mul_comm]
  · blk_simp [index_17 t]

end Cert.Proj

end
-- ==== Proof.ProjRef.lean ====
/-
  What the projections' reference computes at an index of its results.
-/
module

public import proofs.«01_k».proof.Proof.ProjArray
public import proofs.«01_k».proof.Proof.Gen.ProjectionsRefIdeal.Run

@[expose] public section

set_option maxRecDepth 16384

noncomputable section

namespace Cert.Proj.Ref

open Cert.ProjectionsRefIdeal Cert.ProjectionsRefIdeal.Gen Idealize.ShloMosaic Idealize.SL.Sem Cert.Rms

/-- Rows of 1024, their sums of squares `s`, normalized times the gain `g`. -/
abbrev normed1024 (x : FVec Ideal S16384x1024 .f32) (s : FVec Ideal S16384 .f32) (g : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 s) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

abbrev sumSq1024 (x : FVec Ideal S16384x1024 .f32) : FVec Ideal S16384 .f32 :=
  Host.reduceAdd (mulf x x) (constant S_ .f32 0x00000000#32) reducesTo_S16384x1024_S16384_d1 h_S_

theorem sumSq1024_apply (x : FVec Ideal S16384x1024 .f32) (t : Fin 16384) : sumSq1024 x (ix1 t) = ∑ k : Fin 1024, x (ix2 t k) * x (ix2 t k) :=
  sq_gen2 x _ _ t

theorem normed1024_sum (x : FVec Ideal S16384x1024 .f32) (s : FVec Ideal S16384 .f32) (g : FVec Ideal S1024 .f32) (t : Fin 16384) (j : Fin 1024) :
    normed1024 x s g (ix2 t j)
      = x (ix2 t j) * Ideal.rsqrt (Ideal.div (s (ix1 t)) (Ideal.ofBits .f32 0x44800000#32) + Ideal.ofBits .f32 0x358637BD#32) * g (ix1 j) := by
  pointwise

theorem normed1024_apply (x : FVec Ideal S16384x1024 .f32) (g : FVec Ideal S1024 .f32) (t : Fin 16384) (j : Fin 1024) :
    normed1024 x (sumSq1024 x) g (ix2 t j) = rms 0x44800000#32 (fun k => x (ix2 t k)) (fun k => g (ix1 k)) j :=
  (normed1024_sum x (sumSq1024 x) g t j).trans (by rw [sumSq1024_apply]; rfl)

/-- Rows of 256, their sums of squares `s`, normalized times the gain `g`. -/
abbrev normed256 (x : FVec Ideal S16384x256 .f32) (s : FVec Ideal S16384 .f32) (g : FVec Ideal S256 .f32) : FVec Ideal S16384x256 .f32 :=
  mulf (mulf x (broadcastInDim S16384x256 ![0, 1] bcast_S16384x1_S16384x256_0_1 (Host.rsqrt (addf (Host.divf (broadcastInDim S16384x1 ![0] bcast_S16384_S16384x1_0 s) (broadcastInDim S16384x1 ![] bcast_S_S16384x1 (constant S_ .f32 0x43800000#32))) (broadcastInDim S16384x1 ![] bcast_S_S16384x1 (constant S_ .f32 0x358637BD#32)))))) (broadcastInDim S16384x256 ![0, 1] bcast_S1x256_S16384x256_0_1 (broadcastInDim S1x256 ![1] bcast_S256_S1x256_1 g))

abbrev sumSq256 (x : FVec Ideal S16384x256 .f32) : FVec Ideal S16384 .f32 :=
  Host.reduceAdd (mulf x x) (constant S_ .f32 0x00000000#32) reducesTo_S16384x256_S16384_d1 h_S_

theorem sumSq256_apply (x : FVec Ideal S16384x256 .f32) (t : Fin 16384) : sumSq256 x (ix1 t) = ∑ k : Fin 256, x (ix2 t k) * x (ix2 t k) :=
  sq_gen2 x _ _ t

theorem normed256_sum (x : FVec Ideal S16384x256 .f32) (s : FVec Ideal S16384 .f32) (g : FVec Ideal S256 .f32) (t : Fin 16384) (j : Fin 256) :
    normed256 x s g (ix2 t j)
      = x (ix2 t j) * Ideal.rsqrt (Ideal.div (s (ix1 t)) (Ideal.ofBits .f32 0x43800000#32) + Ideal.ofBits .f32 0x358637BD#32) * g (ix1 j) := by
  pointwise

theorem normed256_apply (x : FVec Ideal S16384x256 .f32) (g : FVec Ideal S256 .f32) (t : Fin 16384) (j : Fin 256) :
    normed256 x (sumSq256 x) g (ix2 t j) = rms 0x43800000#32 (fun k => x (ix2 t k)) (fun k => g (ix1 k)) j :=
  (normed256_sum x (sumSq256 x) g t j).trans (by rw [sumSq256_apply]; rfl)

/-- Rows of 128, their sums of squares `s`, normalized times the gain `g`. -/
abbrev normed128 (x : FVec Ideal S16384x128 .f32) (s : FVec Ideal S16384 .f32) (g : FVec Ideal S128 .f32) : FVec Ideal S16384x128 .f32 :=
  mulf (mulf x (broadcastInDim S16384x128 ![0, 1] bcast_S16384x1_S16384x128_0_1 (Host.rsqrt (addf (Host.divf (broadcastInDim S16384x1 ![0] bcast_S16384_S16384x1_0 s) (broadcastInDim S16384x1 ![] bcast_S_S16384x1 (constant S_ .f32 0x43000000#32))) (broadcastInDim S16384x1 ![] bcast_S_S16384x1 (constant S_ .f32 0x358637BD#32)))))) (broadcastInDim S16384x128 ![0, 1] bcast_S1x128_S16384x128_0_1 (broadcastInDim S1x128 ![1] bcast_S128_S1x128_1 g))

abbrev sumSq128 (x : FVec Ideal S16384x128 .f32) : FVec Ideal S16384 .f32 :=
  Host.reduceAdd (mulf x x) (constant S_ .f32 0x00000000#32) reducesTo_S16384x128_S16384_d1 h_S_

theorem sumSq128_apply (x : FVec Ideal S16384x128 .f32) (t : Fin 16384) : sumSq128 x (ix1 t) = ∑ k : Fin 128, x (ix2 t k) * x (ix2 t k) :=
  sq_gen2 x _ _ t

theorem normed128_sum (x : FVec Ideal S16384x128 .f32) (s : FVec Ideal S16384 .f32) (g : FVec Ideal S128 .f32) (t : Fin 16384) (j : Fin 128) :
    normed128 x s g (ix2 t j)
      = x (ix2 t j) * Ideal.rsqrt (Ideal.div (s (ix1 t)) (Ideal.ofBits .f32 0x43000000#32) + Ideal.ofBits .f32 0x358637BD#32) * g (ix1 j) := by
  pointwise

theorem normed128_apply (x : FVec Ideal S16384x128 .f32) (g : FVec Ideal S128 .f32) (t : Fin 16384) (j : Fin 128) :
    normed128 x (sumSq128 x) g (ix2 t j) = rms 0x43000000#32 (fun k => x (ix2 t k)) (fun k => g (ix1 k)) j :=
  (normed128_sum x (sumSq128 x) g t j).trans (by rw [sumSq128_apply]; rfl)

/-- The row projected. -/
abbrev projd (h : FVec Ideal S16384x1024 .f32) (w : FVec Ideal S1024x2216 .f32) : FVec Ideal S16384x2216 .f32 :=
  Host.dotGeneral dot_S16384x1024_S1024x2216_S16384x2216_1_0_0_1_n_n none h w

theorem projd_apply (h : FVec Ideal S16384x1024 .f32) (w : FVec Ideal S1024x2216 .f32) (t : Fin 16384) (j : Fin 2216) :
    projd h w (ix2 t j) = ∑ k : Fin 1024, h (ix2 t k) * w (ix2 k j) := by
  pointwise

abbrev queries (h : FVec Ideal S16384x256 .f32) (w : FVec Ideal S256x768 .f32) : FVec Ideal S16384x768 .f32 :=
  Host.dotGeneral dot_S16384x256_S256x768_S16384x768_1_0_0_1_n_n none h w

theorem queries_apply (h : FVec Ideal S16384x256 .f32) (w : FVec Ideal S256x768 .f32) (t : Fin 16384) (j : Fin 768) :
    queries h w (ix2 t j) = ∑ k : Fin 256, h (ix2 t k) * w (ix2 k j) := by
  pointwise

abbrev keyValues (h : FVec Ideal S16384x128 .f32) (w : FVec Ideal S128x1024 .f32) : FVec Ideal S16384x1024 .f32 :=
  Host.dotGeneral dot_S16384x128_S128x1024_S16384x1024_1_0_0_1_n_n none h w

theorem keyValues_apply (h : FVec Ideal S16384x128 .f32) (w : FVec Ideal S128x1024 .f32) (t : Fin 16384) (j : Fin 1024) :
    keyValues h w (ix2 t j) = ∑ k : Fin 128, h (ix2 t k) * w (ix2 k j) := by
  pointwise

/-! The slices of the projected row. -/

abbrev low (p : FVec Ideal S16384x2216 .f32) : FVec Ideal S16384x256 .f32 := extractStridedSlice S16384x256 ![0, 0] p slices_S16384x2216_S16384x256_0_0
abbrev mid (p : FVec Ideal S16384x2216 .f32) : FVec Ideal S16384x128 .f32 := extractStridedSlice S16384x128 ![0, 256] p slices_S16384x2216_S16384x128_0_256
abbrev pos (p : FVec Ideal S16384x2216 .f32) : FVec Ideal S16384x32 .f32 := extractStridedSlice S16384x32 ![0, 384] p slices_S16384x2216_S16384x32_0_384

theorem low_apply (p : FVec Ideal S16384x2216 .f32) (t : Fin 16384) (k : Fin 256) : low p (ix2 t k) = p (ix2 t ⟨k.val, by omega⟩) := by
  pointwise

theorem mid_apply (p : FVec Ideal S16384x2216 .f32) (t : Fin 16384) (k : Fin 128) : mid p (ix2 t k) = p (ix2 t ⟨256 + k.val, by omega⟩) := by
  pointwise

theorem pos_apply (p : FVec Ideal S16384x2216 .f32) (t : Fin 16384) (k : Fin 32) : pos p (ix2 t k) = p (ix2 t ⟨384 + k.val, by omega⟩) := by
  pointwise

/-- The 16 angles' columns of a table. -/
abbrev angles (x : FVec Ideal S16384x128 .f32) : FVec Ideal S16384x16 .f32 := extractStridedSlice S16384x16 ![0, 64] x slices_S16384x128_S16384x16_0_64

theorem angles_apply (x : FVec Ideal S16384x128 .f32) (t : Fin 16384) (k : Fin 16) : angles x (ix2 t k) = x (ix2 t ⟨64 + k.val, by omega⟩) := by
  pointwise

/-- The same for every head. -/
abbrev angles8 (x : FVec Ideal S16384x16 .f32) : FVec Ideal S16384x8x16 .f32 :=
  broadcastInDim S16384x8x16 ![0, 1, 2] bcast_S16384x1x16_S16384x8x16_0_1_2 (broadcastInDim S16384x1x16 ![0, 2] bcast_S16384x16_S16384x1x16_0_2 x)

abbrev qHeads (q : FVec Ideal S16384x768 .f32) : FVec Ideal S16384x8x96 .f32 := shapeCast _ q shapeCasts_S16384x768_S16384x8x96

abbrev qTurned (q : FVec Ideal S16384x8x96 .f32) (c s : FVec Ideal S16384x16 .f32) : FVec Ideal S16384x8x32 .f32 :=
  concatenate S16384x8x32 2 [⟨S16384x8x16, (subf (mulf (extractStridedSlice S16384x8x16 ![0, 0, 0] (extractStridedSlice S16384x8x32 ![0, 0, 64] q slices_S16384x8x96_S16384x8x32_0_0_64) slices_S16384x8x32_S16384x8x16_0_0_0) (angles8 c)) (mulf (extractStridedSlice S16384x8x16 ![0, 0, 16] (extractStridedSlice S16384x8x32 ![0, 0, 64] q slices_S16384x8x96_S16384x8x32_0_0_64) slices_S16384x8x32_S16384x8x16_0_0_16) (angles8 s)))⟩,
    ⟨S16384x8x16, (addf (mulf (extractStridedSlice S16384x8x16 ![0, 0, 16] (extractStridedSlice S16384x8x32 ![0, 0, 64] q slices_S16384x8x96_S16384x8x32_0_0_64) slices_S16384x8x32_S16384x8x16_0_0_16) (angles8 c)) (mulf (extractStridedSlice S16384x8x16 ![0, 0, 0] (extractStridedSlice S16384x8x32 ![0, 0, 64] q slices_S16384x8x96_S16384x8x32_0_0_64) slices_S16384x8x32_S16384x8x16_0_0_0) (angles8 s)))⟩] concatenates_S16384x8x16_S16384x8x16_S16384x8x32_d2

abbrev kTurned (k : FVec Ideal S16384x32 .f32) (c s : FVec Ideal S16384x16 .f32) : FVec Ideal S16384x32 .f32 :=
  concatenate S16384x32 1 [⟨S16384x16, (subf (mulf (extractStridedSlice S16384x16 ![0, 0] k slices_S16384x32_S16384x16_0_0) c) (mulf (extractStridedSlice S16384x16 ![0, 16] k slices_S16384x32_S16384x16_0_16) s))⟩,
    ⟨S16384x16, (addf (mulf (extractStridedSlice S16384x16 ![0, 16] k slices_S16384x32_S16384x16_0_16) c) (mulf (extractStridedSlice S16384x16 ![0, 0] k slices_S16384x32_S16384x16_0_0) s))⟩] concatenates_S16384x16_S16384x16_S16384x32_d1

theorem qHeads_apply (q : FVec Ideal S16384x768 .f32) (t : Fin 16384) (b : Fin 8) (j : Fin 96) :
    qHeads q (ix3 t b j) = q (ix2 t ⟨96 * b.val + j.val, by omega⟩) := by
  pointwise
  exact col q t (by first | omega | (simp only; omega))

theorem qTurned_apply (q : FVec Ideal S16384x8x96 .f32) (c s : FVec Ideal S16384x16 .f32) (t : Fin 16384) (b : Fin 8) (j : Fin 32) :
    qTurned q c s (ix3 t b j) = rot (fun r => q (ix3 t b ⟨64 + r.val, by omega⟩)) (fun k => c (ix2 t k)) (fun k => s (ix2 t k)) j := by
  unfold rot
  pointwise
  by_cases h : j.val < 16
  · simp only [dif_pos h]
  · simp only [dif_neg h, show 16 + (j.val - 16) = j.val by omega, Fin.eta]

theorem kTurned_apply (k : FVec Ideal S16384x32 .f32) (c s : FVec Ideal S16384x16 .f32) (t : Fin 16384) (j : Fin 32) :
    kTurned k c s (ix2 t j) = rot (fun r => k (ix2 t r)) (fun k => c (ix2 t k)) (fun k => s (ix2 t k)) j := by
  unfold rot
  pointwise
  by_cases h : j.val < 16
  · simp only [dif_pos h]
  · simp only [dif_neg h, show 16 + (j.val - 16) = j.val by omega, Fin.eta]

/-- The queries' result of their heads and the turned columns. -/
abbrev qOut (q : FVec Ideal S16384x8x96 .f32) (r : FVec Ideal S16384x8x32 .f32) : FVec Ideal S16384x1024 .bf16 :=
  truncf .bf16 (shapeCast _ (pad S16384x8x128 ![0, 0, 0] ![0, 0, 32] ![0, 0, 0] (mulf (concatenate S16384x8x96 2 [⟨S16384x8x64, (extractStridedSlice S16384x8x64 ![0, 0, 0] q slices_S16384x8x96_S16384x8x64_0_0_0)⟩, ⟨S16384x8x32, r⟩] concatenates_S16384x8x64_S16384x8x32_S16384x8x96_d2) (broadcastInDim S16384x8x96 ![] bcast_S_S16384x8x96 (constant S_ .f32 0x3DD105EC#32))) (sitofp .f32 (constantI S_ 32 0#32)) pads_S16384x8x96_S16384x8x128_000_000_0320 h_S_) shapeCasts_S16384x8x128_S16384x1024) bitsLt_bf16_f32

theorem qOut_apply (q : FVec Ideal S16384x8x96 .f32) (r : FVec Ideal S16384x8x32 .f32) (t : Fin 16384) (c : Fin 1024) :
    qOut q r (ix2 t c) = head (fun j => q (ix3 t ⟨c.val / 128, by omega⟩ ⟨j.val, by omega⟩)) (fun j => r (ix3 t ⟨c.val / 128, by omega⟩ j))
      ⟨c.val % 128, by omega⟩ * Ideal.ofBits .f32 0x3DD105EC#32 := by
  unfold head
  pointwise [sitofp_zero]
  have hb : c.val / 128 < 8 := by omega
  by_cases h : c.val % 128 < 64
  · have h' : c.val % 128 < 96 := by omega
    simp only [dif_pos (And.intro hb h'), dif_pos h]
  · by_cases h' : c.val % 128 < 96
    · simp only [dif_pos (And.intro hb h'), dif_neg h, dif_pos h']
    · simp only [dif_neg fun e : c.val / 128 < 8 ∧ c.val % 128 < 96 => h' e.2, dif_neg h, dif_neg h', zero_mul]

abbrev kvHeads (k : FVec Ideal S16384x1024 .f32) : FVec Ideal S16384x8x128 .f32 := shapeCast _ k shapeCasts_S16384x1024_S16384x8x128

theorem kvHeads_apply (q : FVec Ideal S16384x1024 .f32) (t : Fin 16384) (b : Fin 8) (j : Fin 128) :
    kvHeads q (ix3 t b j) = q (ix2 t ⟨128 * b.val + j.val, by omega⟩) := by
  pointwise
  exact col q t (by first | omega | (simp only; omega))

/-- The keys' result of their heads and the turned columns. -/
abbrev kOut (k : FVec Ideal S16384x8x128 .f32) (r : FVec Ideal S16384x32 .f32) : FVec Ideal S16384x1024 .bf16 :=
  truncf .bf16 (shapeCast _ (pad S16384x8x128 ![0, 0, 0] ![0, 0, 32] ![0, 0, 0] (concatenate S16384x8x96 2 [⟨S16384x8x64, (extractStridedSlice S16384x8x64 ![0, 0, 0] k slices_S16384x8x128_S16384x8x64_0_0_0)⟩, ⟨S16384x8x32, (broadcastInDim S16384x8x32 ![0, 1, 2] bcast_S16384x1x32_S16384x8x32_0_1_2 (broadcastInDim S16384x1x32 ![0, 2] bcast_S16384x32_S16384x1x32_0_2 r))⟩] concatenates_S16384x8x64_S16384x8x32_S16384x8x96_d2) (sitofp .f32 (constantI S_ 32 0#32)) pads_S16384x8x96_S16384x8x128_000_000_0320 h_S_) shapeCasts_S16384x8x128_S16384x1024) bitsLt_bf16_f32

theorem kOut_apply (k : FVec Ideal S16384x8x128 .f32) (r : FVec Ideal S16384x32 .f32) (t : Fin 16384) (c : Fin 1024) :
    kOut k r (ix2 t c) = head (fun j => k (ix3 t ⟨c.val / 128, by omega⟩ ⟨j.val, by omega⟩)) (fun j => r (ix2 t j)) ⟨c.val % 128, by omega⟩ := by
  unfold head
  pointwise [sitofp_zero]
  have hb : c.val / 128 < 8 := by omega
  by_cases h : c.val % 128 < 64
  · have h' : c.val % 128 < 96 := by omega
    simp only [dif_pos (And.intro hb h'), dif_pos h]
  · by_cases h' : c.val % 128 < 96
    · simp only [dif_pos (And.intro hb h'), dif_neg h, dif_pos h']
    · simp only [dif_neg fun e : c.val / 128 < 8 ∧ c.val % 128 < 96 => h' e.2, dif_neg h, dif_neg h']

/-- The values' result. -/
abbrev vOut (k : FVec Ideal S16384x8x128 .f32) : FVec Ideal S16384x512 .bf16 :=
  truncf .bf16 (shapeCast _ (extractStridedSlice S16384x8x64 ![0, 0, 64] k slices_S16384x8x128_S16384x8x64_0_0_64) shapeCasts_S16384x8x64_S16384x512) bitsLt_bf16_f32

theorem vOut_apply (k : FVec Ideal S16384x8x128 .f32) (t : Fin 16384) (c : Fin 512) :
    vOut k (ix2 t c) = k (ix3 t ⟨c.val / 64, by omega⟩ ⟨64 + c.val % 64, by omega⟩) := by
  pointwise

abbrev hyOut (p : FVec Ideal S16384x2216 .f32) : FVec Ideal S16384x768 .f32 := extractStridedSlice S16384x768 ![0, 416] p slices_S16384x2216_S16384x768_0_416
abbrev zOut (p : FVec Ideal S16384x2216 .f32) : FVec Ideal S16384x256 .f32 := extractStridedSlice S16384x256 ![0, 1184] p slices_S16384x2216_S16384x256_0_1184
abbrev xbcOut (p : FVec Ideal S16384x2216 .f32) : FVec Ideal S16384x768 .f32 := extractStridedSlice S16384x768 ![0, 1440] p slices_S16384x2216_S16384x768_0_1440
abbrev dtOut (p : FVec Ideal S16384x2216 .f32) : FVec Ideal S16384x128 .f32 :=
  pad S16384x128 ![0, 0] ![0, 120] ![0, 0] (extractStridedSlice S16384x8 ![0, 2208] p slices_S16384x2216_S16384x8_0_2208) (sitofp .f32 (constantI S_ 32 0#32)) pads_S16384x8_S16384x128_000_01200 h_S_

theorem hyOut_apply (p : FVec Ideal S16384x2216 .f32) (t : Fin 16384) (j : Fin 768) : hyOut p (ix2 t j) = p (ix2 t ⟨416 + j.val, by omega⟩) := by
  pointwise

theorem zOut_apply (p : FVec Ideal S16384x2216 .f32) (t : Fin 16384) (j : Fin 256) : zOut p (ix2 t j) = p (ix2 t ⟨1184 + j.val, by omega⟩) := by
  pointwise

theorem xbcOut_apply (p : FVec Ideal S16384x2216 .f32) (t : Fin 16384) (j : Fin 768) : xbcOut p (ix2 t j) = p (ix2 t ⟨1440 + j.val, by omega⟩) := by
  pointwise

theorem dtOut_apply (p : FVec Ideal S16384x2216 .f32) (t : Fin 16384) (j : Fin 128) :
    dtOut p (ix2 t j) = if h : j.val < 8 then p (ix2 t ⟨2208 + j.val, by omega⟩) else 0 := by
  pointwise [sitofp_zero]

/-! The reference's seven results. -/

abbrev projR (a : Args) : FVec Ideal S16384x2216 .f32 := projd (normed1024 a.x (sumSq1024 a.x) a.gm) a.wi

abbrev qR (a : Args) : FVec Ideal S16384x768 .f32 := queries (normed256 (low (projR a)) (sumSq256 (low (projR a))) a.gq) a.wq

abbrev kvR (a : Args) : FVec Ideal S16384x1024 .f32 := keyValues (normed128 (mid (projR a)) (sumSq128 (mid (projR a))) a.gk) a.wk

theorem projR_apply (a : Args) (t : Fin 16384) (j : Fin 2216) : projR a (ix2 t j) = projAt a t j := by
  have h := normed1024_apply a.x a.gm t
  unfold projR
  generalize normed1024 a.x (sumSq1024 a.x) a.gm = n at h ⊢
  rw [projd_apply]
  simp only [h]
  rfl

theorem qR_apply (a : Args) (t : Fin 16384) (j : Fin 768) : qR a (ix2 t j) = qAt a t j := by
  have h := projR_apply a t
  unfold qR
  generalize projR a = p at h ⊢
  have h1 := low_apply p t
  generalize low p = l at h1 ⊢
  have h2 := normed256_apply l a.gq t
  generalize normed256 l (sumSq256 l) a.gq = n at h2 ⊢
  rw [queries_apply]
  simp only [h2, h1, h]
  rfl

theorem kvR_apply (a : Args) (t : Fin 16384) (j : Fin 1024) : kvR a (ix2 t j) = kvAt a t j := by
  have h := projR_apply a t
  unfold kvR
  generalize projR a = p at h ⊢
  have h1 := mid_apply p t
  generalize mid p = l at h1 ⊢
  have h2 := normed128_apply l a.gk t
  generalize normed128 l (sumSq128 l) a.gk = n at h2 ⊢
  rw [keyValues_apply]
  simp only [h2, h1, h]
  rfl

theorem q_at (a : Args) (t : Fin 16384) (c : Fin 1024) : qOut (qHeads (qR a)) (qTurned (qHeads (qR a)) (angles a.cs) (angles a.sn)) (ix2 t c) = outQ a t c := by
  have h := qR_apply a t
  generalize qR a = q at h ⊢
  have h1 := qHeads_apply q t
  generalize qHeads q = e at h1 ⊢
  have hc := angles_apply a.cs t
  have hs := angles_apply a.sn t
  generalize angles a.cs = x at hc ⊢
  generalize angles a.sn = y at hs ⊢
  have h2 := qTurned_apply e x y t
  generalize qTurned e x y = r at h2 ⊢
  rw [qOut_apply]
  simp only [h2, h1, h, hc, hs]
  unfold outQ turn
  simp only [Nat.add_assoc]

theorem q_eq (a : Args) : qOut (qHeads (qR a)) (qTurned (qHeads (qR a)) (angles a.cs) (angles a.sn)) = arrQ a := by
  funext i
  idx_vars i
  exact q_at a _ _

theorem k_at (a : Args) (t : Fin 16384) (c : Fin 1024) : kOut (kvHeads (kvR a)) (kTurned (pos (projR a)) (angles a.cs) (angles a.sn)) (ix2 t c) = outK a t c := by
  have h := kvR_apply a t
  have hp := projR_apply a t
  generalize kvR a = q at h ⊢
  generalize projR a = p at hp ⊢
  have h1 := kvHeads_apply q t
  generalize kvHeads q = e at h1 ⊢
  have hc := angles_apply a.cs t
  have hs := angles_apply a.sn t
  generalize angles a.cs = x at hc ⊢
  generalize angles a.sn = y at hs ⊢
  have h3 := pos_apply p t
  generalize pos p = z at h3 ⊢
  have h2 := kTurned_apply z x y t
  generalize kTurned z x y = r at h2 ⊢
  rw [kOut_apply]
  simp only [h2, h1, h, h3, hp, hc, hs]
  rfl

theorem k_eq (a : Args) : kOut (kvHeads (kvR a)) (kTurned (pos (projR a)) (angles a.cs) (angles a.sn)) = arrK a := by
  funext i
  idx_vars i
  exact k_at a _ _

theorem v_at (a : Args) (t : Fin 16384) (c : Fin 512) : vOut (kvHeads (kvR a)) (ix2 t c) = outV a t c := by
  have h := kvR_apply a t
  generalize kvR a = q at h ⊢
  have h1 := kvHeads_apply q t
  generalize kvHeads q = e at h1 ⊢
  rw [vOut_apply]
  simp only [h1, h]
  unfold outV
  simp only [Nat.add_assoc]

theorem v_eq (a : Args) : vOut (kvHeads (kvR a)) = arrV a := by
  funext i
  idx_vars i
  exact v_at a _ _

theorem hy_at (a : Args) (t : Fin 16384) (c : Fin 768) : hyOut (projR a) (ix2 t c) = outHy a t c := by
  have h := projR_apply a t
  generalize projR a = p at h ⊢
  rw [hyOut_apply]
  simp only [h]
  rfl

theorem hy_eq (a : Args) : hyOut (projR a) = arrHy a := by
  funext i
  idx_vars i
  exact hy_at a _ _

theorem z_at (a : Args) (t : Fin 16384) (c : Fin 256) : zOut (projR a) (ix2 t c) = outZ a t c := by
  have h := projR_apply a t
  generalize projR a = p at h ⊢
  rw [zOut_apply]
  simp only [h]
  rfl

theorem z_eq (a : Args) : zOut (projR a) = arrZ a := by
  funext i
  idx_vars i
  exact z_at a _ _

theorem xbc_at (a : Args) (t : Fin 16384) (c : Fin 768) : xbcOut (projR a) (ix2 t c) = outXbc a t c := by
  have h := projR_apply a t
  generalize projR a = p at h ⊢
  rw [xbcOut_apply]
  simp only [h]
  rfl

theorem xbc_eq (a : Args) : xbcOut (projR a) = arrXbc a := by
  funext i
  idx_vars i
  exact xbc_at a _ _

theorem dt_at (a : Args) (t : Fin 16384) (c : Fin 128) : dtOut (projR a) (ix2 t c) = outDt a t c := by
  have h := projR_apply a t
  generalize projR a = p at h ⊢
  rw [dtOut_apply]
  simp only [h]
  rfl

theorem dt_eq (a : Args) : dtOut (projR a) = arrDt a := by
  funext i
  idx_vars i
  exact dt_at a _ _

end Cert.Proj.Ref

end
-- ==== Proof.ProjClaim.lean ====
/-
  The projections' claim: with tables of angles that turn both halves alike and leave the plain columns, and finite
  weights, the kernel's run and the reference's leave the same seven arrays.
-/
module

public import proofs.«01_k».proof.Proof.ProjRef
public import proofs.«01_k».proof.Proof.AttnClaim
public import proofs.«01_k».proof.Proof.Gen.Pre_rotation_tables
public import proofs.«01_k».proof.Defs

@[expose] public section

set_option maxRecDepth 16384

noncomputable section

namespace Cert.Proj

open Idealize.ShloMosaic Idealize.ShloMosaic.TcCoe Idealize.SL.Sem Cert.Pre_rotation_tables

instance : Subsingleton S_.Idx := ⟨fun a b => funext fun d => d.elim0⟩

theorem finite_all {s : Shape} {axes : List (Fin s.rank)} (x : FVec Ideal s .f32)
    (hb : S_.BroadcastsInDim s (![] : Fin 0 → Fin s.rank)) (hr : s.ReducesTo axes S_) (h0 : 0 < S_.numel) (i0 : S_.Idx)
    (e : Host.reduce IntOp.andi (cmpf .olt (Host.absf x) (broadcastInDim s ![] hb (constant S_ .f32 0x7F800000#32)))
      (constantI S_ 1 1#1) hr h0 i0 = 1#1) (i : s.Idx) : ∃ r : ℝ, x i = r := by
  have h := Host.reduce_andi_all _ _ hr h0 i0 e i
  have h' : Ideal.cmp .olt (max (x i) (-(x i))) (Ideal.ofBits .f32 0x7F800000#32) = 1#1 := h
  rw [Cert.Attn.ofBits_pos_inf] at h'
  refine Cert.Attn.finite_of_abs_lt ?_
  by_contra hn
  simp [Ideal.cmp, hn] at h'

theorem equal_all {s : Shape} {axes : List (Fin s.rank)} (x y : FVec Ideal s .f32) (hr : s.ReducesTo axes S_) (h0 : 0 < S_.numel) (i0 : S_.Idx)
    (e : Host.reduce IntOp.andi (cmpf .oeq x y) (constantI S_ 1 1#1) hr h0 i0 = 1#1) (i : s.Idx) : x i = y i := by
  have h := Host.reduce_andi_all _ _ hr h0 i0 e i
  have h' : Ideal.cmp .oeq (x i) (y i) = 1#1 := h
  by_contra hn
  simp [Ideal.cmp, hn] at h'

theorem slice_64 (v : FVec Ideal S16384x128 .f32) (t : Fin 16384) (j : Fin 16) :
    extractStridedSlice S16384x16 ![0, 64] v Facts.slices_S16384x128_S16384x16_0_64 (ix2 t j) = v (ix2 t ⟨64 + j.val, by omega⟩) := by
  pointwise

theorem slice_80 (v : FVec Ideal S16384x128 .f32) (t : Fin 16384) (j : Fin 16) :
    extractStridedSlice S16384x16 ![0, 80] v Facts.slices_S16384x128_S16384x16_0_80 (ix2 t j) = v (ix2 t ⟨80 + j.val, by omega⟩) := by
  pointwise

theorem slice_0 (v : FVec Ideal S16384x128 .f32) (t : Fin 16384) (j : Fin 64) :
    extractStridedSlice S16384x64 ![0, 0] v Facts.slices_S16384x128_S16384x64_0_0 (ix2 t j) = v (ix2 t ⟨j.val, by omega⟩) := by
  pointwise

theorem ones_apply (t : Fin 16384) (j : Fin 64) :
    (broadcastInDim S16384x64 ![] Facts.bcast_S_S16384x64 (constant S_ .f32 0x3F800000#32) : FVec Ideal S16384x64 .f32) (ix2 t j) = (1 : EReal) := by
  pointwise [Ideal.ofBits_one_f32]

theorem slice_wi (v : FVec Ideal S1024x2216 .f32) (k : Fin 1024) (j : Fin 32) :
    extractStridedSlice S1024x32 ![0, 384] v Facts.slices_S1024x2216_S1024x32_0_384 (ix2 k j) = v (ix2 k ⟨384 + j.val, by omega⟩) := by
  pointwise

theorem slice_wq (v : FVec Ideal S256x768 .f32) (k : Fin 256) (b : Fin 8) (j : Fin 32) :
    extractStridedSlice S256x8x32 ![0, 0, 64] (shapeCast S256x8x96 v Facts.shapeCasts_S256x768_S256x8x96) Facts.slices_S256x8x96_S256x8x32_0_0_64 (ix3 k b j)
      = v (ix2 k ⟨96 * b.val + 64 + j.val, by omega⟩) := by
  pointwise
  exact col v k (by first | omega | (simp only; omega))

/-- What the precondition says of the arguments. -/
theorem ok_of {a : Args} (h : Cert.Pre_rotation_tables.fn (F := Ideal) a.x a.gm a.wi a.gq a.wq a.gk a.wk a.cs a.sn = fun _ => 1#1) : Ok a := by
  have e := congrFun h (fun d => d.elim0)
  dsimp only [Cert.Pre_rotation_tables.fn, Cert.Pre_rotation_tables.fn_part1, Cert.Pre_rotation_tables.fn_part2] at e
  obtain ⟨e, e7⟩ := Cert.Attn.and_one e
  obtain ⟨e, e6⟩ := Cert.Attn.and_one e
  obtain ⟨e, e5⟩ := Cert.Attn.and_one e
  obtain ⟨e, e4⟩ := Cert.Attn.and_one e
  obtain ⟨e, e3⟩ := Cert.Attn.and_one e
  obtain ⟨e1, e2⟩ := Cert.Attn.and_one e
  refine ⟨fun t j => ?_, fun t j => ?_, fun t j => ?_, ?_, fun k j => ?_, ?_, fun k b j => ?_⟩
  · exact (slice_0 a.cs t j).symm.trans ((equal_all _ _ _ _ _ e1 (ix2 t j)).trans (ones_apply t j))
  · exact (slice_64 a.cs t j).symm.trans ((equal_all _ _ _ _ _ e2 (ix2 t j)).trans (slice_80 a.cs t j))
  · exact (slice_64 a.sn t j).symm.trans ((equal_all _ _ _ _ _ e4 (ix2 t j)).trans (slice_80 a.sn t j))
  · exact finite_all a.gm _ _ _ _ e5
  · rw [← slice_wi a.wi k j]
    exact finite_all _ _ _ _ _ e3 (ix2 k j)
  · exact finite_all a.gq _ _ _ _ e6
  · rw [← slice_wq a.wq k b j]
    exact finite_all _ _ _ _ _ e7 (ix3 k b j)

end Cert.Proj

namespace Cert.Proj.Ref

open Cert.ProjectionsRefIdeal Cert.ProjectionsRefIdeal.Gen Cert.ProjectionsRefIdeal.Value Idealize.ShloMosaic Idealize.ShloMosaic.TcCoe Idealize.SL.Sem

variable (m : (ℓ : Loc nD τ sig) → Buf (Elt Ideal) ℓ)

/-- The reference's arguments on a core. -/
def argsOf (c : Dev nD) : Args where
  x := m ((c.tc : Thread nD τ).loc main_arg0)
  gm := m ((c.tc : Thread nD τ).loc main_arg1)
  wi := m ((c.tc : Thread nD τ).loc main_arg2)
  gq := m ((c.tc : Thread nD τ).loc main_arg3)
  wq := m ((c.tc : Thread nD τ).loc main_arg4)
  gk := m ((c.tc : Thread nD τ).loc main_arg5)
  wk := m ((c.tc : Thread nD τ).loc main_arg6)
  cs := m ((c.tc : Thread nD τ).loc main_arg7)
  sn := m ((c.tc : Thread nD τ).loc main_arg8)

theorem v89_eq (c : Dev nD) : res_main_v89 m c = arrQ (argsOf m c) := by
  rw [← q_eq]
  unfold res_main_v89 argsOf
  rfl

theorem v92_eq (c : Dev nD) : res_main_v92 m c = arrK (argsOf m c) := by
  rw [← k_eq]
  unfold res_main_v92 argsOf
  rfl

end Cert.Proj.Ref

namespace Cert.Proof

open Idealize.ShloMosaic Idealize.ShloMosaic.TcCoe Idealize.SL.Sem

theorem projections_eq : Cert.algebraic_ProjectionsIdeal_ProjectionsRefIdeal_pre_rotation_tables := by
  intro m g m' g' hpre hargs
  have ok : ∀ c, Cert.Proj.Ok (Cert.Proj.argsOf m c) := fun c => Cert.Proj.ok_of (hpre c)
  refine ⟨fun c => Cert.Proj.arrQ (Cert.Proj.argsOf m c), fun c => Cert.Proj.arrK (Cert.Proj.argsOf m c),
    fun c => Cert.Proj.arrV (Cert.Proj.argsOf m c), fun c => Cert.Proj.arrHy (Cert.Proj.argsOf m c),
    fun c => Cert.Proj.arrZ (Cert.Proj.argsOf m c), fun c => Cert.Proj.arrXbc (Cert.Proj.argsOf m c),
    fun c => Cert.Proj.arrDt (Cert.Proj.argsOf m c), ?_, ?_⟩
  · exact (θ_run Cert.ProjectionsIdeal.defs _ _).mono
      (fun r h c => ⟨(h c).1.trans (Cert.Proj.array11_eq m c (ok c)), (h c).2.1.trans (Cert.Proj.array12_eq m c (ok c)),
        (h c).2.2.1.trans (Cert.Proj.array13_eq m c), (h c).2.2.2.1.trans (Cert.Proj.array14_eq m c),
        (h c).2.2.2.2.1.trans (Cert.Proj.array15_eq m c), (h c).2.2.2.2.2.1.trans (Cert.Proj.array16_eq m c),
        (h c).2.2.2.2.2.2.1.trans (Cert.Proj.array17_eq m c), (h c).2.2.2.2.2.2.2⟩)
      (Cert.ProjectionsIdeal.Value.run_blocks m g)
  · have hc : ∀ c, Cert.Proj.Ref.argsOf m' c = Cert.Proj.argsOf m c := by
      intro c
      obtain ⟨h0, h1, h2, h3, h4, h5, h6, h7, h8⟩ := hargs c
      unfold Cert.Proj.Ref.argsOf Cert.Proj.argsOf
      rw [h0, h1, h2, h3, h4, h5, h6, h7, h8]
    refine (θ_run Cert.ProjectionsRefIdeal.defs _ _).mono (fun r h c => ⟨(h c).1.trans ?_, (h c).2.1.trans ?_, (h c).2.2.1.trans ?_,
        (h c).2.2.2.1.trans ?_, (h c).2.2.2.2.1.trans ?_, (h c).2.2.2.2.2.1.trans ?_, (h c).2.2.2.2.2.2.1.trans ?_, (h c).2.2.2.2.2.2.2⟩)
      (Cert.ProjectionsRefIdeal.Value.run m' g')
    · exact (Cert.Proj.Ref.v89_eq m' c).trans (by rw [hc])
    · exact (Cert.Proj.Ref.v92_eq m' c).trans (by rw [hc])
    · exact (Cert.Proj.Ref.v_eq (Cert.Proj.Ref.argsOf m' c)).trans (by rw [hc])
    · exact (Cert.Proj.Ref.hy_eq (Cert.Proj.Ref.argsOf m' c)).trans (by rw [hc])
    · exact (Cert.Proj.Ref.z_eq (Cert.Proj.Ref.argsOf m' c)).trans (by rw [hc])
    · exact (Cert.Proj.Ref.xbc_eq (Cert.Proj.Ref.argsOf m' c)).trans (by rw [hc])
    · exact (Cert.Proj.Ref.dt_eq (Cert.Proj.Ref.argsOf m' c)).trans (by rw [hc])

end Cert.Proof

end
-- ==== Proof.OutPay.lean ====
/-
  The values the output projection's body computes, read at an index.
-/
module

public import proofs.«01_k».proof.Proof.Rms
public import proofs.«01_k».proof.Proof.Gen.OutputIdeal.Skeleton
public import Idealize.ShloMosaic.Lib.Pointwise

@[expose] public section

set_option maxRecDepth 16384

noncomputable section

namespace Cert.Out

open Cert.OutputIdeal Cert.OutputIdeal.Gen Idealize.ShloMosaic Cert.Rms

/-- A row of 256 in two groups of 128, each over its root mean square, times a gain. -/
def grouped (y g : Fin 256 → EReal) (j : Fin 256) : EReal :=
  y j * scale 0x43000000#32 (fun k : Fin 128 => y ⟨128 * (j.val / 128) + k.val, by omega⟩) * g j

theorem grouped_lt (y g : Fin 256 → EReal) (j : Fin 256) (h : j.val < 128) :
    grouped y g j = y j * scale 0x43000000#32 (fun k : Fin 128 => y ⟨k.val, by omega⟩) * g j := by
  unfold grouped
  have e : ∀ k : Fin 128, (⟨128 * (j.val / 128) + k.val, by omega⟩ : Fin 256) = ⟨k.val, by omega⟩ := fun k => Fin.ext (by show 128 * (j.val / 128) + k.val = k.val; omega)
  simp only [e]

theorem grouped_ge (y g : Fin 256 → EReal) (j : Fin 256) (h : ¬j.val < 128) :
    grouped y g j = y j * scale 0x43000000#32 (fun k : Fin 128 => y ⟨128 + k.val, by omega⟩) * g j := by
  unfold grouped
  have e : ∀ k : Fin 128, (⟨128 * (j.val / 128) + k.val, by omega⟩ : Fin 256) = ⟨128 + k.val, by omega⟩ := fun k => Fin.ext (by show 128 * (j.val / 128) + k.val = 128 + k.val; omega)
  simp only [e]

/-- The scan's outcome: its two directions and its input times a gain `d`, gated by `z`. -/
def scanned (y x d z : Fin 256 → EReal) (k : Fin 256) : EReal := (y k + x k * d k) * (z k * Ideal.logistic (z k))

/-- Three rows side by side. -/
def beside (a : Fin 512 → EReal) (b y : Fin 256 → EReal) (k : Fin 1024) : EReal :=
  if h : k.val < 512 then a ⟨k.val, h⟩
  else if h' : k.val - 512 < 256 then b ⟨k.val - 512, h'⟩
  else y ⟨k.val - 512 - 256, by omega⟩

theorem beside_grouped (a : Fin 512 → EReal) (b y g : Fin 256 → EReal) (k : Fin 1024) :
    beside a b (grouped y g) k
      = if h : k.val < 512 then a ⟨k.val, h⟩
        else if h' : k.val - 512 < 256 then b ⟨k.val - 512, h'⟩
        else if h'' : k.val - 512 - 256 < 128 then
          y ⟨k.val - 512 - 256, by omega⟩ * scale 0x43000000#32 (fun k : Fin 128 => y ⟨k.val, by omega⟩) * g ⟨k.val - 512 - 256, by omega⟩
        else
          y ⟨128 + (k.val - 512 - 256 - 128), by omega⟩ * scale 0x43000000#32 (fun k : Fin 128 => y ⟨128 + k.val, by omega⟩)
            * g ⟨128 + (k.val - 512 - 256 - 128), by omega⟩ := by
  unfold beside
  by_cases h1 : k.val < 512
  · rw [dif_pos h1, dif_pos h1]
  · rw [dif_neg h1, dif_neg h1]
    by_cases h2 : k.val - 512 < 256
    · rw [dif_pos h2, dif_pos h2]
    · rw [dif_neg h2, dif_neg h2]
      by_cases h3 : k.val - 512 - 256 < 128
      · rw [dif_pos h3, grouped_lt _ _ _ h3]
      · rw [dif_neg h3, grouped_ge _ _ _ h3]
        have e : 128 + (k.val - 512 - 256 - 128) = k.val - 512 - 256 := by omega
        simp only [e]

/-- A softmax over 16 scores. -/
def soft (s : Fin 16 → EReal) (e : Fin 16) : EReal :=
  Ideal.div (Ideal.exp (s e - Finset.univ.fold max ⊥ s)) (∑ i, Ideal.exp (s i - Finset.univ.fold max ⊥ s))

/-- The word of −∞ reads as the least extended real. -/
theorem ofBits_neg_inf : Ideal.ofBits .f32 0xFF800000#32 = ⊥ := by
  show Ideal.ieee 8 23 0xFF800000#32 = ⊥
  unfold Ideal.ieee
  simp

theorem pay1_apply (x : FVec Ideal S256x1024 .f32) (g : Vec Ideal S1x1024 .f32) (r : Fin 256) (j : Fin 1024) :
    k0_pay1 x g (ix2 r j) = rms 0x44800000#32 (fun k => x (ix2 r k)) (fun k => g (ix2 0 k)) j := by
  unfold rms scale
  pointwise [k0_pay1]

theorem pay2_apply (x : FVec Ideal S256x1024 .f32) (g : Vec Ideal S1x1024 .f32) (r : Fin 256) (j : Fin 1024) :
    k0_pay2 x g (ix2 r j) = rms 0x44800000#32 (fun k => x (ix2 r k)) (fun k => g (ix2 0 k)) j := by
  rw [← pay1_apply]
  unfold k0_pay2
  generalize k0_pay1 x g = p
  pointwise

theorem pay3_apply (x : FVec Ideal S256x1024 .f32) (g : Vec Ideal S1x1024 .f32) (w : Vec Ideal S16x1024 .f32) (e : Fin 16) (r : Fin 256) :
    k0_pay3 x g w (ix3 0 e r)
      = soft (fun e => ∑ k, rms 0x44800000#32 (fun k => x (ix2 r k)) (fun k => g (ix2 0 k)) k * w (ix2 e k)) e := by
  have hp := pay1_apply x g r
  simp only [← hp]
  unfold k0_pay3
  generalize k0_pay1 x g = p
  unfold soft
  pointwise [ofBits_neg_inf]
  simp only [mul_comm]

theorem pay4_apply (x : Vec Ideal S256x512 .f32) (g : Vec Ideal S1x512 .f32) (r : Fin 256) (j : Fin 512) :
    k0_pay4 x g (ix2 r j) = rms 0x44000000#32 (fun k => x (ix2 r k)) (fun k => g (ix2 0 k)) j := by
  unfold rms scale
  pointwise [k0_pay4]

theorem pay5_apply (x : Vec Ideal S256x256 .f32) (g : Vec Ideal S1x256 .f32) (r : Fin 256) (j : Fin 256) :
    k0_pay5 x g (ix2 r j) = rms 0x43800000#32 (fun k => x (ix2 r k)) (fun k => g (ix2 0 k)) j := by
  unfold rms scale
  pointwise [k0_pay5]

theorem pay6_apply (a b : Vec Ideal S256x256 .f32) (r : Fin 256) (j : Fin 256) :
    k0_pay6 a b (ix2 r j) = a (ix2 r j) + b (ix2 r j) := by
  pointwise [k0_pay6]

theorem pay7_apply (v14 : FVec Ideal S256x512 .f32) (v29 : FVec Ideal S256x256 .f32) (v30 : Vec Ideal S256x256 .f32) (v33 : FVec Ideal S256x256 .f32) (v34 : Vec Ideal S256x256 .f32) (v35 : Vec Ideal S1x256 .f32) (v43 : Vec Ideal S1x256 .f32) (v76 : Vec Ideal S256x1024 .f32) (v77 : Vec Ideal S1024x1024 .bf16) (r : Fin 256) (d : Fin 1024) :
    k0_pay7 v14 v29 v30 v33 v34 v35 v43 v76 v77 (ix2 r d)
      = v76 (ix2 r d) + ∑ k, beside (fun k => v14 (ix2 r k)) (fun k => v29 (ix2 r k))
          (grouped (scanned (fun k => v33 (ix2 r k)) (fun k => v34 (ix2 r k)) (fun k => v35 (ix2 0 k)) (fun k => v30 (ix2 r k))) (fun k => v43 (ix2 0 k))) k
          * v77 (ix2 k d) := by
  simp only [beside_grouped, scanned, scale]
  pointwise [k0_pay7]

end Cert.Out

end
-- ==== Proof.OutBlock.lean ====
/-
  What the output projection's grid points find: their blocks of the arrays the program is given.
-/
module

public import proofs.«01_k».proof.Proof.OutPay
public import proofs.«01_k».proof.Proof.Gen.OutputIdeal.Value
public import Idealize.ShloMosaic.Lib.Pipeline.ValueKit
public import Idealize.ShloMosaic.Lib.Tactic

@[expose] public section

set_option maxRecDepth 16384

noncomputable section

namespace Cert.Out

open Cert.OutputIdeal Cert.OutputIdeal.Gen Cert.OutputIdeal.Value Idealize.ShloMosaic Idealize.ShloMosaic.TcCoe Idealize.SL.Sem
open Idealize.ShloMosaic.Pipeline Cert.Rms

theorem hz2 : (![0, 0] : Fin 2 → ℕ) = fun _ => 0 := funext fun a => by fin_cases a <;> rfl
theorem hz3 : (![0, 0, 0] : Fin 3 → ℕ) = fun _ => 0 := funext fun a => by fin_cases a <;> rfl

/-- The arrays the program is given. -/
structure Args where
  om : S16384x512.Idx → EReal
  hy : S16384x256.Idx → EReal
  yf : S16384x256.Idx → EReal
  yb : S16384x256.Idx → EReal
  xbc : S16384x768.Idx → EReal
  z : S16384x256.Idx → EReal
  x : S16384x1024.Idx → EReal
  gm : S512.Idx → EReal
  gh : S256.Idx → EReal
  dsk : S4.Idx → EReal
  gs : S256.Idx → EReal
  w : S1024x1024.Idx → EReal
  gf : S1024.Idx → EReal
  rt : S1024x16.Idx → EReal

/-- A token's three mixed rows side by side. -/
def mixedRow (a : Args) (t : Fin 16384) : Fin 1024 → EReal :=
  beside (rms 0x44000000#32 (fun k => a.om (ix2 t k)) (fun k => a.gm (ix1 k)))
    (rms 0x43800000#32 (fun k => a.hy (ix2 t k)) (fun k => a.gh (ix1 k)))
    (grouped (scanned (fun k => a.yf (ix2 t k) + a.yb (ix2 t k)) (fun k => a.xbc (ix2 t ⟨k.val, by omega⟩))
      (fun k => a.dsk (ix1 ⟨k.val / 64, by omega⟩)) (fun k => a.z (ix2 t k))) (fun k => a.gs (ix1 k)))

/-- A token's new residual at column `d`. -/
def residAt (a : Args) (t : Fin 16384) (d : Fin 1024) : EReal :=
  a.x (ix2 t d) + ∑ k, mixedRow a t k * a.w (ix2 k d)

/-- It normalized. -/
def normAt (a : Args) (t : Fin 16384) (d : Fin 1024) : EReal :=
  rms 0x44800000#32 (residAt a t) (fun k => a.gf (ix1 k)) d

/-- A token's affinity to expert `e`. -/
def affAt (a : Args) (e : Fin 16) (t : Fin 16384) : EReal :=
  soft (fun e => ∑ k, normAt a t k * a.rt (ix2 k e)) e

def residArr (a : Args) (i : S16384x1024.Idx) : EReal := residAt a (i 0) (i 1)
def normArr (a : Args) (i : S16384x1024.Idx) : EReal := normAt a (i 0) (i 1)
def affArr (a : Args) (i : S2x16x8192.Idx) : EReal :=
  affAt a (i 1) ⟨8192 * (i 0 : Fin 2).val + (i 2 : Fin 8192).val, by
    have h0 : (i 0 : Fin 2).val < 2 := (i 0 : Fin 2).isLt
    have h2 : (i 2 : Fin 8192).val < 8192 := (i 2 : Fin 8192).isLt
    omega⟩

theorem lt_N (t : Fin cfg0.N) : t.val < 64 := lt_of_lt_of_eq t.isLt N_0

theorem index_0 (t : Fin cfg0.N) : win0_0.index t = ![t.val, 0] := by revert t; decide +kernel
theorem index_1 (t : Fin cfg0.N) : win0_1.index t = ![t.val, 0] := by revert t; decide +kernel
theorem index_2 (t : Fin cfg0.N) : win0_2.index t = ![t.val, 0] := by revert t; decide +kernel
theorem index_3 (t : Fin cfg0.N) : win0_3.index t = ![t.val, 0] := by revert t; decide +kernel
theorem index_4 (t : Fin cfg0.N) : win0_4.index t = ![t.val, 0] := by revert t; decide +kernel
theorem index_5 (t : Fin cfg0.N) : win0_5.index t = ![t.val, 0] := by revert t; decide +kernel
theorem index_6 (t : Fin cfg0.N) : win0_6.index t = ![t.val, 0] := by revert t; decide +kernel
theorem index_7 (t : Fin cfg0.N) : win0_7.index t = ![0, 0] := by revert t; decide +kernel
theorem index_8 (t : Fin cfg0.N) : win0_8.index t = ![0, 0] := by revert t; decide +kernel
theorem index_9 (t : Fin cfg0.N) : win0_9.index t = ![0, 0] := by revert t; decide +kernel
theorem index_10 (t : Fin cfg0.N) : win0_10.index t = ![0, 0] := by revert t; decide +kernel
theorem index_11 (t : Fin cfg0.N) : win0_11.index t = ![0, 0] := by revert t; decide +kernel
theorem index_12 (t : Fin cfg0.N) : win0_12.index t = ![0, 0] := by revert t; decide +kernel
theorem index_13 (t : Fin cfg0.N) : win0_13.index t = ![0, 0] := by revert t; decide +kernel
theorem index_14 (t : Fin cfg0.N) : win0_14.index t = ![t.val, 0] := by revert t; decide +kernel
theorem index_15 (t : Fin cfg0.N) : win0_15.index t = ![t.val, 0] := by revert t; decide +kernel
theorem index_16 (t : Fin cfg0.N) : win0_16.index t = ![t.val / 32, 0, t.val % 32] := by revert t; decide +kernel

variable (m : (ℓ : Loc nD τ sig) → Buf (Elt Ideal) ℓ)

/-- The program's arguments on a core. -/
def argsOf (c : Dev nD) : Args where
  om := m ((c.tc : Thread nD τ).loc main_arg0)
  hy := m ((c.tc : Thread nD τ).loc main_arg1)
  yf := m ((c.tc : Thread nD τ).loc main_arg2)
  yb := m ((c.tc : Thread nD τ).loc main_arg3)
  xbc := m ((c.tc : Thread nD τ).loc main_arg4)
  z := m ((c.tc : Thread nD τ).loc main_arg5)
  x := m ((c.tc : Thread nD τ).loc main_arg6)
  gm := m ((c.tc : Thread nD τ).loc main_arg7)
  gh := m ((c.tc : Thread nD τ).loc main_arg8)
  dsk := m ((c.tc : Thread nD τ).loc main_arg9)
  gs := m ((c.tc : Thread nD τ).loc main_arg10)
  w := m ((c.tc : Thread nD τ).loc main_arg11)
  gf := m ((c.tc : Thread nD τ).loc main_arg12)
  rt := m ((c.tc : Thread nD τ).loc main_arg13)

/-- The token a grid point's row `r` is. -/
def tok (t : Fin cfg0.N) (r : Fin 256) : Fin 16384 := ⟨256 * t.val + r.val, by have := lt_N t; omega⟩

/-! What the operations before the call leave for it. -/

theorem host_d (c : Dev nD) (k : Fin 256) :
    (V m c main_v2 : S1x256.Idx → EReal) (ix2 0 k) = (argsOf m c).dsk (ix1 ⟨k.val / 64, by omega⟩) := by
  have h : (V m c main_v2 : S1x256.Idx → EReal)
      = shapeCast S1x256 (shapeCast S256 (broadcastInDim S4x64 ![0] bcast_S4_S4x64_0 ((argsOf m c).dsk : FVec Ideal S4 .f32)) shapeCasts_S4x64_S256) shapeCasts_S256_S1x256 := by
    unfold V hostOps0
    after_results_simp
    rfl
  rw [h]
  pointwise

theorem host_m (c : Dev nD) (k : Fin 512) : (V m c main_v3 : S1x512.Idx → EReal) (ix2 0 k) = (argsOf m c).gm (ix1 k) := by
  have h : (V m c main_v3 : S1x512.Idx → EReal) = shapeCast S1x512 ((argsOf m c).gm : FVec Ideal S512 .f32) shapeCasts_S512_S1x512 := by
    unfold V hostOps0
    after_results_simp
    rfl
  rw [h]
  pointwise

theorem host_h (c : Dev nD) (k : Fin 256) : (V m c main_v4 : S1x256.Idx → EReal) (ix2 0 k) = (argsOf m c).gh (ix1 k) := by
  have h : (V m c main_v4 : S1x256.Idx → EReal) = shapeCast S1x256 ((argsOf m c).gh : FVec Ideal S256 .f32) shapeCasts_S256_S1x256 := by
    unfold V hostOps0
    after_results_simp
    rfl
  rw [h]
  pointwise

theorem host_s (c : Dev nD) (k : Fin 256) : (V m c main_v5 : S1x256.Idx → EReal) (ix2 0 k) = (argsOf m c).gs (ix1 k) := by
  have h : (V m c main_v5 : S1x256.Idx → EReal) = shapeCast S1x256 ((argsOf m c).gs : FVec Ideal S256 .f32) shapeCasts_S256_S1x256 := by
    unfold V hostOps0
    after_results_simp
    rfl
  rw [h]
  pointwise

theorem host_f (c : Dev nD) (k : Fin 1024) : (V m c main_v7 : S1x1024.Idx → EReal) (ix2 0 k) = (argsOf m c).gf (ix1 k) := by
  have h : (V m c main_v7 : S1x1024.Idx → EReal) = shapeCast S1x1024 ((argsOf m c).gf : FVec Ideal S1024 .f32) shapeCasts_S1024_S1x1024 := by
    unfold V hostOps0
    after_results_simp
    rfl
  rw [h]
  pointwise

theorem host_w (c : Dev nD) : (V m c main_v6 : S1024x1024.Idx → EReal) = (argsOf m c).w := by
  unfold V hostOps0
  after_results_simp
  rfl

theorem host_r (c : Dev nD) (e : Fin 16) (k : Fin 1024) : (V m c main_v8 : S16x1024.Idx → EReal) (ix2 e k) = (argsOf m c).rt (ix2 k e) := by
  have h : (V m c main_v8 : S16x1024.Idx → EReal) = transpose S16x1024 [1, 0] ((argsOf m c).rt : FVec Ideal S1024x16 .f32) transposes_S1024x16_S16x1024_1_0 := by
    unfold V hostOps0
    after_results_simp
    rfl
  rw [h]
  pointwise

/-! A grid point's blocks. -/

theorem blk_0 (c : Dev nD) (t : Fin cfg0.N) (r : Fin 256) (k : Fin 512) :
    (iblk m c 0 t : Vec Ideal S256x512 .f32) (ix2 r k) = (argsOf m c).om (ix2 (tok t r) k) := by
  show _ = m ((c.tc : Thread nD τ).loc main_arg0) (ix2 (tok t r) k)
  unfold tok
  rw [← V_main_arg0 m c]
  blk_ext [iblk, index_0 t]

theorem blk_1 (c : Dev nD) (t : Fin cfg0.N) (r : Fin 256) (k : Fin 256) :
    (iblk m c 1 t : Vec Ideal S256x256 .f32) (ix2 r k) = (argsOf m c).hy (ix2 (tok t r) k) := by
  show _ = m ((c.tc : Thread nD τ).loc main_arg1) (ix2 (tok t r) k)
  unfold tok
  rw [← V_main_arg1 m c]
  blk_ext [iblk, index_1 t]

theorem blk_2 (c : Dev nD) (t : Fin cfg0.N) (r : Fin 256) (k : Fin 256) :
    (iblk m c 2 t : Vec Ideal S256x256 .f32) (ix2 r k) = (argsOf m c).yf (ix2 (tok t r) k) := by
  show _ = m ((c.tc : Thread nD τ).loc main_arg2) (ix2 (tok t r) k)
  unfold tok
  rw [← V_main_arg2 m c]
  blk_ext [iblk, index_2 t]

theorem blk_3 (c : Dev nD) (t : Fin cfg0.N) (r : Fin 256) (k : Fin 256) :
    (iblk m c 3 t : Vec Ideal S256x256 .f32) (ix2 r k) = (argsOf m c).yb (ix2 (tok t r) k) := by
  show _ = m ((c.tc : Thread nD τ).loc main_arg3) (ix2 (tok t r) k)
  unfold tok
  rw [← V_main_arg3 m c]
  blk_ext [iblk, index_3 t]

theorem blk_5 (c : Dev nD) (t : Fin cfg0.N) (r : Fin 256) (k : Fin 256) :
    (iblk m c 5 t : Vec Ideal S256x256 .f32) (ix2 r k) = (argsOf m c).z (ix2 (tok t r) k) := by
  show _ = m ((c.tc : Thread nD τ).loc main_arg5) (ix2 (tok t r) k)
  unfold tok
  rw [← V_main_arg5 m c]
  blk_ext [iblk, index_5 t]

theorem blk_6 (c : Dev nD) (t : Fin cfg0.N) (r : Fin 256) (k : Fin 1024) :
    (iblk m c 6 t : Vec Ideal S256x1024 .f32) (ix2 r k) = (argsOf m c).x (ix2 (tok t r) k) := by
  show _ = m ((c.tc : Thread nD τ).loc main_arg6) (ix2 (tok t r) k)
  unfold tok
  rw [← V_main_arg6 m c]
  blk_ext [iblk, index_6 t]

theorem blk_4 (c : Dev nD) (t : Fin cfg0.N) (r : Fin 256) (k : Fin 256) :
    (iblk m c 4 t : Vec Ideal S256x256 .f32) (ix2 r k) = (argsOf m c).xbc (ix2 (tok t r) ⟨k.val, by omega⟩) := by
  show _ = m ((c.tc : Thread nD τ).loc main_arg4) (ix2 (tok t r) ⟨k.val, by omega⟩)
  unfold tok
  rw [← V_main_arg4 m c]
  blk_ext [iblk, index_4 t]

theorem blk_7 (c : Dev nD) (t : Fin cfg0.N) (k : Fin 512) :
    (iblk m c 7 t : Vec Ideal S1x512 .f32) (ix2 0 k) = (argsOf m c).gm (ix1 k) := by
  rw [← host_m]
  blk_ext [iblk, index_7 t]

theorem blk_8 (c : Dev nD) (t : Fin cfg0.N) (k : Fin 256) :
    (iblk m c 8 t : Vec Ideal S1x256 .f32) (ix2 0 k) = (argsOf m c).gh (ix1 k) := by
  rw [← host_h]
  blk_ext [iblk, index_8 t]

theorem blk_9 (c : Dev nD) (t : Fin cfg0.N) (k : Fin 256) :
    (iblk m c 9 t : Vec Ideal S1x256 .f32) (ix2 0 k) = (argsOf m c).dsk (ix1 ⟨k.val / 64, by omega⟩) := by
  rw [← host_d]
  blk_ext [iblk, index_9 t]

theorem blk_10 (c : Dev nD) (t : Fin cfg0.N) (k : Fin 256) :
    (iblk m c 10 t : Vec Ideal S1x256 .f32) (ix2 0 k) = (argsOf m c).gs (ix1 k) := by
  rw [← host_s]
  blk_ext [iblk, index_10 t]

theorem blk_12 (c : Dev nD) (t : Fin cfg0.N) (k : Fin 1024) :
    (iblk m c 12 t : Vec Ideal S1x1024 .f32) (ix2 0 k) = (argsOf m c).gf (ix1 k) := by
  rw [← host_f]
  blk_ext [iblk, index_12 t]

theorem blk_11 (c : Dev nD) (t : Fin cfg0.N) (k d : Fin 1024) :
    (iblk m c 11 t : Vec Ideal S1024x1024 .bf16) (ix2 k d) = (argsOf m c).w (ix2 k d) := by
  rw [← host_w]
  blk_ext [iblk, index_11 t]

theorem blk_13 (c : Dev nD) (t : Fin cfg0.N) (e : Fin 16) (k : Fin 1024) :
    (iblk m c 13 t : Vec Ideal S16x1024 .f32) (ix2 e k) = (argsOf m c).rt (ix2 k e) := by
  rw [← host_r]
  blk_ext [iblk, index_13 t]

end Cert.Out

end
-- ==== Proof.OutArray.lean ====
/-
  The arrays the output projection leaves: each grid point writes 256 rows of the three.
-/
module

public import proofs.«01_k».proof.Proof.OutBlock

@[expose] public section

set_option maxRecDepth 16384

noncomputable section

namespace Cert.Out

open Cert.OutputIdeal Cert.OutputIdeal.Gen Cert.OutputIdeal.Value Idealize.ShloMosaic Idealize.ShloMosaic.TcCoe Idealize.SL.Sem
open Idealize.ShloMosaic.Pipeline Cert.Rms

theorem ld_0 (v : Vec Ideal S256x512 .f32) : View.ld v r0_0 = v := View.ld_unit_zero hz2 _ v
theorem ld_1 (v : Vec Ideal S1x512 .f32) : View.ld v r0_1 = v := View.ld_unit_zero hz2 _ v
theorem ld_2 (v : Vec Ideal S256x256 .f32) : View.ld v r0_2 = v := View.ld_unit_zero hz2 _ v
theorem ld_3 (v : Vec Ideal S1x256 .f32) : View.ld v r0_3 = v := View.ld_unit_zero hz2 _ v
theorem ld_4 (v : Vec Ideal S256x1024 .f32) : View.ld v r0_4 = v := View.ld_unit_zero hz2 _ v
theorem ld_5 (v : Vec Ideal S1024x1024 .bf16) : View.ld v r0_5 = v := View.ld_unit_zero hz2 _ v
theorem ld_6 (v : Vec Ideal S1x1024 .f32) : View.ld v r0_6 = v := View.ld_unit_zero hz2 _ v
theorem ld_7 (v : Vec Ideal S16x1024 .f32) : View.ld v r0_7 = v := View.ld_unit_zero hz2 _ v

section
variable (om : Vec Ideal S256x512 .f32) (hy yf yb xs z : Vec Ideal S256x256 .f32) (x : Vec Ideal S256x1024 .f32)
  (gm : Vec Ideal S1x512 .f32) (gh d gs : Vec Ideal S1x256 .f32) (w : Vec Ideal S1024x1024 .bf16) (gf : Vec Ideal S1x1024 .f32)
  (rt : Vec Ideal S16x1024 .f32)

theorem pay8_eq : k0_pay8 om hy yf yb xs z x gm gh d gs w gf rt
      = k0_pay7 (k0_pay4 om gm) (k0_pay5 hy gh) z (k0_pay6 yf yb) xs d gs x w := by
  unfold k0_pay8
  rw [ld_0, ld_1, ld_4, ld_5]
  simp only [ld_2, ld_3]

theorem out14_eq : out0_14 om hy yf yb xs z x gm gh d gs w gf rt = k0_pay8 om hy yf yb xs z x gm gh d gs w gf rt := by
  unfold out0_14
  exact View.canon_unit_zero hz2 _ _

theorem out15_eq : out0_15 om hy yf yb xs z x gm gh d gs w gf rt = k0_pay2 (k0_pay8 om hy yf yb xs z x gm gh d gs w gf rt) gf := by
  unfold out0_15
  rw [ld_6]
  exact View.canon_unit_zero hz2 _ _

theorem out16_eq : out0_16 om hy yf yb xs z x gm gh d gs w gf rt = k0_pay3 (k0_pay8 om hy yf yb xs z x gm gh d gs w gf rt) gf rt := by
  unfold out0_16
  rw [ld_6, ld_7]
  exact View.canon_unit_zero hz3 _ _
end

variable (m : (ℓ : Loc nD τ sig) → Buf (Elt Ideal) ℓ)

/-- The rows a grid point computes first. -/
def rows (c : Dev nD) (t : Fin cfg0.N) : FVec Ideal S256x1024 .f32 :=
  k0_pay8 (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t)

theorem rows_apply (c : Dev nD) (t : Fin cfg0.N) (r : Fin 256) (d : Fin 1024) :
    rows m c t (ix2 r d) = residAt (argsOf m c) (tok t r) d := by
  unfold rows
  rw [pay8_eq, pay7_apply]
  simp only [pay4_apply, pay5_apply, pay6_apply, blk_0, blk_1, blk_2, blk_3, blk_4, blk_5, blk_6, blk_7, blk_8, blk_9, blk_10, blk_11]
  rfl

theorem normed_apply (c : Dev nD) (t : Fin cfg0.N) (r : Fin 256) (d : Fin 1024) :
    k0_pay2 (rows m c t) (iblk m c 12 t) (ix2 r d) = normAt (argsOf m c) (tok t r) d := by
  rw [pay2_apply]
  simp only [rows_apply, blk_12]
  rfl

theorem aff_apply (c : Dev nD) (t : Fin cfg0.N) (e : Fin 16) (r : Fin 256) :
    k0_pay3 (rows m c t) (iblk m c 12 t) (iblk m c 13 t) (ix3 0 e r) = affAt (argsOf m c) e (tok t r) := by
  rw [pay3_apply]
  simp only [rows_apply, blk_12, blk_13]
  rfl

theorem residArr_of (a : Args) (i : S16384x1024.Idx) (t : Fin 16384) (d : Fin 1024) (ht : (i 0).val = t.val) (hd : (i 1).val = d.val) :
    residArr a i = residAt a t d := by
  obtain rfl : (i 0 : Fin 16384) = t := Fin.ext ht
  obtain rfl : (i 1 : Fin 1024) = d := Fin.ext hd
  rfl

theorem normArr_of (a : Args) (i : S16384x1024.Idx) (t : Fin 16384) (d : Fin 1024) (ht : (i 0).val = t.val) (hd : (i 1).val = d.val) :
    normArr a i = normAt a t d := by
  obtain rfl : (i 0 : Fin 16384) = t := Fin.ext ht
  obtain rfl : (i 1 : Fin 1024) = d := Fin.ext hd
  rfl

theorem affArr_of (a : Args) (i : S2x16x8192.Idx) (e : Fin 16) (t : Fin 16384) (he : (i 1).val = e.val)
    (ht : 8192 * (i 0).val + (i 2).val = t.val) : affArr a i = affAt a e t := by
  obtain rfl : (i 1 : Fin 16) = e := Fin.ext he
  unfold affArr
  congr 1
  exact Fin.ext ht

theorem idx2 {n k : ℕ} (y : (⟨2, ![n, k]⟩ : Shape).Idx) : y = ix2 (y 0 : Fin n) (y 1 : Fin k) := by
  funext a
  match a with
  | ⟨0, _⟩ => rfl
  | ⟨1, _⟩ => rfl

theorem idx3 (y : S1x16x256.Idx) : y = ix3 0 (y 1 : Fin 16) (y 2 : Fin 256) := by
  funext a
  match a with
  | ⟨0, _⟩ => exact Subsingleton.elim (α := Fin 1) _ _
  | ⟨1, _⟩ => rfl
  | ⟨2, _⟩ => rfl

theorem array14_eq (c : Dev nD) : (dats m 0 c).arrAt 14 cfg0.N = residArr (argsOf m c) := by
  refine (dats m 0 c).arrAt_eq_of_covers 14 _ (by decide +kernel) fun t hf y => ?_
  have h := congrFun (flushed14 m c t) y
  rw [out14_eq] at h
  blk_simp at h ⊢
  refine h.trans (((congrArg (rows m c t) (idx2 y)).trans (rows_apply m c t _ _)).trans ?_)
  refine (residArr_of _ _ _ _ ?_ ?_).symm
  · blk_simp [index_14 t]
    simp [tok, Nat.mul_comm]
  · blk_simp [index_14 t]

theorem array15_eq (c : Dev nD) : (dats m 0 c).arrAt 15 cfg0.N = normArr (argsOf m c) := by
  refine (dats m 0 c).arrAt_eq_of_covers 15 _ (by decide +kernel) fun t hf y => ?_
  have h := congrFun (flushed15 m c t) y
  rw [out15_eq] at h
  blk_simp at h ⊢
  refine h.trans (((congrArg (k0_pay2 (rows m c t) (iblk m c 12 t)) (idx2 y)).trans (normed_apply m c t _ _)).trans ?_)
  refine (normArr_of _ _ _ _ ?_ ?_).symm
  · blk_simp [index_15 t]
    simp [tok, Nat.mul_comm]
  · blk_simp [index_15 t]

theorem array16_eq (c : Dev nD) : (dats m 0 c).arrAt 16 cfg0.N = affArr (argsOf m c) := by
  refine (dats m 0 c).arrAt_eq_of_covers 16 _ (by decide +kernel) fun t hf y => ?_
  have h := congrFun (flushed16 m c t) y
  rw [out16_eq] at h
  blk_simp at h ⊢
  refine h.trans (((congrArg (k0_pay3 (rows m c t) (iblk m c 12 t) (iblk m c 13 t)) (idx3 y)).trans (aff_apply m c t _ _)).trans ?_)
  refine (affArr_of _ _ _ _ ?_ ?_).symm
  · blk_simp [index_16 t]
  · blk_simp [index_16 t]
    simp only [tok]
    omega

end Cert.Out

end
-- ==== Proof.OutRef.lean ====
/-
  What the output projection's reference computes at an index of its results.
-/
module

public import proofs.«01_k».proof.Proof.OutArray
public import proofs.«01_k».proof.Proof.Gen.OutputRefIdeal.Run

@[expose] public section

set_option maxRecDepth 16384

noncomputable section

namespace Cert.Out.Ref

open Cert.OutputRefIdeal Cert.OutputRefIdeal.Gen Idealize.ShloMosaic Idealize.SL.Sem Cert.Rms

/-- Rows of 512, their sums of squares `s`, normalized times the gain `g`. -/
abbrev normed512 (x : FVec Ideal S16384x512 .f32) (s : FVec Ideal S16384 .f32) (g : FVec Ideal S512 .f32) : FVec Ideal S16384x512 .f32 :=
  mulf (mulf x (broadcastInDim S16384x512 ![0, 1] bcast_S16384x1_S16384x512_0_1 (Host.rsqrt (addf (Host.divf (broadcastInDim S16384x1 ![0] bcast_S16384_S16384x1_0 s) (broadcastInDim S16384x1 ![] bcast_S_S16384x1 (constant S_ .f32 0x44000000#32))) (broadcastInDim S16384x1 ![] bcast_S_S16384x1 (constant S_ .f32 0x358637BD#32)))))) (broadcastInDim S16384x512 ![0, 1] bcast_S1x512_S16384x512_0_1 (broadcastInDim S1x512 ![1] bcast_S512_S1x512_1 g))

abbrev sumSq512 (x : FVec Ideal S16384x512 .f32) : FVec Ideal S16384 .f32 :=
  Host.reduceAdd (mulf x x) (constant S_ .f32 0x00000000#32) reducesTo_S16384x512_S16384_d1 h_S_

theorem sumSq512_apply (x : FVec Ideal S16384x512 .f32) (t : Fin 16384) : sumSq512 x (ix1 t) = ∑ k : Fin 512, x (ix2 t k) * x (ix2 t k) :=
  sq_gen2 x _ _ t

theorem normed512_sum (x : FVec Ideal S16384x512 .f32) (s : FVec Ideal S16384 .f32) (g : FVec Ideal S512 .f32) (t : Fin 16384) (j : Fin 512) :
    normed512 x s g (ix2 t j)
      = x (ix2 t j) * Ideal.rsqrt (Ideal.div (s (ix1 t)) (Ideal.ofBits .f32 0x44000000#32) + Ideal.ofBits .f32 0x358637BD#32) * g (ix1 j) := by
  pointwise

theorem normed512_apply (x : FVec Ideal S16384x512 .f32) (g : FVec Ideal S512 .f32) (t : Fin 16384) (j : Fin 512) :
    normed512 x (sumSq512 x) g (ix2 t j) = rms 0x44000000#32 (fun k => x (ix2 t k)) (fun k => g (ix1 k)) j :=
  (normed512_sum x (sumSq512 x) g t j).trans (by rw [sumSq512_apply]; rfl)

/-- Rows of 256, their sums of squares `s`, normalized times the gain `g`. -/
abbrev normed256 (x : FVec Ideal S16384x256 .f32) (s : FVec Ideal S16384 .f32) (g : FVec Ideal S256 .f32) : FVec Ideal S16384x256 .f32 :=
  mulf (mulf x (broadcastInDim S16384x256 ![0, 1] bcast_S16384x1_S16384x256_0_1 (Host.rsqrt (addf (Host.divf (broadcastInDim S16384x1 ![0] bcast_S16384_S16384x1_0 s) (broadcastInDim S16384x1 ![] bcast_S_S16384x1 (constant S_ .f32 0x43800000#32))) (broadcastInDim S16384x1 ![] bcast_S_S16384x1 (constant S_ .f32 0x358637BD#32)))))) (broadcastInDim S16384x256 ![0, 1] bcast_S1x256_S16384x256_0_1 (broadcastInDim S1x256 ![1] bcast_S256_S1x256_1 g))

abbrev sumSq256 (x : FVec Ideal S16384x256 .f32) : FVec Ideal S16384 .f32 :=
  Host.reduceAdd (mulf x x) (constant S_ .f32 0x00000000#32) reducesTo_S16384x256_S16384_d1 h_S_

theorem sumSq256_apply (x : FVec Ideal S16384x256 .f32) (t : Fin 16384) : sumSq256 x (ix1 t) = ∑ k : Fin 256, x (ix2 t k) * x (ix2 t k) :=
  sq_gen2 x _ _ t

theorem normed256_sum (x : FVec Ideal S16384x256 .f32) (s : FVec Ideal S16384 .f32) (g : FVec Ideal S256 .f32) (t : Fin 16384) (j : Fin 256) :
    normed256 x s g (ix2 t j)
      = x (ix2 t j) * Ideal.rsqrt (Ideal.div (s (ix1 t)) (Ideal.ofBits .f32 0x43800000#32) + Ideal.ofBits .f32 0x358637BD#32) * g (ix1 j) := by
  pointwise

theorem normed256_apply (x : FVec Ideal S16384x256 .f32) (g : FVec Ideal S256 .f32) (t : Fin 16384) (j : Fin 256) :
    normed256 x (sumSq256 x) g (ix2 t j) = rms 0x43800000#32 (fun k => x (ix2 t k)) (fun k => g (ix1 k)) j :=
  (normed256_sum x (sumSq256 x) g t j).trans (by rw [sumSq256_apply]; rfl)

/-- Rows of 1024, their sums of squares `s`, normalized times the gain `g`. -/
abbrev normed1024 (x : FVec Ideal S16384x1024 .f32) (s : FVec Ideal S16384 .f32) (g : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 s) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

abbrev sumSq1024 (x : FVec Ideal S16384x1024 .f32) : FVec Ideal S16384 .f32 :=
  Host.reduceAdd (mulf x x) (constant S_ .f32 0x00000000#32) reducesTo_S16384x1024_S16384_d1 h_S_

theorem sumSq1024_apply (x : FVec Ideal S16384x1024 .f32) (t : Fin 16384) : sumSq1024 x (ix1 t) = ∑ k : Fin 1024, x (ix2 t k) * x (ix2 t k) :=
  sq_gen2 x _ _ t

theorem normed1024_sum (x : FVec Ideal S16384x1024 .f32) (s : FVec Ideal S16384 .f32) (g : FVec Ideal S1024 .f32) (t : Fin 16384) (j : Fin 1024) :
    normed1024 x s g (ix2 t j)
      = x (ix2 t j) * Ideal.rsqrt (Ideal.div (s (ix1 t)) (Ideal.ofBits .f32 0x44800000#32) + Ideal.ofBits .f32 0x358637BD#32) * g (ix1 j) := by
  pointwise

theorem normed1024_apply (x : FVec Ideal S16384x1024 .f32) (g : FVec Ideal S1024 .f32) (t : Fin 16384) (j : Fin 1024) :
    normed1024 x (sumSq1024 x) g (ix2 t j) = rms 0x44800000#32 (fun k => x (ix2 t k)) (fun k => g (ix1 k)) j :=
  (normed1024_sum x (sumSq1024 x) g t j).trans (by rw [sumSq1024_apply]; rfl)

/-- The ones the logistic function is written with. -/
abbrev ones : FVec Ideal S16384x256 .f32 := broadcastInDim S16384x256 ![] bcast_S_S16384x256 (constant S_ .f32 0x3F800000#32)

/-- The scan's outcome, gated. -/
abbrev gatedScan (yf yb : FVec Ideal S16384x256 .f32) (xbc : FVec Ideal S16384x768 .f32) (d : FVec Ideal S4 .f32) (z : FVec Ideal S16384x256 .f32) : FVec Ideal S16384x256 .f32 :=
  mulf (shapeCast _ (addf (shapeCast _ (addf yf yb) shapeCasts_S16384x256_S16384x4x64) (mulf (shapeCast _ (extractStridedSlice S16384x256 ![0, 0] xbc slices_S16384x768_S16384x256_0_0) shapeCasts_S16384x256_S16384x4x64) (broadcastInDim S16384x4x64 ![0, 1, 2] bcast_S1x4x1_S16384x4x64_0_1_2 (broadcastInDim S1x4x1 ![1, 2] bcast_S4x1_S1x4x1_1_2 (broadcastInDim S4x1 ![0] bcast_S4_S4x1_0 d))))) shapeCasts_S16384x4x64_S16384x256) (mulf z (Host.divf ones (addf ones (Host.exp (Host.negf z)))))

theorem gatedScan_apply (yf yb : FVec Ideal S16384x256 .f32) (xbc : FVec Ideal S16384x768 .f32) (d : FVec Ideal S4 .f32) (z : FVec Ideal S16384x256 .f32)
    (t : Fin 16384) (k : Fin 256) :
    gatedScan yf yb xbc d z (ix2 t k)
      = scanned (fun k => yf (ix2 t k) + yb (ix2 t k)) (fun k => xbc (ix2 t ⟨k.val, by omega⟩)) (fun k => d (ix1 ⟨k.val / 64, by omega⟩)) (fun k => z (ix2 t k)) k := by
  unfold scanned
  pointwise [Ideal.logistic, Ideal.ofBits_one_f32]

/-- Its two groups of 128. -/
abbrev pair (y : FVec Ideal S16384x256 .f32) : FVec Ideal S16384x2x128 .f32 := shapeCast _ y shapeCasts_S16384x256_S16384x2x128

abbrev sumSqPair (p : FVec Ideal S16384x2x128 .f32) : FVec Ideal S16384x2 .f32 :=
  Host.reduceAdd (mulf p p) (constant S_ .f32 0x00000000#32) reducesTo_S16384x2x128_S16384x2_d2 h_S_

abbrev normedPair (p : FVec Ideal S16384x2x128 .f32) (s : FVec Ideal S16384x2 .f32) (g : FVec Ideal S256 .f32) : FVec Ideal S16384x256 .f32 :=
  shapeCast _ (mulf (mulf p (broadcastInDim S16384x2x128 ![0, 1, 2] bcast_S16384x2x1_S16384x2x128_0_1_2 (Host.rsqrt (addf (Host.divf (broadcastInDim S16384x2x1 ![0, 1] bcast_S16384x2_S16384x2x1_0_1 s) (broadcastInDim S16384x2x1 ![] bcast_S_S16384x2x1 (constant S_ .f32 0x43000000#32))) (broadcastInDim S16384x2x1 ![] bcast_S_S16384x2x1 (constant S_ .f32 0x358637BD#32)))))) (broadcastInDim S16384x2x128 ![0, 1, 2] bcast_S1x2x128_S16384x2x128_0_1_2 (broadcastInDim S1x2x128 ![1, 2] bcast_S2x128_S1x2x128_1_2 (shapeCast _ g shapeCasts_S256_S2x128)))) shapeCasts_S16384x2x128_S16384x256

theorem pair_apply (y : FVec Ideal S16384x256 .f32) (t : Fin 16384) (b : Fin 2) (k : Fin 128) :
    pair y (ix3 t b k) = y (ix2 t ⟨128 * b.val + k.val, by omega⟩) := by
  pointwise
  simp only [Nat.mul_comm]

theorem sumSqPair_apply (p : FVec Ideal S16384x2x128 .f32) (t : Fin 16384) (b : Fin 2) :
    sumSqPair p (ix2 t b) = ∑ k : Fin 128, p (ix3 t b k) * p (ix3 t b k) :=
  sq_gen3 p _ _ t b

theorem normedPair_sum (y : FVec Ideal S16384x256 .f32) (s : FVec Ideal S16384x2 .f32) (g : FVec Ideal S256 .f32) (t : Fin 16384) (j : Fin 256) :
    normedPair (pair y) s g (ix2 t j)
      = y (ix2 t j) * Ideal.rsqrt (Ideal.div (s (ix2 t ⟨j.val / 128, by omega⟩)) (Ideal.ofBits .f32 0x43000000#32) + Ideal.ofBits .f32 0x358637BD#32) * g (ix1 j) := by
  pointwise

theorem normedPair_apply (y : FVec Ideal S16384x256 .f32) (g : FVec Ideal S256 .f32) (t : Fin 16384) (j : Fin 256) :
    normedPair (pair y) (sumSqPair (pair y)) g (ix2 t j) = grouped (fun k => y (ix2 t k)) (fun k => g (ix1 k)) j := by
  refine (normedPair_sum y (sumSqPair (pair y)) g t j).trans ?_
  rw [sumSqPair_apply]
  simp only [pair_apply]
  rfl

/-- Three arrays side by side. -/
abbrev side (a : FVec Ideal S16384x512 .f32) (b y : FVec Ideal S16384x256 .f32) : FVec Ideal S16384x1024 .f32 :=
  concatenate S16384x1024 1 [⟨S16384x512, a⟩, ⟨S16384x256, b⟩, ⟨S16384x256, y⟩] concatenates_S16384x512_S16384x256_S16384x256_S16384x1024_d1

theorem side_apply (a : FVec Ideal S16384x512 .f32) (b y : FVec Ideal S16384x256 .f32) (t : Fin 16384) (k : Fin 1024) :
    side a b y (ix2 t k) = beside (fun k => a (ix2 t k)) (fun k => b (ix2 t k)) (fun k => y (ix2 t k)) k := by
  unfold beside
  pointwise

/-- The residual plus the projected rows. -/
abbrev resid (x u : FVec Ideal S16384x1024 .f32) (w : FVec Ideal S1024x1024 .f32) : FVec Ideal S16384x1024 .f32 :=
  addf x (Host.dotGeneral dot_S16384x1024_S1024x1024_S16384x1024_1_0_0_1_n_n none u w)

theorem resid_apply (x u : FVec Ideal S16384x1024 .f32) (w : FVec Ideal S1024x1024 .f32) (t : Fin 16384) (d : Fin 1024) :
    resid x u w (ix2 t d) = x (ix2 t d) + ∑ k : Fin 1024, u (ix2 t k) * w (ix2 k d) := by
  pointwise

/-- The router's scores, batch by batch. -/
abbrev scores (h : FVec Ideal S16384x1024 .f32) (r : FVec Ideal S1024x16 .f32) : FVec Ideal S2x8192x16 .f32 :=
  shapeCast _ (Host.dotGeneral dot_S16384x1024_S1024x16_S16384x16_1_0_0_1_n_n none h r) shapeCasts_S16384x16_S2x8192x16

theorem scores_apply (h : FVec Ideal S16384x1024 .f32) (r : FVec Ideal S1024x16 .f32) (b : Fin 2) (t : Fin 8192) (e : Fin 16) :
    scores h r (ix3 b t e) = ∑ k : Fin 1024, h (ix2 ⟨8192 * b.val + t.val, by omega⟩ k) * r (ix2 k e) := by
  pointwise
  simp only [Nat.mul_comm]

abbrev rowMax (s : FVec Ideal S2x8192x16 .f32) : FVec Ideal S2x8192 .f32 :=
  Host.reduce FloatOps.maximumf s (constant S_ .f32 0xFF800000#32) reducesTo_S2x8192x16_S2x8192_d2 h_S_

abbrev along (x : FVec Ideal S2x8192 .f32) : FVec Ideal S2x8192x16 .f32 :=
  broadcastInDim S2x8192x16 ![0, 1, 2] bcast_S2x8192x1_S2x8192x16_0_1_2 (broadcastInDim S2x8192x1 ![0, 1] bcast_S2x8192_S2x8192x1_0_1 x)

abbrev expo (s : FVec Ideal S2x8192x16 .f32) (x : FVec Ideal S2x8192 .f32) : FVec Ideal S2x8192x16 .f32 :=
  Host.exp (subf s (along (maximumf (broadcastInDim S2x8192 ![] bcast_S_S2x8192 (constant S_ .f32 0xFF800000#32)) x)))

abbrev rowSum (s : FVec Ideal S2x8192x16 .f32) : FVec Ideal S2x8192 .f32 :=
  Host.reduceAdd s (constant S_ .f32 0x00000000#32) reducesTo_S2x8192x16_S2x8192_d2 h_S_

abbrev turned (w : FVec Ideal S2x8192x16 .f32) (x : FVec Ideal S2x8192 .f32) : FVec Ideal S2x16x8192 .f32 :=
  transpose S2x16x8192 [0, 2, 1] (Host.divf w (along x)) transposes_S2x8192x16_S2x16x8192_0_2_1

theorem rowMax_apply (s : FVec Ideal S2x8192x16 .f32) (b : Fin 2) (t : Fin 8192) :
    rowMax s (ix2 b t) = Finset.univ.fold max ⊥ fun i : Fin 16 => s (ix3 b t i) :=
  max_gen3 s _ _ b t

theorem rowSum_apply (s : FVec Ideal S2x8192x16 .f32) (b : Fin 2) (t : Fin 8192) :
    rowSum s (ix2 b t) = ∑ i : Fin 16, s (ix3 b t i) :=
  sum_gen3 s _ _ b t

theorem expo_sum (s : FVec Ideal S2x8192x16 .f32) (x : FVec Ideal S2x8192 .f32) (b : Fin 2) (t : Fin 8192) (e : Fin 16) :
    expo s x (ix3 b t e) = Ideal.exp (s (ix3 b t e) - x (ix2 b t)) := by
  pointwise [neg_inf]
  rw [max_eq_right bot_le]

theorem expo_apply (s : FVec Ideal S2x8192x16 .f32) (b : Fin 2) (t : Fin 8192) (e : Fin 16) :
    expo s (rowMax s) (ix3 b t e) = Ideal.exp (s (ix3 b t e) - Finset.univ.fold max ⊥ fun i : Fin 16 => s (ix3 b t i)) :=
  (expo_sum s (rowMax s) b t e).trans (by rw [rowMax_apply])

theorem turned_sum (w : FVec Ideal S2x8192x16 .f32) (x : FVec Ideal S2x8192 .f32) (b : Fin 2) (t : Fin 8192) (e : Fin 16) :
    turned w x (ix3 b e t) = Ideal.div (w (ix3 b t e)) (x (ix2 b t)) := by
  pointwise

theorem soft_apply (s : FVec Ideal S2x8192x16 .f32) (b : Fin 2) (t : Fin 8192) (e : Fin 16) :
    turned (expo s (rowMax s)) (rowSum (expo s (rowMax s))) (ix3 b e t) = soft (fun e => s (ix3 b t e)) e := by
  have h := expo_apply s b t
  generalize expo s (rowMax s) = w at h ⊢
  refine (turned_sum w (rowSum w) b t e).trans ?_
  rw [rowSum_apply]
  simp only [h]
  rfl

/-! The reference's three results. -/

abbrev residR (a : Args) : FVec Ideal S16384x1024 .f32 :=
  resid a.x (side (normed512 a.om (sumSq512 a.om) a.gm) (normed256 a.hy (sumSq256 a.hy) a.gh)
    (normedPair (pair (gatedScan a.yf a.yb a.xbc a.dsk a.z)) (sumSqPair (pair (gatedScan a.yf a.yb a.xbc a.dsk a.z))) a.gs)) a.w

abbrev normR (a : Args) : FVec Ideal S16384x1024 .f32 := normed1024 (residR a) (sumSq1024 (residR a)) a.gf

abbrev affR (a : Args) : FVec Ideal S2x16x8192 .f32 :=
  turned (expo (scores (normR a) a.rt) (rowMax (scores (normR a) a.rt))) (rowSum (expo (scores (normR a) a.rt) (rowMax (scores (normR a) a.rt))))

theorem residR_apply (a : Args) (t : Fin 16384) (d : Fin 1024) : residR a (ix2 t d) = residAt a t d := by
  have h1 := normed512_apply a.om a.gm t
  have h2 := normed256_apply a.hy a.gh t
  have h3 := gatedScan_apply a.yf a.yb a.xbc a.dsk a.z t
  unfold residR
  generalize normed512 a.om (sumSq512 a.om) a.gm = p at h1 ⊢
  generalize normed256 a.hy (sumSq256 a.hy) a.gh = q at h2 ⊢
  generalize gatedScan a.yf a.yb a.xbc a.dsk a.z = y at h3 ⊢
  have h4 := normedPair_apply y a.gs t
  generalize normedPair (pair y) (sumSqPair (pair y)) a.gs = n at h4 ⊢
  have h5 := side_apply p q n t
  generalize side p q n = u at h5 ⊢
  rw [resid_apply]
  simp only [h5, h1, h2, h4, h3]
  rfl

theorem normR_apply (a : Args) (t : Fin 16384) (d : Fin 1024) : normR a (ix2 t d) = normAt a t d := by
  have h := residR_apply a t
  unfold normR
  generalize residR a = x at h ⊢
  rw [normed1024_apply]
  simp only [h]
  rfl

theorem affR_apply (a : Args) (b : Fin 2) (e : Fin 16) (t : Fin 8192) : affR a (ix3 b e t) = affAt a e ⟨8192 * b.val + t.val, by omega⟩ := by
  have h := normR_apply a ⟨8192 * b.val + t.val, by omega⟩
  unfold affR
  generalize normR a = x at h ⊢
  have hs := scores_apply x a.rt b t
  generalize scores x a.rt = s at hs ⊢
  rw [soft_apply]
  simp only [hs, h]
  rfl

theorem resid_eq (a : Args) : residR a = residArr a := by
  funext i
  idx_vars i
  exact residR_apply a _ _

theorem norm_eq (a : Args) : (truncf .bf16 (normR a) bitsLt_bf16_f32 : FVec Ideal S16384x1024 .bf16) = normArr a := by
  funext i
  idx_vars i
  exact normR_apply a _ _

theorem aff_eq (a : Args) : affR a = affArr a := by
  funext i
  idx_vars i
  exact affR_apply a _ _ _

end Cert.Out.Ref

end
-- ==== Proof.OutClaim.lean ====
/-
  The output projection's claim: the kernel's run and the reference's leave the same three arrays.
-/
module

public import proofs.«01_k».proof.Proof.OutRef
public import proofs.«01_k».proof.Defs

@[expose] public section

set_option maxRecDepth 16384

noncomputable section

namespace Cert.Out.Ref

open Cert.OutputRefIdeal Cert.OutputRefIdeal.Gen Cert.OutputRefIdeal.Value Idealize.ShloMosaic Idealize.ShloMosaic.TcCoe Idealize.SL.Sem

variable (m : (ℓ : Loc nD τ sig) → Buf (Elt Ideal) ℓ)

/-- The reference's arguments on a core. -/
def argsOf (c : Dev nD) : Args where
  om := m ((c.tc : Thread nD τ).loc main_arg0)
  hy := m ((c.tc : Thread nD τ).loc main_arg1)
  yf := m ((c.tc : Thread nD τ).loc main_arg2)
  yb := m ((c.tc : Thread nD τ).loc main_arg3)
  xbc := m ((c.tc : Thread nD τ).loc main_arg4)
  z := m ((c.tc : Thread nD τ).loc main_arg5)
  x := m ((c.tc : Thread nD τ).loc main_arg6)
  gm := m ((c.tc : Thread nD τ).loc main_arg7)
  gh := m ((c.tc : Thread nD τ).loc main_arg8)
  dsk := m ((c.tc : Thread nD τ).loc main_arg9)
  gs := m ((c.tc : Thread nD τ).loc main_arg10)
  w := m ((c.tc : Thread nD τ).loc main_arg11)
  gf := m ((c.tc : Thread nD τ).loc main_arg12)
  rt := m ((c.tc : Thread nD τ).loc main_arg13)

theorem v56_eq (c : Dev nD) : res_main_v56 m c = residArr (argsOf m c) := by
  rw [← resid_eq]
  unfold res_main_v56 argsOf
  rfl

theorem v83_eq (c : Dev nD) : res_main_v83 m c = normArr (argsOf m c) := by
  rw [← norm_eq]
  unfold res_main_v83 argsOf
  rfl

theorem v84_eq (c : Dev nD) : res_main_v84 m c = affArr (argsOf m c) := by
  rw [← aff_eq]
  unfold res_main_v84 argsOf
  rfl

end Cert.Out.Ref

namespace Cert.Proof

open Idealize.ShloMosaic Idealize.ShloMosaic.TcCoe Idealize.SL.Sem

theorem output_eq : Cert.algebraic_OutputIdeal_OutputRefIdeal := by
  intro m g m' g' _ hargs
  refine ⟨fun c => Cert.Out.residArr (Cert.Out.argsOf m c), fun c => Cert.Out.normArr (Cert.Out.argsOf m c),
    fun c => Cert.Out.affArr (Cert.Out.argsOf m c), ?_, ?_⟩
  · exact (θ_run Cert.OutputIdeal.defs _ _).mono
      (fun r h c => ⟨(h c).1.trans (Cert.Out.array14_eq m c), (h c).2.1.trans (Cert.Out.array15_eq m c),
        (h c).2.2.1.trans (Cert.Out.array16_eq m c), (h c).2.2.2⟩)
      (Cert.OutputIdeal.Value.run_blocks m g)
  · have hc : ∀ c, Cert.Out.Ref.argsOf m' c = Cert.Out.argsOf m c := by
      intro c
      obtain ⟨h0, h1, h2, h3, h4, h5, h6, h7, h8, h9, h10, h11, h12, h13⟩ := hargs c
      unfold Cert.Out.Ref.argsOf Cert.Out.argsOf
      rw [h0, h1, h2, h3, h4, h5, h6, h7, h8, h9, h10, h11, h12, h13]
    refine (θ_run Cert.OutputRefIdeal.defs _ _).mono (fun r h c => ⟨(h c).1.trans ?_, (h c).2.1.trans ?_, (h c).2.2.1.trans ?_, (h c).2.2.2⟩)
      (Cert.OutputRefIdeal.Value.run m' g')
    · exact (Cert.Out.Ref.v56_eq m' c).trans (by rw [hc])
    · exact (Cert.Out.Ref.v83_eq m' c).trans (by rw [hc])
    · exact (Cert.Out.Ref.v84_eq m' c).trans (by rw [hc])

end Cert.Proof

end
-- ==== Proof.LastClaim.lean ====
/-
  The last norm: the call writes 512 rows at each grid point, each row as the reference's.
-/
module

public import proofs.«01_k».proof.Proof.Rms
public import proofs.«01_k».proof.Proof.Gen.LastIdeal.Value
public import proofs.«01_k».proof.Proof.Gen.LastRefIdeal.Run
public import proofs.«01_k».proof.Defs
public import Idealize.ShloMosaic.Lib.Pipeline.ValueKit
public import Idealize.ShloMosaic.Lib.Tactic

@[expose] public section

set_option maxRecDepth 16384

noncomputable section

namespace Cert.LastNorm

open Cert.LastIdeal Cert.LastIdeal.Gen Cert.LastIdeal.Value Idealize.ShloMosaic Idealize.ShloMosaic.TcCoe Idealize.SL.Sem
open Idealize.ShloMosaic.Pipeline Cert.Rms

theorem hz2 : (![0, 0] : Fin 2 → ℕ) = fun _ => 0 := funext fun a => by fin_cases a <;> rfl

/-- A token's row normalized, at column `d`. -/
def lastAt (x : S16384x1024.Idx → EReal) (g : S1024.Idx → EReal) (t : Fin 16384) (d : Fin 1024) : EReal :=
  rms 0x44800000#32 (fun k => x (ix2 t k)) (fun k => g (ix1 k)) d

def lastArr (x : S16384x1024.Idx → EReal) (g : S1024.Idx → EReal) (i : S16384x1024.Idx) : EReal := lastAt x g (i 0) (i 1)

theorem pay1_apply (x : FVec Ideal S512x1024 .f32) (g : Vec Ideal S1x1024 .f32) (r : Fin 512) (j : Fin 1024) :
    k0_pay1 x g (ix2 r j) = rms 0x44800000#32 (fun k => x (ix2 r k)) (fun k => g (ix2 0 k)) j := by
  unfold rms scale
  pointwise [k0_pay1]

theorem lt_N (t : Fin cfg0.N) : t.val < 32 := lt_of_lt_of_eq t.isLt N_0

theorem index_0 (t : Fin cfg0.N) : win0_0.index t = ![t.val, 0] := by revert t; decide +kernel
theorem index_1 (t : Fin cfg0.N) : win0_1.index t = ![0, 0] := by revert t; decide +kernel
theorem index_2 (t : Fin cfg0.N) : win0_2.index t = ![t.val, 0] := by revert t; decide +kernel

variable (m : (ℓ : Loc nD τ sig) → Buf (Elt Ideal) ℓ)

/-- The program's arguments on a core. -/
def rowsIn (c : Dev nD) : S16384x1024.Idx → EReal := m ((c.tc : Thread nD τ).loc main_arg0)
def gainIn (c : Dev nD) : S1024.Idx → EReal := m ((c.tc : Thread nD τ).loc main_arg1)

/-- The token a grid point's row `r` is. -/
def tok (t : Fin cfg0.N) (r : Fin 512) : Fin 16384 := ⟨512 * t.val + r.val, by have := lt_N t; omega⟩

theorem host_g (c : Dev nD) (k : Fin 1024) : (V m c main_v0 : S1x1024.Idx → EReal) (ix2 0 k) = gainIn m c (ix1 k) := by
  have h : (V m c main_v0 : S1x1024.Idx → EReal) = shapeCast S1x1024 (gainIn m c : FVec Ideal S1024 .f32) shapeCasts_S1024_S1x1024 := by
    unfold V hostOps0
    after_results_simp
    rfl
  rw [h]
  pointwise

theorem blk_0 (c : Dev nD) (t : Fin cfg0.N) (r : Fin 512) (k : Fin 1024) :
    (iblk m c 0 t : Vec Ideal S512x1024 .f32) (ix2 r k) = rowsIn m c (ix2 (tok t r) k) := by
  show _ = m ((c.tc : Thread nD τ).loc main_arg0) (ix2 (tok t r) k)
  unfold tok
  rw [← V_main_arg0 m c]
  blk_ext [iblk, index_0 t]

theorem blk_1 (c : Dev nD) (t : Fin cfg0.N) (k : Fin 1024) :
    (iblk m c 1 t : Vec Ideal S1x1024 .f32) (ix2 0 k) = gainIn m c (ix1 k) := by
  rw [← host_g]
  blk_ext [iblk, index_1 t]

theorem ld_0 (v : Vec Ideal S512x1024 .f32) : View.ld v r0_0 = v := View.ld_unit_zero hz2 _ v
theorem ld_1 (v : Vec Ideal S1x1024 .f32) : View.ld v r0_1 = v := View.ld_unit_zero hz2 _ v

theorem out2_eq (x : Vec Ideal S512x1024 .f32) (g : Vec Ideal S1x1024 .f32) : out0_2 x g = k0_pay1 x g := by
  unfold out0_2
  rw [ld_0, ld_1]
  exact View.canon_unit_zero hz2 _ _

theorem rows_apply (c : Dev nD) (t : Fin cfg0.N) (r : Fin 512) (d : Fin 1024) :
    k0_pay1 (iblk m c 0 t) (iblk m c 1 t) (ix2 r d) = lastAt (rowsIn m c) (gainIn m c) (tok t r) d := by
  rw [pay1_apply]
  simp only [blk_0, blk_1]
  rfl

theorem lastArr_of (x : S16384x1024.Idx → EReal) (g : S1024.Idx → EReal) (i : S16384x1024.Idx) (t : Fin 16384) (d : Fin 1024)
    (ht : (i 0).val = t.val) (hd : (i 1).val = d.val) : lastArr x g i = lastAt x g t d := by
  obtain rfl : (i 0 : Fin 16384) = t := Fin.ext ht
  obtain rfl : (i 1 : Fin 1024) = d := Fin.ext hd
  rfl

theorem idx2 {n k : ℕ} (y : (⟨2, ![n, k]⟩ : Shape).Idx) : y = ix2 (y 0 : Fin n) (y 1 : Fin k) := by
  funext a
  match a with
  | ⟨0, _⟩ => rfl
  | ⟨1, _⟩ => rfl

theorem array2_eq (c : Dev nD) : (dats m 0 c).arrAt 2 cfg0.N = lastArr (rowsIn m c) (gainIn m c) := by
  refine (dats m 0 c).arrAt_eq_of_covers 2 _ (by decide +kernel) fun t hf y => ?_
  have h := congrFun (flushed2 m c t) y
  rw [out2_eq] at h
  blk_simp at h ⊢
  refine h.trans (((congrArg (k0_pay1 (iblk m c 0 t) (iblk m c 1 t)) (idx2 y)).trans (rows_apply m c t _ _)).trans ?_)
  refine (lastArr_of _ _ _ _ _ ?_ ?_).symm
  · blk_simp [index_2 t]
    simp [tok, Nat.mul_comm]
  · blk_simp [index_2 t]

end Cert.LastNorm

namespace Cert.LastNorm.Ref

open Cert.LastRefIdeal Cert.LastRefIdeal.Gen Idealize.ShloMosaic Idealize.ShloMosaic.TcCoe Idealize.SL.Sem Cert.Rms

/-- Rows of 1024, their sums of squares `s`, normalized times the gain `g`. -/
abbrev normed (x : FVec Ideal S16384x1024 .f32) (s : FVec Ideal S16384 .f32) (g : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 s) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

abbrev sumSq (x : FVec Ideal S16384x1024 .f32) : FVec Ideal S16384 .f32 :=
  Host.reduceAdd (mulf x x) (constant S_ .f32 0x00000000#32) reducesTo_S16384x1024_S16384_d1 h_S_

theorem sumSq_apply (x : FVec Ideal S16384x1024 .f32) (t : Fin 16384) : sumSq x (ix1 t) = ∑ k : Fin 1024, x (ix2 t k) * x (ix2 t k) :=
  sq_gen2 x _ _ t

theorem normed_sum (x : FVec Ideal S16384x1024 .f32) (s : FVec Ideal S16384 .f32) (g : FVec Ideal S1024 .f32) (t : Fin 16384) (j : Fin 1024) :
    normed x s g (ix2 t j)
      = x (ix2 t j) * Ideal.rsqrt (Ideal.div (s (ix1 t)) (Ideal.ofBits .f32 0x44800000#32) + Ideal.ofBits .f32 0x358637BD#32) * g (ix1 j) := by
  pointwise

theorem normed_eq (x : FVec Ideal S16384x1024 .f32) (g : FVec Ideal S1024 .f32) : normed x (sumSq x) g = lastArr x g := by
  funext i
  idx_vars i
  refine (normed_sum x (sumSq x) g _ _).trans ?_
  rw [sumSq_apply]
  rfl

end Cert.LastNorm.Ref

namespace Cert.Proof

open Idealize.ShloMosaic Idealize.ShloMosaic.TcCoe Idealize.SL.Sem

theorem last_eq : Cert.algebraic_LastIdeal_LastRefIdeal := by
  intro m g m' g' _ hargs
  refine ⟨fun c => Cert.LastNorm.lastArr (Cert.LastNorm.rowsIn m c) (Cert.LastNorm.gainIn m c), ?_, ?_⟩
  · exact (θ_run Cert.LastIdeal.defs _ _).mono (fun r h c => ⟨(h c).1.trans (Cert.LastNorm.array2_eq m c), (h c).2⟩)
      (Cert.LastIdeal.Value.run_blocks m g)
  · refine (θ_run Cert.LastRefIdeal.defs _ _).mono (fun r h c => ⟨(h c).1.trans ?_, (h c).2⟩)
      (Cert.LastRefIdeal.Value.run m' g')
    obtain ⟨h0, h1⟩ := hargs c
    rw [h0, h1]
    exact Cert.LastNorm.Ref.normed_eq _ _

end Cert.Proof

end
-- ==== Proof.lean ====
module

public import proofs.«01_k».proof.Defs
public import proofs.«01_k».proof.Proof.Gen.Attention
public import proofs.«01_k».proof.Proof.Gen.Attention.Skeleton
public import proofs.«01_k».proof.Proof.Gen.Attention.Loops
public import proofs.«01_k».proof.Proof.Gen.Attention.Launch
public import proofs.«01_k».proof.Proof.Gen.Attention.Points
public import proofs.«01_k».proof.Proof.Gen.Attention.Frame
public import proofs.«01_k».proof.Proof.Gen.AttentionIdeal
public import proofs.«01_k».proof.Proof.Gen.AttentionIdeal.Skeleton
public import proofs.«01_k».proof.Proof.Gen.AttentionIdeal.Loops
public import proofs.«01_k».proof.Proof.Gen.AttentionIdeal.Launch
public import proofs.«01_k».proof.Proof.Gen.AttentionIdeal.Points
public import proofs.«01_k».proof.Proof.Gen.AttentionIdeal.Frame
public import proofs.«01_k».proof.Proof.Gen.AttentionRefIdeal
public import proofs.«01_k».proof.Proof.Gen.Experts
public import proofs.«01_k».proof.Proof.Gen.Experts.Skeleton
public import proofs.«01_k».proof.Proof.Gen.Experts.Launch
public import proofs.«01_k».proof.Proof.Gen.Experts.Points
public import proofs.«01_k».proof.Proof.Gen.Experts.Frame
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Points
public import proofs.«01_k».proof.Proof.Gen.ExpertsIdeal.Frame
public import proofs.«01_k».proof.Proof.Gen.ExpertsRefIdeal
public import proofs.«01_k».proof.Proof.Gen.Pre_finite_qk
public import proofs.«01_k».proof.Proof.Gen.AttentionIdeal.Value
public import proofs.«01_k».proof.Proof.Gen.ExpertsIdeal.Value
public import proofs.«01_k».proof.Proof.Gen.AttentionRefIdeal.Run
public import proofs.«01_k».proof.Proof.Gen.ExpertsRefIdeal.Run
public import proofs.«01_k».proof.Proof.Gen.Projections
public import proofs.«01_k».proof.Proof.Gen.Projections.Skeleton
public import proofs.«01_k».proof.Proof.Gen.Projections.Launch
public import proofs.«01_k».proof.Proof.Gen.Projections.Points
public import proofs.«01_k».proof.Proof.Gen.Projections.Frame
public import proofs.«01_k».proof.Proof.Gen.ProjectionsIdeal
public import proofs.«01_k».proof.Proof.Gen.ProjectionsIdeal.Skeleton
public import proofs.«01_k».proof.Proof.Gen.ProjectionsIdeal.Launch
public import proofs.«01_k».proof.Proof.Gen.ProjectionsIdeal.Points
public import proofs.«01_k».proof.Proof.Gen.ProjectionsIdeal.Frame
public import proofs.«01_k».proof.Proof.Gen.ProjectionsIdeal.Value
public import proofs.«01_k».proof.Proof.Gen.ProjectionsRefIdeal
public import proofs.«01_k».proof.Proof.Gen.ProjectionsRefIdeal.Run
public import proofs.«01_k».proof.Proof.Gen.Output
public import proofs.«01_k».proof.Proof.Gen.Output.Skeleton
public import proofs.«01_k».proof.Proof.Gen.Output.Launch
public import proofs.«01_k».proof.Proof.Gen.Output.Points
public import proofs.«01_k».proof.Proof.Gen.Output.Frame
public import proofs.«01_k».proof.Proof.Gen.OutputIdeal
public import proofs.«01_k».proof.Proof.Gen.OutputIdeal.Skeleton
public import proofs.«01_k».proof.Proof.Gen.OutputIdeal.Launch
public import proofs.«01_k».proof.Proof.Gen.OutputIdeal.Points
public import proofs.«01_k».proof.Proof.Gen.OutputIdeal.Frame
public import proofs.«01_k».proof.Proof.Gen.OutputIdeal.Value
public import proofs.«01_k».proof.Proof.Gen.OutputRefIdeal
public import proofs.«01_k».proof.Proof.Gen.OutputRefIdeal.Run
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastIdeal.Value
public import proofs.«01_k».proof.Proof.Gen.LastRefIdeal
public import proofs.«01_k».proof.Proof.Gen.LastRefIdeal.Run
public import proofs.«01_k».proof.Proof.Gen.Pre_rotation_tables
public import proofs.«01_k».proof.Proof.AttnClaim
public import proofs.«01_k».proof.Proof.ExpClaim
public import proofs.«01_k».proof.Proof.ProjClaim
public import proofs.«01_k».proof.Proof.OutClaim
public import proofs.«01_k».proof.Proof.LastClaim
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.Attention.Gen.facts, Cert.AttentionIdeal.Gen.facts, Cert.AttentionRefIdeal.Gen.facts, Cert.Experts.Gen.facts, Cert.ExpertsIdeal.Gen.facts, Cert.ExpertsRefIdeal.Gen.facts, Cert.Projections.Gen.facts, Cert.ProjectionsIdeal.Gen.facts, Cert.ProjectionsRefIdeal.Gen.facts, Cert.Output.Gen.facts, Cert.OutputIdeal.Gen.facts, Cert.OutputRefIdeal.Gen.facts, Cert.Last.Gen.facts, Cert.LastIdeal.Gen.facts, Cert.LastRefIdeal.Gen.facts, Cert.Pre_finite_qk.Gen.facts, Cert.Pre_rotation_tables.Gen.facts, by
  exact ⟨fun m ρ _ => Cert.Attention.Gen.frame m ρ,
    fun m ρ _ => Cert.AttentionIdeal.Gen.frame m ρ,
    fun m ρ _ => Cert.AttentionIdeal.Gen.frame m ρ,
    fun m ρ _ => (θ_run Cert.AttentionRefIdeal.defs _ _).mono
      (fun r h => ⟨fun c => (h c).2, sem_eq_zero_of_no_sems (by decide) r.2⟩)
      (Cert.AttentionRefIdeal.Value.run m ρ),
    fun m ρ _ => (θ_run Cert.AttentionRefIdeal.defs _ _).mono
      (fun r h => ⟨fun c => (h c).2, sem_eq_zero_of_no_sems (by decide) r.2⟩)
      (Cert.AttentionRefIdeal.Value.run m ρ),
    fun m ρ _ => Cert.Experts.Gen.frame m ρ,
    fun m ρ _ => Cert.ExpertsIdeal.Gen.frame m ρ,
    fun m ρ _ => (θ_run Cert.ExpertsRefIdeal.defs _ _).mono
      (fun r h => ⟨fun c => (h c).2, sem_eq_zero_of_no_sems (by decide) r.2⟩)
      (Cert.ExpertsRefIdeal.Value.run m ρ),
    fun m ρ _ => Cert.Projections.Gen.frame m ρ,
    fun m ρ _ => Cert.ProjectionsIdeal.Gen.frame m ρ,
    fun m ρ _ => Cert.ProjectionsIdeal.Gen.frame m ρ,
    fun m ρ _ => (θ_run Cert.ProjectionsRefIdeal.defs _ _).mono
      (fun r h => ⟨fun c => (h c).2.2.2.2.2.2.2, sem_eq_zero_of_no_sems (by decide) r.2⟩)
      (Cert.ProjectionsRefIdeal.Value.run m ρ),
    fun m ρ _ => (θ_run Cert.ProjectionsRefIdeal.defs _ _).mono
      (fun r h => ⟨fun c => (h c).2.2.2.2.2.2.2, sem_eq_zero_of_no_sems (by decide) r.2⟩)
      (Cert.ProjectionsRefIdeal.Value.run m ρ),
    fun m ρ _ => Cert.Output.Gen.frame m ρ,
    fun m ρ _ => Cert.OutputIdeal.Gen.frame m ρ,
    fun m ρ _ => (θ_run Cert.OutputRefIdeal.defs _ _).mono
      (fun r h => ⟨fun c => (h c).2.2.2, sem_eq_zero_of_no_sems (by decide) r.2⟩)
      (Cert.OutputRefIdeal.Value.run m ρ),
    fun m ρ _ => Cert.Last.Gen.frame m ρ,
    fun m ρ _ => Cert.LastIdeal.Gen.frame m ρ,
    fun m ρ _ => (θ_run Cert.LastRefIdeal.defs _ _).mono
      (fun r h => ⟨fun c => (h c).2, sem_eq_zero_of_no_sems (by decide) r.2⟩)
      (Cert.LastRefIdeal.Value.run m ρ),
    trivial, attention_eq, trivial, experts_eq, trivial, projections_eq, trivial, output_eq, trivial, last_eq⟩⟩

end Cert.Proof

end
